-- ==== Defs.lean ====
def Pre_Kernel [hPre_tables_ok : Cert.Pre_tables_ok.Facts] (m : (ℓ : Loc Cert.Kernel.nD Cert.Kernel.τ Cert.Kernel.sig) → Buf (Elt Bits) ℓ) : Prop :=
  ∀ c : Dev Cert.Kernel.nD,
    (Cert.Pre_tables_ok.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_tables_ok : Cert.Pre_tables_ok.Facts] (m : (ℓ : Loc Cert.KernelIdeal.nD Cert.KernelIdeal.τ Cert.KernelIdeal.sig) → Buf (Elt Ideal) ℓ) : Prop :=
  ∀ c : Dev Cert.KernelIdeal.nD,
    (Cert.Pre_tables_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_tables_ok : Cert.Pre_tables_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tables_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] [hPre_tables_ok : Cert.Pre_tables_ok.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_tables_ok : Cert.Pre_tables_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] [hPre_tables_ok : Cert.Pre_tables_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tables_ok : Cert.Pre_tables_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v22_0)) (v1 : (c : Dev Cert.Kernel2Ideal.nD) → Buf (Elt Ideal) ((c.tc : Thread Cert.Kernel2Ideal.nD Cert.Kernel2Ideal.τ).loc Cert.Kernel2Ideal.main_v22_1)) (v2 : (c : Dev Cert.Kernel2Ideal.nD) → Buf (Elt Ideal) ((c.tc : Thread Cert.Kernel2Ideal.nD Cert.Kernel2Ideal.τ).loc Cert.Kernel2Ideal.main_v22_2)) (v3 : (c : Dev Cert.Kernel2Ideal.nD) → Buf (Elt Ideal) ((c.tc : Thread Cert.Kernel2Ideal.nD Cert.Kernel2Ideal.τ).loc Cert.Kernel2Ideal.main_v22_3)) (v4 : (c : Dev Cert.Kernel2Ideal.nD) → Buf (Elt Ideal) ((c.tc : Thread Cert.Kernel2Ideal.nD Cert.Kernel2Ideal.τ).loc Cert.Kernel2Ideal.main_v22_4)) (v5 : (c : Dev Cert.Kernel2Ideal.nD) → Buf (Elt Ideal) ((c.tc : Thread Cert.Kernel2Ideal.nD Cert.Kernel2Ideal.τ).loc Cert.Kernel2Ideal.main_v22_5)) (v6 : (c : Dev Cert.Kernel2Ideal.nD) → Buf (Elt Ideal) ((c.tc : Thread Cert.Kernel2Ideal.nD Cert.Kernel2Ideal.τ).loc Cert.Kernel2Ideal.main_v22_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22_0) = v0 c
          ∧ r.2.mem ((c.tc : Thread Cert.Kernel2Ideal.nD Cert.Kernel2Ideal.τ).loc Cert.Kernel2Ideal.main_v22_1) = v1 c
          ∧ r.2.mem ((c.tc : Thread Cert.Kernel2Ideal.nD Cert.Kernel2Ideal.τ).loc Cert.Kernel2Ideal.main_v22_2) = v2 c
          ∧ r.2.mem ((c.tc : Thread Cert.Kernel2Ideal.nD Cert.Kernel2Ideal.τ).loc Cert.Kernel2Ideal.main_v22_3) = v3 c
          ∧ r.2.mem ((c.tc : Thread Cert.Kernel2Ideal.nD Cert.Kernel2Ideal.τ).loc Cert.Kernel2Ideal.main_v22_4) = v4 c
          ∧ r.2.mem ((c.tc : Thread Cert.Kernel2Ideal.nD Cert.Kernel2Ideal.τ).loc Cert.Kernel2Ideal.main_v22_5) = v5 c
          ∧ r.2.mem ((c.tc : Thread Cert.Kernel2Ideal.nD Cert.Kernel2Ideal.τ).loc Cert.Kernel2Ideal.main_v22_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v195) = v0 c
          ∧ r.2.mem ((c.tc : Thread Cert.Reference2Ideal.nD Cert.Reference2Ideal.τ).loc Cert.Reference2Ideal.main_v197) = v1 c
          ∧ r.2.mem ((c.tc : Thread Cert.Reference2Ideal.nD Cert.Reference2Ideal.τ).loc Cert.Reference2Ideal.main_v199) = v2 c
          ∧ r.2.mem ((c.tc : Thread Cert.Reference2Ideal.nD Cert.Reference2Ideal.τ).loc Cert.Reference2Ideal.main_v202) = v3 c
          ∧ r.2.mem ((c.tc : Thread Cert.Reference2Ideal.nD Cert.Reference2Ideal.τ).loc Cert.Reference2Ideal.main_v204) = v4 c
          ∧ r.2.mem ((c.tc : Thread Cert.Reference2Ideal.nD Cert.Reference2Ideal.τ).loc Cert.Reference2Ideal.main_v207) = v5 c
          ∧ r.2.mem ((c.tc : Thread Cert.Reference2Ideal.nD Cert.Reference2Ideal.τ).loc Cert.Reference2Ideal.main_v208) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_tables_ok : Cert.Pre_tables_ok.Facts),
    quiescent_Kernel (hKernel := hKernel) (hPre_tables_ok := hPre_tables_ok)
    ∧ quiescent_KernelIdeal (hKernelIdeal := hKernelIdeal) (hPre_tables_ok := hPre_tables_ok)
    ∧ quiescent_ReferenceIdeal (hReferenceIdeal := hReferenceIdeal) (hPre_tables_ok := hPre_tables_ok)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal) (hPre_tables_ok := hPre_tables_ok)
    ∧ preserves_Kernel2_Kernel2Ideal
    ∧ algebraic_Kernel2Ideal_Reference2Ideal (hKernel2Ideal := hKernel2Ideal) (hReference2Ideal := hReference2Ideal)
-- ==== Pre_tables_ok.lean ====
abbrev S96 : Shape := ⟨1, ![96]⟩
abbrev S1 : Shape := ⟨1, ![1]⟩
abbrev S49152x1024 : Shape := ⟨2, ![49152, 1024]⟩
abbrev S32x2048x4096 : Shape := ⟨3, ![32, 2048, 4096]⟩
abbrev S32x2048x2048 : Shape := ⟨3, ![32, 2048, 2048]⟩
abbrev S32x1x4096 : Shape := ⟨3, ![32, 1, 4096]⟩
abbrev S32x1x2048 : Shape := ⟨3, ![32, 1, 2048]⟩
abbrev S_ : Shape := ⟨0, ![]⟩

class Facts : Prop where
  bcast_S_S96 : S_.BroadcastsInDim S96 (![] : Fin 0 → Fin S96.rank)
  reducesTo_S96_S_d0 : S96.ReducesTo [0] S_
  h_S_ : 0 < S_.numel
  bcast_S_S1 : S_.BroadcastsInDim S1 (![] : Fin 0 → Fin S1.rank)
  reducesTo_S1_S_d0 : S1.ReducesTo [0] S_
  shapeCasts_S1_S_ : S1.ShapeCasts S_

variable [Facts]

def fn_part1 {F : FTy → Type} [FloatOps F] (main_arg1 : IVec S96 32) (main_arg3 : IVec S1 32) (main_v0 : IVec S96 32) (main_v13 : IVec S_ 1) (main_v15 : IVec S1 1) (main_c_6 : IVec S_ 32) : IVec S_ 1 :=
  let main_v16 : IVec S1 32 := broadcastInDim S1 ![] bcast_S_S1 main_c_6
  let main_v17 : IVec S1 1 := cmpi .sle main_arg3 main_v16
  let main_v18 : IVec S1 1 := andi main_v15 main_v17
  let main_c_7 : IVec S_ 1 := constantI S_ 1 1#1
  let main_v19 : IVec S_ 1 := (fun x v => Host.reduce IntOp.andi x v reducesTo_S1_S_d0 h_S_) main_v18 main_c_7
  let main_v20 : IVec S_ 1 := andi main_v13 main_v19
  let main_v21 : IVec S_ 32 := shapeCast S_ main_arg3 shapeCasts_S1_S_
  let main_v22 : IVec S96 32 := broadcastInDim S96 ![] bcast_S_S96 main_v21
  let main_v23 : IVec S96 1 := cmpi .slt main_v0 main_v22
  let main_c_8 : IVec S_ 32 := constantI S_ 32 0#32
  let main_v24 : IVec S96 32 := broadcastInDim S96 ![] bcast_S_S96 main_c_8
  let main_v25 : IVec S96 1 := cmpi .eq main_arg1 main_v24
  let main_v26 : IVec S96 1 := ori main_v23 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v20 main_v27
  main_v28

def fn {F : FTy → Type} [FloatOps F] (main_arg0 : IVec S96 32) (main_arg1 : IVec S96 32) (main_arg2 : IVec S96 32) (main_arg3 : IVec S1 32) (main_arg4 : IVec S49152x1024 32) (main_arg5 : FVec F S32x2048x4096 .f32) (main_arg6 : FVec F S32x2048x2048 .f32) (main_arg7 : FVec F S32x1x4096 .f32) (main_arg8 : FVec F S32x1x2048 .f32) : IVec S_ 1 :=
  let main_v0 : IVec S96 32 := iotaInDim S96 32 0
  let main_c : IVec S_ 32 := constantI S_ 32 0#32
  let main_v1 : IVec S96 32 := broadcastInDim S96 ![] bcast_S_S96 main_c
  let main_v2 : IVec S96 1 := cmpi .sge main_arg0 main_v1
  let main_c_0 : IVec S_ 32 := constantI S_ 32 32#32
  let main_v3 : IVec S96 32 := broadcastInDim S96 ![] bcast_S_S96 main_c_0
  let main_v4 : IVec S96 1 := cmpi .slt main_arg0 main_v3
  let main_v5 : IVec S96 1 := andi main_v2 main_v4
  let main_c_1 : IVec S_ 1 := constantI S_ 1 1#1
  let main_v6 : IVec S_ 1 := (fun x v => Host.reduce IntOp.andi x v reducesTo_S96_S_d0 h_S_) main_v5 main_c_1
  let main_c_2 : IVec S_ 32 := constantI S_ 32 0#32
  let main_v7 : IVec S96 32 := broadcastInDim S96 ![] bcast_S_S96 main_c_2
  let main_v8 : IVec S96 1 := cmpi .sge main_arg1 main_v7
  let main_c_3 : IVec S_ 32 := constantI S_ 32 2#32
  let main_v9 : IVec S96 32 := broadcastInDim S96 ![] bcast_S_S96 main_c_3
  let main_v10 : IVec S96 1 := cmpi .sle main_arg1 main_v9
  let main_v11 : IVec S96 1 := andi main_v8 main_v10
  let main_c_4 : IVec S_ 1 := constantI S_ 1 1#1
  let main_v12 : IVec S_ 1 := (fun x v => Host.reduce IntOp.andi x v reducesTo_S96_S_d0 h_S_) main_v11 main_c_4
  let main_v13 : IVec S_ 1 := andi main_v6 main_v12
  let main_c_5 : IVec S_ 32 := constantI S_ 32 1#32
  let main_v14 : IVec S1 32 := broadcastInDim S1 ![] bcast_S_S1 main_c_5
  let main_v15 : IVec S1 1 := cmpi .sge main_arg3 main_v14
  let main_c_6 : IVec S_ 32 := constantI S_ 32 96#32
  fn_part1 (F := F) main_arg1 main_arg3 main_v0 main_v13 main_v15 main_c_6
-- ==== Kernel.lean ====
abbrev S96 : Shape := ⟨1, ![96]⟩
abbrev S1 : Shape := ⟨1, ![1]⟩
abbrev S49152x1024 : Shape := ⟨2, ![49152, 1024]⟩
abbrev S32x2048x4096 : Shape := ⟨3, ![32, 2048, 4096]⟩
abbrev S32x2048x2048 : Shape := ⟨3, ![32, 2048, 2048]⟩
abbrev S32x1x4096 : Shape := ⟨3, ![32, 1, 4096]⟩
abbrev S32x1x2048 : Shape := ⟨3, ![32, 1, 2048]⟩
abbrev S49152x2048 : Shape := ⟨2, ![49152, 2048]⟩
abbrev S512x1024 : Shape := ⟨2, ![512, 1024]⟩
abbrev S1x2048x1024 : Shape := ⟨3, ![1, 2048, 1024]⟩
abbrev S1x512x2048 : Shape := ⟨3, ![1, 512, 2048]⟩
abbrev S1x1x1024 : Shape := ⟨3, ![1, 1, 1024]⟩
abbrev S1x1x2048 : Shape := ⟨3, ![1, 1, 2048]⟩
abbrev S512x2048 : Shape := ⟨2, ![512, 2048]⟩
abbrev S1x2048 : Shape := ⟨2, ![1, 2048]⟩
abbrev S256x1024 : Shape := ⟨2, ![256, 1024]⟩
abbrev S1x1024x1024 : Shape := ⟨3, ![1, 1024, 1024]⟩
abbrev S1024x1024 : Shape := ⟨2, ![1024, 1024]⟩
abbrev S1x1024 : Shape := ⟨2, ![1, 1024]⟩
abbrev S256x128 : Shape := ⟨2, ![256, 128]⟩
abbrev S256x256 : Shape := ⟨2, ![256, 256]⟩
abbrev S256x512 : Shape := ⟨2, ![256, 512]⟩
abbrev S256x2048 : Shape := ⟨2, ![256, 2048]⟩
abbrev S512x128 : Shape := ⟨2, ![512, 128]⟩
abbrev S512x256 : Shape := ⟨2, ![512, 256]⟩
abbrev S512x512 : Shape := ⟨2, ![512, 512]⟩

abbrev nBuf : Space → Nat
  | .hbm => 6
  | .vmem => 14
  | .smem => 4
  | _ => 0

abbrev bufTy : (tb : Table) → Fin (tcTables nBuf tb) → BufTy
  | .hbm, ⟨0, _⟩ => ⟨S49152x1024, .i32⟩
  | .hbm, ⟨1, _⟩ => ⟨S32x2048x4096, .f32⟩
  | .hbm, ⟨2, _⟩ => ⟨S32x2048x2048, .f32⟩
  | .hbm, ⟨3, _⟩ => ⟨S32x1x4096, .f32⟩
  | .hbm, ⟨4, _⟩ => ⟨S32x1x2048, .f32⟩
  | .hbm, ⟨5, _⟩ => ⟨S49152x2048, .f32⟩
  | .local _ .vmem, ⟨0, _⟩ => ⟨S512x1024, .i32⟩
  | .local _ .vmem, ⟨1, _⟩ => ⟨S512x1024, .i32⟩
  | .local _ .vmem, ⟨2, _⟩ => ⟨S1x2048x1024, .f32⟩
  | .local _ .vmem, ⟨3, _⟩ => ⟨S1x2048x1024, .f32⟩
  | .local _ .vmem, ⟨4, _⟩ => ⟨S1x512x2048, .f32⟩
  | .local _ .vmem, ⟨5, _⟩ => ⟨S1x512x2048, .f32⟩
  | .local _ .vmem, ⟨6, _⟩ => ⟨S1x1x1024, .f32⟩
  | .local _ .vmem, ⟨7, _⟩ => ⟨S1x1x1024, .f32⟩
  | .local _ .vmem, ⟨8, _⟩ => ⟨S1x1x2048, .f32⟩
  | .local _ .vmem, ⟨9, _⟩ => ⟨S1x1x2048, .f32⟩
  | .local _ .vmem, ⟨10, _⟩ => ⟨S512x2048, .f32⟩
  | .local _ .vmem, ⟨11, _⟩ => ⟨S512x2048, .f32⟩
  | .local _ .vmem, ⟨12, _⟩ => ⟨S512x1024, .bf16⟩
  | .local _ .vmem, ⟨13, _⟩ => ⟨S512x1024, .bf16⟩
  | .local _ .smem, ⟨0, _⟩ => ⟨S96, .i32⟩
  | .local _ .smem, ⟨1, _⟩ => ⟨S96, .i32⟩
  | .local _ .smem, ⟨2, _⟩ => ⟨S96, .i32⟩
  | .local _ .smem, ⟨3, _⟩ => ⟨S1, .i32⟩
  | _, _ => ⟨S49152x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg4 : Ref sig .tc := ⟨.hbm, 0, rfl⟩
abbrev main_arg5 : Ref sig .tc := ⟨.hbm, 1, rfl⟩
abbrev main_arg6 : Ref sig .tc := ⟨.hbm, 2, rfl⟩
abbrev main_arg7 : Ref sig .tc := ⟨.hbm, 3, rfl⟩
abbrev main_arg8 : Ref sig .tc := ⟨.hbm, 4, rfl⟩
abbrev main_v0 : Ref sig .tc := ⟨.hbm, 5, rfl⟩
abbrev main_arg0 : Ref sig .tc := ⟨.smem, 0, rfl⟩
abbrev main_arg1 : Ref sig .tc := ⟨.smem, 1, rfl⟩
abbrev main_arg2 : Ref sig .tc := ⟨.smem, 2, rfl⟩
abbrev main_arg3 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![96, 4], ![false, false]⟩

abbrev pre0 : Pipeline.Prefetch sig := ⟨4, ![main_arg0.idx, main_arg1.idx, main_arg2.idx, main_arg3.idx], fun | 0 => main_arg0.names | 1 => main_arg1.names | 2 => main_arg2.names | 3 => main_arg3.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def k0_cond3 (v1 : BitVec 32) : BitVec 1 :=
  let c1_i32 : BitVec 32 := 1#32
  let v10 : BitVec 1 := Scalar.cmpi .eq v1 c1_i32
  let v11 : BitVec 32 := Scalar.extui v10
  let c0_i32_4 : BitVec 32 := 0#32
  let v12 : BitVec 1 := Scalar.cmpi .ne v11 c0_i32_4
  v12

def k0_cond4 (v1 : BitVec 32) : BitVec 1 :=
  let c2_i32 : BitVec 32 := 2#32
  let v13 : BitVec 1 := Scalar.cmpi .eq v1 c2_i32
  let v14 : BitVec 32 := Scalar.extui v13
  let c0_i32_5 : BitVec 32 := 0#32
  let v15 : BitVec 1 := Scalar.cmpi .ne v14 c0_i32_5
  v15

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 3 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S96.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S96) ![v0.toNat] S1.size (k0_off1_inb i)) numel1_S1
  let v2 : Index := Scalar.indexCast arg0
  let v3 : BitVec 32 := pf.at 2 (Rect.unit (s := S96) ![v2.toNat] S1.size (k0_off1_inb i)) numel1_S1
  let c1_i32 : BitVec 32 := 1#32
  let v4 : BitVec 1 := Scalar.cmpi .eq v3 c1_i32
  let c0 : Index := 0#32
  let v5 : BitVec 32 := pf.at 3 (Rect.unit (s := S1) ![0] S1.size inb_S1_S1_0) numel1_S1
  let v6 : BitVec 1 := Scalar.cmpi .slt arg0 v5
  let c3_i32 : BitVec 32 := 3#32
  let v7 : BitVec 32 := Scalar.subi c3_i32 arg1
  let v8 : BitVec 32 := Scalar.select v4 v7 arg1
  let c0_i32 : BitVec 32 := 0#32
  let c3_i32_0 : BitVec 32 := 3#32
  let v9 : BitVec 32 := Scalar.select v4 c0_i32 c3_i32_0
  let v10 : BitVec 32 := Scalar.select v6 v8 v9
  let c0_i32_1 : BitVec 32 := 0#32
  let c0_i32_2 : BitVec 32 := 0#32
  ![v1.toNat, c0_i32_1.toNat, v10.toNat]

def cc0_transform_2 (k0_off1_inb : ∀ i : grid0.Coords, ∀ a, (k0_off1 i) a + S1.size a ≤ S96.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S96) ![v0.toNat] S1.size (k0_off1_inb i)) numel1_S1
  let v2 : Index := Scalar.indexCast arg0
  let v3 : BitVec 32 := pf.at 2 (Rect.unit (s := S96) ![v2.toNat] S1.size (k0_off1_inb i)) numel1_S1
  let c1_i32 : BitVec 32 := 1#32
  let v4 : BitVec 1 := Scalar.cmpi .eq v3 c1_i32
  let c0 : Index := 0#32
  let v5 : BitVec 32 := pf.at 3 (Rect.unit (s := S1) ![0] S1.size inb_S1_S1_0) numel1_S1
  let v6 : BitVec 1 := Scalar.cmpi .slt arg0 v5
  let c3_i32 : BitVec 32 := 3#32
  let v7 : BitVec 32 := Scalar.subi c3_i32 arg1
  let v8 : BitVec 32 := Scalar.select v4 v7 arg1
  let c0_i32 : BitVec 32 := 0#32
  let c3_i32_0 : BitVec 32 := 3#32
  let v9 : BitVec 32 := Scalar.select v4 c0_i32 c3_i32_0
  let v10 : BitVec 32 := Scalar.select v6 v8 v9
  let c0_i32_1 : BitVec 32 := 0#32
  let c0_i32_2 : BitVec 32 := 0#32
  ![v1.toNat, v10.toNat, c0_i32_1.toNat]

def cc0_transform_3 (k0_off1_inb : ∀ i : grid0.Coords, ∀ a, (k0_off1 i) a + S1.size a ≤ S96.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S96) ![v0.toNat] S1.size (k0_off1_inb i)) numel1_S1
  let v2 : Index := Scalar.indexCast arg0
  let v3 : BitVec 32 := pf.at 2 (Rect.unit (s := S96) ![v2.toNat] S1.size (k0_off1_inb i)) numel1_S1
  let c1_i32 : BitVec 32 := 1#32
  let v4 : BitVec 1 := Scalar.cmpi .eq v3 c1_i32
  let c0 : Index := 0#32
  let v5 : BitVec 32 := pf.at 3 (Rect.unit (s := S1) ![0] S1.size inb_S1_S1_0) numel1_S1
  let v6 : BitVec 1 := Scalar.cmpi .slt arg0 v5
  let c3_i32 : BitVec 32 := 3#32
  let v7 : BitVec 32 := Scalar.subi c3_i32 arg1
  let v8 : BitVec 32 := Scalar.select v4 v7 arg1
  let c0_i32 : BitVec 32 := 0#32
  let c3_i32_0 : BitVec 32 := 3#32
  let v9 : BitVec 32 := Scalar.select v4 c0_i32 c3_i32_0
  let v10 : BitVec 32 := Scalar.select v6 v8 v9
  let c0_i32_1 : BitVec 32 := 0#32
  let c0_i32_2 : BitVec 32 := 0#32
  ![v1.toNat, c0_i32_1.toNat, v10.toNat]

def cc0_transform_4 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S96) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S96 : Shape := ⟨1, ![96]⟩
abbrev S1 : Shape := ⟨1, ![1]⟩
abbrev S49152x1024 : Shape := ⟨2, ![49152, 1024]⟩
abbrev S32x2048x4096 : Shape := ⟨3, ![32, 2048, 4096]⟩
abbrev S32x2048x2048 : Shape := ⟨3, ![32, 2048, 2048]⟩
abbrev S32x1x4096 : Shape := ⟨3, ![32, 1, 4096]⟩
abbrev S32x1x2048 : Shape := ⟨3, ![32, 1, 2048]⟩
abbrev S_ : Shape := ⟨0, ![]⟩
abbrev S49152x2048 : Shape := ⟨2, ![49152, 2048]⟩
abbrev S96x512x2048 : Shape := ⟨3, ![96, 512, 2048]⟩
abbrev S96x1 : Shape := ⟨2, ![96, 1]⟩
abbrev S96x2048x4096 : Shape := ⟨3, ![96, 2048, 4096]⟩
abbrev S96x512x4096 : Shape := ⟨3, ![96, 512, 4096]⟩
abbrev S96x1x4096 : Shape := ⟨3, ![96, 1, 4096]⟩
abbrev S96x1x2048 : Shape := ⟨3, ![96, 1, 2048]⟩
abbrev S96x2048x2048 : Shape := ⟨3, ![96, 2048, 2048]⟩
abbrev S512 : Shape := ⟨1, ![512]⟩
abbrev S1x512x1 : Shape := ⟨3, ![1, 512, 1]⟩
abbrev S96x1x1 : Shape := ⟨3, ![96, 1, 1]⟩
abbrev S96x512x1 : Shape := ⟨3, ![96, 512, 1]⟩

abbrev nBuf : Space → Nat
  | .hbm => 103
  | .vmem => 0
  | .smem => 0
  | _ => 0

abbrev bufTy : (tb : Table) → Fin (tcTables nBuf tb) → BufTy
  | .hbm, ⟨0, _⟩ => ⟨S96, .i32⟩
  | .hbm, ⟨1, _⟩ => ⟨S96, .i32⟩
  | .hbm, ⟨2, _⟩ => ⟨S96, .i32⟩
  | .hbm, ⟨3, _⟩ => ⟨S1, .i32⟩
  | .hbm, ⟨4, _⟩ => ⟨S49152x1024, .i32⟩
  | .hbm, ⟨5, _⟩ => ⟨S32x2048x4096, .f32⟩
  | .hbm, ⟨6, _⟩ => ⟨S32x2048x2048, .f32⟩
  | .hbm, ⟨7, _⟩ => ⟨S32x1x4096, .f32⟩
  | .hbm, ⟨8, _⟩ => ⟨S32x1x2048, .f32⟩
  | .hbm, ⟨9, _⟩ => ⟨S_, .i32⟩
  | .hbm, ⟨10, _⟩ => ⟨S49152x1024, .i32⟩
  | .hbm, ⟨11, _⟩ => ⟨S49152x1024, .i32⟩
  | .hbm, ⟨12, _⟩ => ⟨S49152x1024, .f32⟩
  | .hbm, ⟨13, _⟩ => ⟨S_, .i32⟩
  | .hbm, ⟨14, _⟩ => ⟨S49152x1024, .i32⟩
  | .hbm, ⟨15, _⟩ => ⟨S49152x1024, .i32⟩
  | .hbm, ⟨16, _⟩ => ⟨S49152x1024, .f32⟩
  | .hbm, ⟨17, _⟩ => ⟨S49152x2048, .f32⟩
  | .hbm, ⟨18, _⟩ => ⟨S96x512x2048, .f32⟩
  | .hbm, ⟨19, _⟩ => ⟨S_, .i32⟩
  | .hbm, ⟨20, _⟩ => ⟨S96, .i32⟩
  | .hbm, ⟨21, _⟩ => ⟨S96, .i1⟩
  | .hbm, ⟨22, _⟩ => ⟨S_, .i32⟩
  | .hbm, ⟨23, _⟩ => ⟨S96, .i32⟩
  | .hbm, ⟨24, _⟩ => ⟨S96, .i32⟩
  | .hbm, ⟨25, _⟩ => ⟨S96, .i32⟩
  | .hbm, ⟨26, _⟩ => ⟨S96x1, .i32⟩
  | .hbm, ⟨27, _⟩ => ⟨S96x2048x4096, .f32⟩
  | .hbm, ⟨28, _⟩ => ⟨S96x512x4096, .f32⟩
  | .hbm, ⟨29, _⟩ => ⟨S_, .i32⟩
  | .hbm, ⟨30, _⟩ => ⟨S96, .i32⟩
  | .hbm, ⟨31, _⟩ => ⟨S96, .i1⟩
  | .hbm, ⟨32, _⟩ => ⟨S_, .i32⟩
  | .hbm, ⟨33, _⟩ => ⟨S96, .i32⟩
  | .hbm, ⟨34, _⟩ => ⟨S96, .i32⟩
  | .hbm, ⟨35, _⟩ => ⟨S96, .i32⟩
  | .hbm, ⟨36, _⟩ => ⟨S96x1, .i32⟩
  | .hbm, ⟨37, _⟩ => ⟨S96x1x4096, .f32⟩
  | .hbm, ⟨38, _⟩ => ⟨S96x512x4096, .f32⟩
  | .hbm, ⟨39, _⟩ => ⟨S96x512x4096, .f32⟩
  | .hbm, ⟨40, _⟩ => ⟨S96x512x2048, .f32⟩
  | .hbm, ⟨41, _⟩ => ⟨S_, .f32⟩
  | .hbm, ⟨42, _⟩ => ⟨S96x512x2048, .f32⟩
  | .hbm, ⟨43, _⟩ => ⟨S96x512x2048, .f32⟩
  | .hbm, ⟨44, _⟩ => ⟨S96x512x2048, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S96x512x2048, .f32⟩
  | .hbm, ⟨49, _⟩ => ⟨S96x512x2048, .f32⟩
  | .hbm, ⟨50, _⟩ => ⟨S_, .f32⟩
  | .hbm, ⟨51, _⟩ => ⟨S96x512x2048, .f32⟩
  | .hbm, ⟨52, _⟩ => ⟨S96x512x2048, .f32⟩
  | .hbm, ⟨53, _⟩ => ⟨S_, .f32⟩
  | .hbm, ⟨54, _⟩ => ⟨S96x512x2048, .f32⟩
  | .hbm, ⟨55, _⟩ => ⟨S96x512x2048, .f32⟩
  | .hbm, ⟨56, _⟩ => ⟨S_, .f32⟩
  | .hbm, ⟨57, _⟩ => ⟨S96x512x2048, .f32⟩
  | .hbm, ⟨58, _⟩ => ⟨S96x512x2048, .f32⟩
  | .hbm, ⟨59, _⟩ => ⟨S96x512x2048, .f32⟩
  | .hbm, ⟨60, _⟩ => ⟨S96x512x2048, .f32⟩
  | .hbm, ⟨61, _⟩ => ⟨S_, .f32⟩
  | .hbm, ⟨62, _⟩ => ⟨S96x512x2048, .f32⟩
  | .hbm, ⟨63, _⟩ => ⟨S96x512x2048, .f32⟩
  | .hbm, ⟨64, _⟩ => ⟨S_, .f32⟩
  | .hbm, ⟨65, _⟩ => ⟨S96x512x2048, .f32⟩
  | .hbm, ⟨66, _⟩ => ⟨S96x512x2048, .f32⟩
  | .hbm, ⟨67, _⟩ => ⟨S96x512x2048, .f32⟩
  | .hbm, ⟨68, _⟩ => ⟨S96x512x2048, .f32⟩
  | .hbm, ⟨69, _⟩ => ⟨S_, .i32⟩
  | .hbm, ⟨70, _⟩ => ⟨S96, .i32⟩
  | .hbm, ⟨71, _⟩ => ⟨S96, .i1⟩
  | .hbm, ⟨72, _⟩ => ⟨S_, .i32⟩
  | .hbm, ⟨73, _⟩ => ⟨S96, .i32⟩
  | .hbm, ⟨74, _⟩ => ⟨S96, .i32⟩
  | .hbm, ⟨75, _⟩ => ⟨S96, .i32⟩
  | .hbm, ⟨76, _⟩ => ⟨S96x1, .i32⟩
  | .hbm, ⟨77, _⟩ => ⟨S96x1x2048, .f32⟩
  | .hbm, ⟨78, _⟩ => ⟨S_, .i32⟩
  | .hbm, ⟨79, _⟩ => ⟨S96, .i32⟩
  | .hbm, ⟨80, _⟩ => ⟨S96, .i1⟩
  | .hbm, ⟨81, _⟩ => ⟨S_, .i32⟩
  | .hbm, ⟨82, _⟩ => ⟨S96, .i32⟩
  | .hbm, ⟨83, _⟩ => ⟨S96, .i32⟩
  | .hbm, ⟨84, _⟩ => ⟨S96, .i32⟩
  | .hbm, ⟨85, _⟩ => ⟨S96x1, .i32⟩
  | .hbm, ⟨86, _⟩ => ⟨S96x2048x2048, .f32⟩
  | .hbm, ⟨87, _⟩ => ⟨S96x512x2048, .f32⟩
  | .hbm, ⟨88, _⟩ => ⟨S96x512x2048, .f32⟩
  | .hbm, ⟨89, _⟩ => ⟨S96x512x2048, .f32⟩
  | .hbm, ⟨90, _⟩ => ⟨S512, .i32⟩
  | .hbm, ⟨91, _⟩ => ⟨S1x512x1, .i32⟩
  | .hbm, ⟨92, _⟩ => ⟨S_, .i32⟩
  | .hbm, ⟨93, _⟩ => ⟨S96, .i32⟩
  | .hbm, ⟨94, _⟩ => ⟨S96, .i32⟩
  | .hbm, ⟨95, _⟩ => ⟨S96x1x1, .i32⟩
  | .hbm, ⟨96, _⟩ => ⟨S96x512x1, .i32⟩
  | .hbm, ⟨97, _⟩ => ⟨S96x512x1, .i32⟩
  | .hbm, ⟨98, _⟩ => ⟨S96x512x1, .i1⟩
  | .hbm, ⟨99, _⟩ => ⟨S96x512x2048, .i1⟩
  | .hbm, ⟨100, _⟩ => ⟨S96x512x2048, .f32⟩
  | .hbm, ⟨101, _⟩ => ⟨S96x512x2048, .f32⟩
  | .hbm, ⟨102, _⟩ => ⟨S49152x2048, .f32⟩
  | _, _ => ⟨S96, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_cst_6 : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_v29 : Ref sig .tc := ⟨.hbm, 52, rfl⟩
abbrev main_cst_7 : Ref sig .tc := ⟨.hbm, 53, rfl⟩
abbrev main_v30 : Ref sig .tc := ⟨.hbm, 54, rfl⟩
abbrev main_v31 : Ref sig .tc := ⟨.hbm, 55, rfl⟩
abbrev main_cst_8 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_9 : Ref sig .tc := ⟨.hbm, 61, rfl⟩
abbrev main_v36 : Ref sig .tc := ⟨.hbm, 62, rfl⟩
abbrev main_v37 : Ref sig .tc := ⟨.hbm, 63, rfl⟩
abbrev main_cst_10 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_c_11 : Ref sig .tc := ⟨.hbm, 69, rfl⟩
abbrev main_v42 : Ref sig .tc := ⟨.hbm, 70, rfl⟩
abbrev main_v43 : Ref sig .tc := ⟨.hbm, 71, rfl⟩
abbrev main_c_12 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_13 : Ref sig .tc := ⟨.hbm, 78, rfl⟩
abbrev main_v49 : Ref sig .tc := ⟨.hbm, 79, rfl⟩
abbrev main_v50 : Ref sig .tc := ⟨.hbm, 80, rfl⟩
abbrev main_c_14 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_15 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_call1_v0 : Ref sig .tc := ⟨.hbm, 99, rfl⟩
abbrev main_call1_v1 : Ref sig .tc := ⟨.hbm, 100, rfl⟩
abbrev main_v67 : Ref sig .tc := ⟨.hbm, 101, rfl⟩
abbrev main_v68 : Ref sig .tc := ⟨.hbm, 102, rfl⟩

abbrev nD : Nat := 1
abbrev τ : Topo := Topo.v7x

variable {F : FTy → Type} [FloatOps F]
-- ==== Kernel2.lean ====
abbrev S2x4096x2048 : Shape := ⟨3, ![2, 4096, 2048]⟩
abbrev S2x6x2048 : Shape := ⟨3, ![2, 6, 2048]⟩
abbrev S2048 : Shape := ⟨1, ![2048]⟩
abbrev S2x4096 : Shape := ⟨2, ![2, 4096]⟩
abbrev S2048x5712 : Shape := ⟨2, ![2048, 5712]⟩
abbrev S3x1x1024 : Shape := ⟨3, ![3, 1, 1024]⟩
abbrev S1024 : Shape := ⟨1, ![1024]⟩
abbrev S128 : Shape := ⟨1, ![128]⟩
abbrev S8192x2048 : Shape := ⟨2, ![8192, 2048]⟩
abbrev S1x2048 : Shape := ⟨2, ![1, 2048]⟩
abbrev S8192x1 : Shape := ⟨2, ![8192, 1]⟩
abbrev S2048x64 : Shape := ⟨2, ![2048, 64]⟩
abbrev S2048x16 : Shape := ⟨2, ![2048, 16]⟩
abbrev S_ : Shape := ⟨0, ![]⟩
abbrev S2048x112 : Shape := ⟨2, ![2048, 112]⟩
abbrev S2048x256 : Shape := ⟨2, ![2048, 256]⟩
abbrev S3x1024 : Shape := ⟨2, ![3, 1024]⟩
abbrev S1x1024 : Shape := ⟨2, ![1, 1024]⟩
abbrev S1x128 : Shape := ⟨2, ![1, 128]⟩
abbrev S8192x1024 : Shape := ⟨2, ![8192, 1024]⟩
abbrev S8192x256 : Shape := ⟨2, ![8192, 256]⟩
abbrev S8192x128 : Shape := ⟨2, ![8192, 128]⟩
abbrev S512x2048 : Shape := ⟨2, ![512, 2048]⟩
abbrev S1x6x2048 : Shape := ⟨3, ![1, 6, 2048]⟩
abbrev S512x1 : Shape := ⟨2, ![512, 1]⟩
abbrev S2048x5632 : Shape := ⟨2, ![2048, 5632]⟩
abbrev S512x1024 : Shape := ⟨2, ![512, 1024]⟩
abbrev S512x256 : Shape := ⟨2, ![512, 256]⟩
abbrev S512x128 : Shape := ⟨2, ![512, 128]⟩
abbrev S520x1024 : Shape := ⟨2, ![520, 1024]⟩
abbrev S512 : Shape := ⟨1, ![512]⟩
abbrev S1x1x2048 : Shape := ⟨3, ![1, 1, 2048]⟩
abbrev S8x1024 : Shape := ⟨2, ![8, 1024]⟩
abbrev S2048x3072 : Shape := ⟨2, ![2048, 3072]⟩
abbrev S512x3072 : Shape := ⟨2, ![512, 3072]⟩
abbrev S2048x1024 : Shape := ⟨2, ![2048, 1024]⟩

abbrev nBuf : Space → Nat
  | .hbm => 43
  | .vmem => 28
  | .smem => 0
  | _ => 0

abbrev bufTy : (tb : Table) → Fin (tcTables nBuf tb) → BufTy
  | .hbm, ⟨0, _⟩ => ⟨S2x4096x2048, .f32⟩
  | .hbm, ⟨1, _⟩ => ⟨S2x6x2048, .f32⟩
  | .hbm, ⟨2, _⟩ => ⟨S2048, .f32⟩
  | .hbm, ⟨3, _⟩ => ⟨S2x4096, .i32⟩
  | .hbm, ⟨4, _⟩ => ⟨S2048x5712, .f32⟩
  | .hbm, ⟨5, _⟩ => ⟨S3x1x1024, .f32⟩
  | .hbm, ⟨6, _⟩ => ⟨S1024, .f32⟩
  | .hbm, ⟨7, _⟩ => ⟨S128, .f32⟩
  | .hbm, ⟨8, _⟩ => ⟨S128, .f32⟩
  | .hbm, ⟨9, _⟩ => ⟨S2048x5712, .bf16⟩
  | .hbm, ⟨10, _⟩ => ⟨S8192x2048, .f32⟩
  | .hbm, ⟨11, _⟩ => ⟨S1x2048, .f32⟩
  | .hbm, ⟨12, _⟩ => ⟨S8192x1, .i32⟩
  | .hbm, ⟨13, _⟩ => ⟨S2048x64, .bf16⟩
  | .hbm, ⟨14, _⟩ => ⟨S2048x16, .bf16⟩
  | .hbm, ⟨15, _⟩ => ⟨S_, .bf16⟩
  | .hbm, ⟨16, _⟩ => ⟨S2048x112, .bf16⟩
  | .hbm, ⟨17, _⟩ => ⟨S2048x256, .bf16⟩
  | .hbm, ⟨18, _⟩ => ⟨S3x1024, .f32⟩
  | .hbm, ⟨19, _⟩ => ⟨S1x1024, .f32⟩
  | .hbm, ⟨20, _⟩ => ⟨S128, .f32⟩
  | .hbm, ⟨21, _⟩ => ⟨S_, .f32⟩
  | .hbm, ⟨22, _⟩ => ⟨S128, .f32⟩
  | .hbm, ⟨23, _⟩ => ⟨S128, .f32⟩
  | .hbm, ⟨24, _⟩ => ⟨S_, .f32⟩
  | .hbm, ⟨25, _⟩ => ⟨S128, .f32⟩
  | .hbm, ⟨26, _⟩ => ⟨S128, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S1x128, .f32⟩
  | .hbm, ⟨35, _⟩ => ⟨S1x128, .f32⟩
  | .hbm, ⟨36, _⟩ => ⟨S8192x1024, .bf16⟩
  | .hbm, ⟨37, _⟩ => ⟨S8192x1024, .bf16⟩
  | .hbm, ⟨38, _⟩ => ⟨S8192x256, .bf16⟩
  | .hbm, ⟨39, _⟩ => ⟨S8192x256, .bf16⟩
  | .hbm, ⟨40, _⟩ => ⟨S8192x1024, .bf16⟩
  | .hbm, ⟨41, _⟩ => ⟨S8192x128, .bf16⟩
  | .hbm, ⟨42, _⟩ => ⟨S8192x128, .f32⟩
  | .local _ .vmem, ⟨0, _⟩ => ⟨S512x2048, .f32⟩
  | .local _ .vmem, ⟨1, _⟩ => ⟨S512x2048, .f32⟩
  | .local _ .vmem, ⟨2, _⟩ => ⟨S1x6x2048, .f32⟩
  | .local _ .vmem, ⟨3, _⟩ => ⟨S1x6x2048, .f32⟩
  | .local _ .vmem, ⟨4, _⟩ => ⟨S1x2048, .f32⟩
  | .local _ .vmem, ⟨5, _⟩ => ⟨S512x1, .i32⟩
  | .local _ .vmem, ⟨6, _⟩ => ⟨S512x1, .i32⟩
  | .local _ .vmem, ⟨7, _⟩ => ⟨S2048x5632, .bf16⟩
  | .local _ .vmem, ⟨8, _⟩ => ⟨S2048x256, .bf16⟩
  | .local _ .vmem, ⟨9, _⟩ => ⟨S3x1024, .f32⟩
  | .local _ .vmem, ⟨10, _⟩ => ⟨S1x1024, .f32⟩
  | .local _ .vmem, ⟨11, _⟩ => ⟨S1x128, .f32⟩
  | .local _ .vmem, ⟨12, _⟩ => ⟨S1x128, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x1024, .bf16⟩
  | .local _ .vmem, ⟨22, _⟩ => ⟨S512x1024, .bf16⟩
  | .local _ .vmem, ⟨23, _⟩ => ⟨S512x128, .bf16⟩
  | .local _ .vmem, ⟨24, _⟩ => ⟨S512x128, .bf16⟩
  | .local _ .vmem, ⟨25, _⟩ => ⟨S512x128, .f32⟩
  | .local _ .vmem, ⟨26, _⟩ => ⟨S512x128, .f32⟩
  | .local _ .vmem, ⟨27, _⟩ => ⟨S520x1024, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22_0 : Ref sig .tc := ⟨.hbm, 36, rfl⟩
abbrev main_v22_1 : Ref sig .tc := ⟨.hbm, 37, rfl⟩
abbrev main_v22_2 : Ref sig .tc := ⟨.hbm, 38, rfl⟩
abbrev main_v22_3 : Ref sig .tc := ⟨.hbm, 39, rfl⟩
abbrev main_v22_4 : Ref sig .tc := ⟨.hbm, 40, rfl⟩
abbrev main_v22_5 : Ref sig .tc := ⟨.hbm, 41, rfl⟩
abbrev main_v22_6 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference2Ideal.lean ====
abbrev S2x4096x2048 : Shape := ⟨3, ![2, 4096, 2048]⟩
abbrev S2x6x2048 : Shape := ⟨3, ![2, 6, 2048]⟩
abbrev S2048 : Shape := ⟨1, ![2048]⟩
abbrev S2x4096 : Shape := ⟨2, ![2, 4096]⟩
abbrev S2048x5712 : Shape := ⟨2, ![2048, 5712]⟩
abbrev S3x1x1024 : Shape := ⟨3, ![3, 1, 1024]⟩
abbrev S1024 : Shape := ⟨1, ![1024]⟩
abbrev S_ : Shape := ⟨0, ![]⟩
abbrev S2x4096x1 : Shape := ⟨3, ![2, 4096, 1]⟩
abbrev S1x1x2048 : Shape := ⟨3, ![1, 1, 2048]⟩
abbrev S2x1x2048 : Shape := ⟨3, ![2, 1, 2048]⟩
abbrev S2x4096x5712 : Shape := ⟨3, ![2, 4096, 5712]⟩
abbrev S2x4096x1024 : Shape := ⟨3, ![2, 4096, 1024]⟩
abbrev S2x2x1024 : Shape := ⟨3, ![2, 2, 1024]⟩
abbrev S2x4098x1024 : Shape := ⟨3, ![2, 4098, 1024]⟩
abbrev S1x1x1024 : Shape := ⟨3, ![1, 1, 1024]⟩
abbrev S2x4096x8x128 : Shape := ⟨4, ![2, 4096, 8, 128]⟩
abbrev S16 : Shape := ⟨1, ![16]⟩
abbrev S1x1x16 : Shape := ⟨3, ![1, 1, 16]⟩
abbrev S2x4096x16 : Shape := ⟨3, ![2, 4096, 16]⟩
abbrev S2x4096x1x16 : Shape := ⟨4, ![2, 4096, 1, 16]⟩
abbrev S2x4096x8x16 : Shape := ⟨4, ![2, 4096, 8, 16]⟩
abbrev S2x4096x8x96 : Shape := ⟨4, ![2, 4096, 8, 96]⟩
abbrev S2x4096x256 : Shape := ⟨3, ![2, 4096, 256]⟩
abbrev S2x4096x2x128 : Shape := ⟨4, ![2, 4096, 2, 128]⟩
abbrev S2x4096x2x16 : Shape := ⟨4, ![2, 4096, 2, 16]⟩
abbrev S2x4096x2x96 : Shape := ⟨4, ![2, 4096, 2, 96]⟩
abbrev S2x4096x16x64 : Shape := ⟨4, ![2, 4096, 16, 64]⟩
abbrev S8 : Shape := ⟨1, ![8]⟩
abbrev S1x1x8 : Shape := ⟨3, ![1, 1, 8]⟩
abbrev S2x4096x8 : Shape := ⟨3, ![2, 4096, 8]⟩
abbrev S2x4096x1x8 : Shape := ⟨4, ![2, 4096, 1, 8]⟩
abbrev S2x4096x16x8 : Shape := ⟨4, ![2, 4096, 16, 8]⟩
abbrev S2x4096x16x48 : Shape := ⟨4, ![2, 4096, 16, 48]⟩
abbrev S2x4096x64 : Shape := ⟨3, ![2, 4096, 64]⟩
abbrev S2x4096x1x64 : Shape := ⟨4, ![2, 4096, 1, 64]⟩
abbrev S2x4096x1x48 : Shape := ⟨4, ![2, 4096, 1, 48]⟩
abbrev S2x4096x112 : Shape := ⟨3, ![2, 4096, 112]⟩
abbrev S2x4096x128 : Shape := ⟨3, ![2, 4096, 128]⟩
abbrev S8192x1024 : Shape := ⟨2, ![8192, 1024]⟩
abbrev S8192x256 : Shape := ⟨2, ![8192, 256]⟩
abbrev S2x4096x1x128 : Shape := ⟨4, ![2, 4096, 1, 128]⟩
abbrev S8192x128 : Shape := ⟨2, ![8192, 128]⟩

abbrev nBuf : Space → Nat
  | .hbm => 234
  | .vmem => 0
  | .smem => 0
  | _ => 0

abbrev hbmTy0_0 (i : Nat) : BufTy := match i % 128 with
  | 0 => ⟨S2x4096x2048, .f32⟩
  | 1 => ⟨S2x6x2048, .f32⟩
  | 2 => ⟨S2048, .f32⟩
  | 3 => ⟨S2x4096, .i32⟩
  | 4 => ⟨S2048x5712, .f32⟩
  | 5 => ⟨S3x1x1024, .f32⟩
  | 6 => ⟨S1024, .f32⟩
  | 7 => ⟨S2x4096x2048, .f32⟩
  | 8 => ⟨S_, .f32⟩
  | 9 => ⟨S2x4096, .f32⟩
  | 10 => ⟨S2x4096x1, .f32⟩
  | 11 => ⟨S_, .f32⟩
  | 12 => ⟨S2x4096x1, .f32⟩
  | 13 => ⟨S2x4096x1, .f32⟩
  | 14 => ⟨S_, .f32⟩
  | 15 => ⟨S2x4096x1, .f32⟩
  | 16 => ⟨S2x4096x1, .f32⟩
  | 17 => ⟨S2x4096x1, .f32⟩
  | 18 => ⟨S2x4096x2048, .f32⟩
  | 19 => ⟨S2x4096x2048, .f32⟩
  | 20 => ⟨S1x1x2048, .f32⟩
  | 21 => ⟨S2x4096x2048, .f32⟩
  | 22 => ⟨S2x4096x2048, .f32⟩
  | 23 => ⟨S2x1x2048, .f32⟩
  | 24 => ⟨S_, .f32⟩
  | 25 => ⟨S2x1x2048, .f32⟩
  | 26 => ⟨S2x1x2048, .f32⟩
  | 27 => ⟨S2x4096x2048, .f32⟩
  | 28 => ⟨S2x4096x2048, .f32⟩
  | 29 => ⟨S2x1x2048, .f32⟩
  | 30 => ⟨S2x4096x2048, .f32⟩
  | 31 => ⟨S2x4096x2048, .f32⟩
  | 32 => ⟨S2x4096x5712, .f32⟩
  | 33 => ⟨S2x4096x1024, .f32⟩
  | 34 => ⟨S2x4096x1024, .f32⟩
  | 35 => ⟨S2x4096x1024, .f32⟩
  | 36 => ⟨S_, .f32⟩
  | 37 => ⟨S2x2x1024, .f32⟩
  | 38 => ⟨S2x4098x1024, .f32⟩
  | 39 => ⟨S1x1x1024, .f32⟩
  | 40 => ⟨S1024, .f32⟩
  | 41 => ⟨S2x4096x1024, .f32⟩
  | 42 => ⟨S1x1x1024, .f32⟩
  | 43 => ⟨S2x4096x1024, .f32⟩
  | 44 => ⟨S2x4096x1024, .f32⟩
  | 45 => ⟨S1x1x1024, .f32⟩
  | 46 => ⟨S1024, .f32⟩
  | 47 => ⟨S2x4096x1024, .f32⟩
  | 48 => ⟨S1x1x1024, .f32⟩
  | 49 => ⟨S2x4096x1024, .f32⟩
  | 50 => ⟨S2x4096x1024, .f32⟩
  | 51 => ⟨S2x4096x1024, .f32⟩
  | 52 => ⟨S1x1x1024, .f32⟩
  | 53 => ⟨S1024, .f32⟩
  | 54 => ⟨S1x1x1024, .f32⟩
  | 55 => ⟨S2x4096x1024, .f32⟩
  | 56 => ⟨S2x4096x1024, .f32⟩
  | 57 => ⟨S2x4096x1024, .f32⟩
  | 58 => ⟨S2x4096x1024, .f32⟩
  | 59 => ⟨S2x4096x1024, .f32⟩
  | 60 => ⟨S2x4096x1024, .f32⟩
  | 61 => ⟨S_, .f32⟩
  | 62 => ⟨S2x4096, .f32⟩
  | 63 => ⟨S2x4096x1, .f32⟩
  | 64 => ⟨S_, .f32⟩
  | 65 => ⟨S2x4096x1, .f32⟩
  | 66 => ⟨S2x4096x1, .f32⟩
  | 67 => ⟨S_, .f32⟩
  | 68 => ⟨S2x4096x1, .f32⟩
  | 69 => ⟨S2x4096x1, .f32⟩
  | 70 => ⟨S2x4096x1, .f32⟩
  | 71 => ⟨S2x4096x1024, .f32⟩
  | 72 => ⟨S2x4096x1024, .f32⟩
  | 73 => ⟨S1x1x1024, .f32⟩
  | 74 => ⟨S2x4096x1024, .f32⟩
  | 75 => ⟨S2x4096x1024, .f32⟩
  | 76 => ⟨S2x4096x1024, .f32⟩
  | 77 => ⟨S2x4096x8x128, .f32⟩
  | 78 => ⟨S2x4096, .f32⟩
  | 79 => ⟨S2x4096x1, .f32⟩
  | 80 => ⟨S16, .i32⟩
  | 81 => ⟨S16, .f32⟩
  | 82 => ⟨S16, .f32⟩
  | 83 => ⟨S_, .f32⟩
  | 84 => ⟨S16, .f32⟩
  | 85 => ⟨S16, .f32⟩
  | 86 => ⟨S_, .f32⟩
  | 87 => ⟨S16, .f32⟩
  | 88 => ⟨S16, .f32⟩
  | 89 => ⟨S1x1x16, .f32⟩
  | 90 => ⟨S2x4096x16, .f32⟩
  | 91 => ⟨S2x4096x16, .f32⟩
  | 92 => ⟨S2x4096x16, .f32⟩
  | 93 => ⟨S2x4096x16, .f32⟩
  | 94 => ⟨S2x4096x1x16, .f32⟩
  | 95 => ⟨S2x4096x16, .f32⟩
  | 96 => ⟨S2x4096x1x16, .f32⟩
  | 97 => ⟨S2x4096x8x16, .f32⟩
  | 98 => ⟨S2x4096x8x16, .f32⟩
  | 99 => ⟨S2x4096x8x16, .f32⟩
  | 100 => ⟨S2x4096x8x16, .f32⟩
  | 101 => ⟨S2x4096x8x16, .f32⟩
  | 102 => ⟨S2x4096x8x16, .f32⟩
  | 103 => ⟨S2x4096x8x16, .f32⟩
  | 104 => ⟨S2x4096x8x16, .f32⟩
  | 105 => ⟨S2x4096x8x16, .f32⟩
  | 106 => ⟨S2x4096x8x16, .f32⟩
  | 107 => ⟨S2x4096x8x16, .f32⟩
  | 108 => ⟨S2x4096x8x16, .f32⟩
  | 109 => ⟨S2x4096x8x96, .f32⟩
  | 110 => ⟨S2x4096x8x128, .f32⟩
  | 111 => ⟨S_, .f32⟩
  | 112 => ⟨S2x4096x8x128, .f32⟩
  | 113 => ⟨S2x4096x8x128, .f32⟩
  | 114 => ⟨S2x4096x256, .f32⟩
  | 115 => ⟨S2x4096x2x128, .f32⟩
  | 116 => ⟨S2x4096, .f32⟩
  | 117 => ⟨S2x4096x1, .f32⟩
  | 118 => ⟨S16, .i32⟩
  | 119 => ⟨S16, .f32⟩
  | 120 => ⟨S16, .f32⟩
  | 121 => ⟨S_, .f32⟩
  | 122 => ⟨S16, .f32⟩
  | 123 => ⟨S16, .f32⟩
  | 124 => ⟨S_, .f32⟩
  | 125 => ⟨S16, .f32⟩
  | 126 => ⟨S16, .f32⟩
  | 127 => ⟨S1x1x16, .f32⟩
  | _ => ⟨S2x4096x2048, .f32⟩

abbrev hbmTy0_1 (i : Nat) : BufTy := match i % 128 with
  | 0 => ⟨S2x4096x16, .f32⟩
  | 1 => ⟨S2x4096x16, .f32⟩
  | 2 => ⟨S2x4096x16, .f32⟩
  | 3 => ⟨S2x4096x16, .f32⟩
  | 4 => ⟨S2x4096x1x16, .f32⟩
  | 5 => ⟨S2x4096x16, .f32⟩
  | 6 => ⟨S2x4096x1x16, .f32⟩
  | 7 => ⟨S2x4096x2x16, .f32⟩
  | 8 => ⟨S2x4096x2x16, .f32⟩
  | 9 => ⟨S2x4096x2x16, .f32⟩
  | 10 => ⟨S2x4096x2x16, .f32⟩
  | 11 => ⟨S2x4096x2x16, .f32⟩
  | 12 => ⟨S2x4096x2x16, .f32⟩
  | 13 => ⟨S2x4096x2x16, .f32⟩
  | 14 => ⟨S2x4096x2x16, .f32⟩
  | 15 => ⟨S2x4096x2x16, .f32⟩
  | 16 => ⟨S2x4096x2x16, .f32⟩
  | 17 => ⟨S2x4096x2x16, .f32⟩
  | 18 => ⟨S2x4096x2x16, .f32⟩
  | 19 => ⟨S2x4096x2x96, .f32⟩
  | 20 => ⟨S2x4096x2x128, .f32⟩
  | 21 => ⟨S2x4096x1024, .f32⟩
  | 22 => ⟨S2x4096x16x64, .f32⟩
  | 23 => ⟨S2x4096, .f32⟩
  | 24 => ⟨S2x4096x1, .f32⟩
  | 25 => ⟨S8, .i32⟩
  | 26 => ⟨S8, .f32⟩
  | 27 => ⟨S8, .f32⟩
  | 28 => ⟨S_, .f32⟩
  | 29 => ⟨S8, .f32⟩
  | 30 => ⟨S8, .f32⟩
  | 31 => ⟨S_, .f32⟩
  | 32 => ⟨S8, .f32⟩
  | 33 => ⟨S8, .f32⟩
  | 34 => ⟨S1x1x8, .f32⟩
  | 35 => ⟨S2x4096x8, .f32⟩
  | 36 => ⟨S2x4096x8, .f32⟩
  | 37 => ⟨S2x4096x8, .f32⟩
  | 38 => ⟨S2x4096x8, .f32⟩
  | 39 => ⟨S2x4096x1x8, .f32⟩
  | 40 => ⟨S2x4096x8, .f32⟩
  | 41 => ⟨S2x4096x1x8, .f32⟩
  | 42 => ⟨S2x4096x16x8, .f32⟩
  | 43 => ⟨S2x4096x16x8, .f32⟩
  | 44 => ⟨S2x4096x16x8, .f32⟩
  | 45 => ⟨S2x4096x16x8, .f32⟩
  | 46 => ⟨S2x4096x16x8, .f32⟩
  | 47 => ⟨S2x4096x16x8, .f32⟩
  | 48 => ⟨S2x4096x16x8, .f32⟩
  | 49 => ⟨S2x4096x16x8, .f32⟩
  | 50 => ⟨S2x4096x16x8, .f32⟩
  | 51 => ⟨S2x4096x16x8, .f32⟩
  | 52 => ⟨S2x4096x16x8, .f32⟩
  | 53 => ⟨S2x4096x16x8, .f32⟩
  | 54 => ⟨S2x4096x16x48, .f32⟩
  | 55 => ⟨S2x4096x16x64, .f32⟩
  | 56 => ⟨S2x4096x64, .f32⟩
  | 57 => ⟨S2x4096x1x64, .f32⟩
  | 58 => ⟨S2x4096, .f32⟩
  | 59 => ⟨S2x4096x1, .f32⟩
  | 60 => ⟨S8, .i32⟩
  | 61 => ⟨S8, .f32⟩
  | 62 => ⟨S8, .f32⟩
  | 63 => ⟨S_, .f32⟩
  | 64 => ⟨S8, .f32⟩
  | 65 => ⟨S8, .f32⟩
  | 66 => ⟨S_, .f32⟩
  | 67 => ⟨S8, .f32⟩
  | 68 => ⟨S8, .f32⟩
  | 69 => ⟨S1x1x8, .f32⟩
  | 70 => ⟨S2x4096x8, .f32⟩
  | 71 => ⟨S2x4096x8, .f32⟩
  | 72 => ⟨S2x4096x8, .f32⟩
  | 73 => ⟨S2x4096x8, .f32⟩
  | 74 => ⟨S2x4096x1x8, .f32⟩
  | 75 => ⟨S2x4096x8, .f32⟩
  | 76 => ⟨S2x4096x1x8, .f32⟩
  | 77 => ⟨S2x4096x1x8, .f32⟩
  | 78 => ⟨S2x4096x1x8, .f32⟩
  | 79 => ⟨S2x4096x1x8, .f32⟩
  | 80 => ⟨S2x4096x1x8, .f32⟩
  | 81 => ⟨S2x4096x1x8, .f32⟩
  | 82 => ⟨S2x4096x1x8, .f32⟩
  | 83 => ⟨S2x4096x1x8, .f32⟩
  | 84 => ⟨S2x4096x1x8, .f32⟩
  | 85 => ⟨S2x4096x1x48, .f32⟩
  | 86 => ⟨S2x4096x1x64, .f32⟩
  | 87 => ⟨S2x4096x16, .f32⟩
  | 88 => ⟨S_, .f32⟩
  | 89 => ⟨S2x4096x112, .f32⟩
  | 90 => ⟨S2x4096x128, .f32⟩
  | 91 => ⟨S8192x1024, .f32⟩
  | 92 => ⟨S8192x1024, .bf16⟩
  | 93 => ⟨S8192x1024, .f32⟩
  | 94 => ⟨S8192x1024, .bf16⟩
  | 95 => ⟨S8192x256, .f32⟩
  | 96 => ⟨S8192x256, .bf16⟩
  | 97 => ⟨S2x4096x256, .f32⟩
  | 98 => ⟨S8192x256, .f32⟩
  | 99 => ⟨S8192x256, .bf16⟩
  | 100 => ⟨S8192x1024, .f32⟩
  | 101 => ⟨S8192x1024, .bf16⟩
  | 102 => ⟨S2x4096x1x128, .f32⟩
  | 103 => ⟨S8192x128, .f32⟩
  | 104 => ⟨S8192x128, .bf16⟩
  | 105 => ⟨S8192x128, .f32⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_4 : Ref sig .tc := ⟨.hbm, 61, rfl⟩
abbrev main_v49 : Ref sig .tc := ⟨.hbm, 62, rfl⟩
abbrev main_v50 : Ref sig .tc := ⟨.hbm, 63, rfl⟩
abbrev main_cst_5 : Ref sig .tc := ⟨.hbm, 64, rfl⟩
abbrev main_v51 : Ref sig .tc := ⟨.hbm, 65, rfl⟩
abbrev main_v52 : Ref sig .tc := ⟨.hbm, 66, rfl⟩
abbrev main_cst_6 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_7 : Ref sig .tc := ⟨.hbm, 83, rfl⟩
abbrev main_v68 : Ref sig .tc := ⟨.hbm, 84, rfl⟩
abbrev main_v69 : Ref sig .tc := ⟨.hbm, 85, rfl⟩
abbrev main_cst_8 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_9 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_cst_10 : Ref sig .tc := ⟨.hbm, 121, rfl⟩
abbrev main_v103 : Ref sig .tc := ⟨.hbm, 122, rfl⟩
abbrev main_v104 : Ref sig .tc := ⟨.hbm, 123, rfl⟩
abbrev main_cst_11 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_cst_12 : Ref sig .tc := ⟨.hbm, 156, rfl⟩
abbrev main_v136 : Ref sig .tc := ⟨.hbm, 157, rfl⟩
abbrev main_v137 : Ref sig .tc := ⟨.hbm, 158, rfl⟩
abbrev main_cst_13 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_v161 : Ref sig .tc := ⟨.hbm, 183, rfl⟩
abbrev main_v162 : Ref sig .tc := ⟨.hbm, 184, rfl⟩
abbrev main_v163 : Ref sig .tc := ⟨.hbm, 185, rfl⟩
abbrev main_v164 : Ref sig .tc := ⟨.hbm, 186, rfl⟩
abbrev main_v165 : Ref sig .tc := ⟨.hbm, 187, rfl⟩
abbrev main_v166 : Ref sig .tc := ⟨.hbm, 188, rfl⟩
abbrev main_v167 : Ref sig .tc := ⟨.hbm, 189, rfl⟩
abbrev main_v168 : Ref sig .tc := ⟨.hbm, 190, rfl⟩
abbrev main_cst_14 : Ref sig .tc := ⟨.hbm, 191, rfl⟩
abbrev main_v169 : Ref sig .tc := ⟨.hbm, 192, rfl⟩
abbrev main_v170 : Ref sig .tc := ⟨.hbm, 193, rfl⟩
abbrev main_cst_15 : Ref sig .tc := ⟨.hbm, 194, rfl⟩
abbrev main_v171 : Ref sig .tc := ⟨.hbm, 195, rfl⟩
abbrev main_v172 : Ref sig .tc := ⟨.hbm, 196, rfl⟩
abbrev main_v173 : Ref sig .tc := ⟨.hbm, 197, rfl⟩
abbrev main_v174 : Ref sig .tc := ⟨.hbm, 198, rfl⟩
abbrev main_v175 : Ref sig .tc := ⟨.hbm, 199, rfl⟩
abbrev main_v176 : Ref sig .tc := ⟨.hbm, 200, rfl⟩
abbrev main_v177 : Ref sig .tc := ⟨.hbm, 201, rfl⟩
abbrev main_v178 : Ref sig .tc := ⟨.hbm, 202, rfl⟩
abbrev main_v179 : Ref sig .tc := ⟨.hbm, 203, rfl⟩
abbrev main_v180 : Ref sig .tc := ⟨.hbm, 204, rfl⟩
abbrev main_v181 : Ref sig .tc := ⟨.hbm, 205, rfl⟩
abbrev main_v182 : Ref sig .tc := ⟨.hbm, 206, rfl⟩
abbrev main_v183 : Ref sig .tc := ⟨.hbm, 207, rfl⟩
abbrev main_v184 : Ref sig .tc := ⟨.hbm, 208, rfl⟩
abbrev main_v185 : Ref sig .tc := ⟨.hbm, 209, rfl⟩
abbrev main_v186 : Ref sig .tc := ⟨.hbm, 210, rfl⟩
abbrev main_v187 : Ref sig .tc := ⟨.hbm, 211, rfl⟩
abbrev main_v188 : Ref sig .tc := ⟨.hbm, 212, rfl⟩
abbrev main_v189 : Ref sig .tc := ⟨.hbm, 213, rfl⟩
abbrev main_v190 : Ref sig .tc := ⟨.hbm, 214, rfl⟩
abbrev main_v191 : Ref sig .tc := ⟨.hbm, 215, rfl⟩
abbrev main_cst_16 : Ref sig .tc := ⟨.hbm, 216, rfl⟩
abbrev main_v192 : Ref sig .tc := ⟨.hbm, 217, rfl⟩
abbrev main_v193 : Ref sig .tc := ⟨.hbm, 218, rfl⟩
abbrev main_v194 : Ref sig .tc := ⟨.hbm, 219, rfl⟩
abbrev main_v195 : Ref sig .tc := ⟨.hbm, 220, rfl⟩
abbrev main_v196 : Ref sig .tc := ⟨.hbm, 221, rfl⟩
abbrev main_v197 : Ref sig .tc := ⟨.hbm, 222, rfl⟩
abbrev main_v198 : Ref sig .tc := ⟨.hbm, 223, rfl⟩
abbrev main_v199 : Ref sig .tc := ⟨.hbm, 224, rfl⟩
abbrev main_v200 : Ref sig .tc := ⟨.hbm, 225, rfl⟩
abbrev main_v201 : Ref sig .tc := ⟨.hbm, 226, rfl⟩
abbrev main_v202 : Ref sig .tc := ⟨.hbm, 227, rfl⟩
abbrev main_v203 : Ref sig .tc := ⟨.hbm, 228, rfl⟩
abbrev main_v204 : Ref sig .tc := ⟨.hbm, 229, rfl⟩
abbrev main_v205 : Ref sig .tc := ⟨.hbm, 230, rfl⟩
abbrev main_v206 : Ref sig .tc := ⟨.hbm, 231, rfl⟩
abbrev main_v207 : Ref sig .tc := ⟨.hbm, 232, rfl⟩
abbrev main_v208 : Ref sig .tc := ⟨.hbm, 233, rfl⟩

abbrev nD : Nat := 1
abbrev τ : Topo := Topo.v7x

variable {F : FTy → Type} [FloatOps F]
-- ==== Proof.Experts.Runs.lean ====
module

public import proofs.«01_k».proof.Proof.Gen.KernelIdeal.Skeleton
public import proofs.«01_k».proof.Proof.Gen.KernelIdeal.Launch
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

abbrev tb0 : Memref sig .tc .smem S96 .i32 := Memref.whole main_arg0
abbrev tb1 : Memref sig .tc .smem S96 .i32 := Memref.whole main_arg1
abbrev tb2 : Memref sig .tc .smem S96 .i32 := Memref.whole main_arg2
abbrev tb3 : Memref sig .tc .smem S1 .i32 := Memref.whole main_arg3
abbrev sc0 : Memref sig .tc .vmem S512x1024 .bf16 := Memref.whole cc0_scratch0
abbrev sc1 : Memref sig .tc .vmem S512x1024 .bf16 := Memref.whole cc0_scratch1

/-- The number of half tiles of the grid point's tile that hold rows, read from its table. -/
abbrev nsW (i : grid0.Coords) (T1 : S96.Idx → Elt F .i32) : BitVec 32 :=
  View.readAt (Elt F) (tb1).view (Rect.unit (s := S96) (k0_off1 i) S1.size (k0_off1_inb i)).toLoadRect T1 (Shape.Idx.first (numel1_S1.symm ▸ Nat.one_pos))

/-- The condition under which the body unpacks the tile's words: first step of a tile that holds rows. -/
abbrev cond2 (i : grid0.Coords) (v : BitVec 32) : BitVec 1 :=
  Scalar.cmpi .ne (Scalar.extui (Scalar.andi (Scalar.cmpi .eq (BitVec.ofNat 32 (i 1).val) 0#32) (Scalar.cmpi .sgt v 0#32))) 0#32

/-- What every step holds and leaves as it is: the five input blocks and the four tables. -/
abbrev held (c : Dev nD) (arg6 : Memref sig .tc .vmem S512x1024 .i32) (arg7 : Memref sig .tc .vmem S1x2048x1024 .f32)
    (arg8 : Memref sig .tc .vmem S1x512x2048 .f32) (arg9 : Memref sig .tc .vmem S1x1x1024 .f32) (arg10 : Memref sig .tc .vmem S1x1x2048 .f32)
    (T0 T1 T2 : S96.Idx → Elt F .i32) (T3 : S1.Idx → Elt F .i32)
    (x0 : S512x1024.Idx → Elt F .i32) (x1 : S1x2048x1024.Idx → Elt F .f32) (x2 : S1x512x2048.Idx → Elt F .f32)
    (x3 : S1x1x1024.Idx → Elt F .f32) (x4 : S1x1x2048.Idx → Elt F .f32) : sProp 𝕄 :=
  iprop((arg6.view.loc (c : Thread nD τ) ↦[arg6.view.set]{fullShare} arg6.view.rep x0)
    ∗ (arg7.view.loc (c : Thread nD τ) ↦[arg7.view.set]{fullShare} arg7.view.rep x1)
    ∗ (arg8.view.loc (c : Thread nD τ) ↦[arg8.view.set]{fullShare} arg8.view.rep x2)
    ∗ (arg9.view.loc (c : Thread nD τ) ↦[arg9.view.set]{fullShare} arg9.view.rep x3)
    ∗ (arg10.view.loc (c : Thread nD τ) ↦[arg10.view.set]{fullShare} arg10.view.rep x4)
    ∗ (tb0.view.loc (c : Thread nD τ) ↦{fullShare.right} T0)
    ∗ (tb1.view.loc (c : Thread nD τ) ↦{fullShare.right} T1)
    ∗ (tb2.view.loc (c : Thread nD τ) ↦{fullShare.right} T2)
    ∗ (tb3.view.loc (c : Thread nD τ) ↦{fullShare.right} T3))

/-! ## What a step computes, as functions of the blocks -/

/-- The upper half of an expert's first weight tile. -/
abbrev wTop (x1 : S1x2048x1024.Idx → Elt F .f32) : Vec F S1x1024x1024 .f32 :=
  VecWindow.window x1 ![0, 0, 0] S1x1024x1024.size inb_S1x2048x1024_S1x1024x1024_0_0_0
/-- The lower half of an expert's first weight tile. -/
abbrev wBot (x1 : S1x2048x1024.Idx → Elt F .f32) : Vec F S1x1024x1024 .f32 :=
  VecWindow.window x1 ![0, 1024, 0] S1x1024x1024.size inb_S1x2048x1024_S1x1024x1024_0_1024_0
/-- The first 256 rows of an unpacked half. -/
abbrev rows256 (a : S512x1024.Idx → Elt F .bf16) : Vec F S256x1024 .bf16 :=
  VecWindow.window a ![0, 0] S256x1024.size inb_S512x1024_S256x1024_0_0

/-- The hidden activations of the first 256 rows, over one tile of the hidden features. -/
def actHalf (a0 a1 : S512x1024.Idx → Elt F .bf16) (x1 : S1x2048x1024.Idx → Elt F .f32) (x3 : S1x1x1024.Idx → Elt F .f32) : FVec F S256x512 .f32 :=
  k0_pay11 (k0_pay7 (rows256 a0) (wTop x1) (rows256 a1) (wBot x1) x3) (k0_pay8 (rows256 a0) (wTop x1) (rows256 a1) (wBot x1) x3) (k0_pay9 (F := F))
    (k0_pay10 (rows256 a0) (wTop x1) (rows256 a1) (wBot x1) x3)

/-- The hidden activations of all 512 rows, over one tile of the hidden features. -/
def actFull (a0 a1 : S512x1024.Idx → Elt F .bf16) (x1 : S1x2048x1024.Idx → Elt F .f32) (x3 : S1x1x1024.Idx → Elt F .f32) : FVec F S512x512 .f32 :=
  k0_pay17 (k0_pay13 a0 (wTop x1) a1 (wBot x1) x3) (k0_pay14 a0 (wTop x1) a1 (wBot x1) x3) (k0_pay15 (F := F))
    (k0_pay16 a0 (wTop x1) a1 (wBot x1) x3)

/-- One step of a half tile: the first 256 rows of the output block gain their product. -/
def stepHalf (y : S512x2048.Idx → Elt F .f32) (a0 a1 : S512x1024.Idx → Elt F .bf16) (x1 : S1x2048x1024.Idx → Elt F .f32)
    (x2 : S1x512x2048.Idx → Elt F .f32) (x3 : S1x1x1024.Idx → Elt F .f32) : S512x2048.Idx → Elt F .f32 :=
  VecWindow.put y ![0, 0] S256x2048.size
    (k0_pay4 (actHalf a0 a1 x1 x3) (VecWindow.window y ![0, 0] S256x2048.size inb_S512x2048_S256x2048_0_0) x2)

/-- One step of a full tile: every row of the output block gains its product. -/
def stepFull (y : S512x2048.Idx → Elt F .f32) (a0 a1 : S512x1024.Idx → Elt F .bf16) (x1 : S1x2048x1024.Idx → Elt F .f32)
    (x2 : S1x512x2048.Idx → Elt F .f32) (x3 : S1x1x1024.Idx → Elt F .f32) : S512x2048.Idx → Elt F .f32 :=
  k0_pay5 (actFull a0 a1 x1 x3) y x2

/-- A covered load of a window after a store of the whole buffer reads that window of the payload. -/
theorem readCov_win {κ : Kind} {sp : Space} {s : Shape} {e : EltTy} (v : View sig κ sp s e) {off off' size : Fin s.rank → ℕ}
    (inb : ∀ a, off a + s.size a ≤ s.size a) (w : (Rect.unit off s.size inb).shape.Idx → Elt F e) (L : List (View.Piece (Elt F) s e))
    (inb' : ∀ a, off' a + size a ≤ s.size a) :
    v.readCov (⟨Rect.unit off s.size inb, w⟩ :: L) (Rect.unit off' size inb').toLoadRect = VecWindow.window (s := s) w off' size inb' := by
  unfold View.readCov
  rw [View.readAt_unit v _ inb' rfl inb', View.read_writes_full]

/-- A load of a window reads that window of what the view reads. -/
theorem readAt_win {κ : Kind} {sp : Space} {s : Shape} {e : EltTy} (v : View sig κ sp s e) (f : v.ty.Contents (Elt F)) {off size : Fin s.rank → ℕ}
    (inb : ∀ a, off a + size a ≤ s.size a) :
    v.readAt (Elt F) (Rect.unit off size inb).toLoadRect f = VecWindow.window (v.read (Elt F) f) off size inb := rfl

/-- A window of the whole shape reads everything. -/
theorem win_full {s : Shape} {α : Type} (x : s.Idx → α) {off : Fin s.rank → ℕ} (inb : ∀ a, off a + s.size a ≤ s.size a) :
    VecWindow.window x off s.size inb = x := by
  funext y
  exact congrArg x (funext fun a => Fin.ext (by
    show off a + 1 * (y a).val = (y a).val
    have := inb a; omega))

set_option backward.proofsInPublic true in
set_option maxHeartbeats 8000000 in
/-- First step of an empty tile: the output block becomes the bias rows. -/
theorem run00 (c : Dev nD) (i : grid0.Coords)
    (arg6 : Memref sig .tc .vmem S512x1024 .i32) (harg6 : arg6.IsWhole) (arg7 : Memref sig .tc .vmem S1x2048x1024 .f32) (harg7 : arg7.IsWhole)
    (arg8 : Memref sig .tc .vmem S1x512x2048 .f32) (harg8 : arg8.IsWhole) (arg9 : Memref sig .tc .vmem S1x1x1024 .f32) (harg9 : arg9.IsWhole)
    (arg10 : Memref sig .tc .vmem S1x1x2048 .f32) (harg10 : arg10.IsWhole) (arg11 : Memref sig .tc .vmem S512x2048 .f32) (harg11 : arg11.IsWhole)
    (T0 T1 T2 : S96.Idx → Elt F .i32) (T3 : S1.Idx → Elt F .i32)
    (x0 : S512x1024.Idx → Elt F .i32) (x1 : S1x2048x1024.Idx → Elt F .f32) (x2 : S1x512x2048.Idx → Elt F .f32)
    (x3 : S1x1x1024.Idx → Elt F .f32) (x4 : S1x1x2048.Idx → Elt F .f32) (xo : S512x2048.Idx → Elt F .f32)
    (a0 : Buf (Elt F) ((c : Thread nD τ).loc cc0_scratch0)) (a1 : Buf (Elt F) ((c : Thread nD τ).loc cc0_scratch1))
    (h1 : k0_cond1 i = 1#1) (h2 : ¬ cond2 i (nsW i T1) = 1#1) (h3 : ¬ k0_cond3 (nsW i T1) = 1#1) (h4 : ¬ k0_cond4 (nsW i T1) = 1#1)
    (K : PUnit → sProp 𝕄) :
    iprop(held c arg6 arg7 arg8 arg9 arg10 T0 T1 T2 T3 x0 x1 x2 x3 x4
      ∗ owns (c : Thread nD τ) arg11 fullShare xo
      ∗ (sc0.view.loc (c : Thread nD τ) ↦{fullShare} a0)
      ∗ (sc1.view.loc (c : Thread nD τ) ↦{fullShare} a1)
      ∗ (iprop(held c arg6 arg7 arg8 arg9 arg10 T0 T1 T2 T3 x0 x1 x2 x3 x4
          ∗ owns (c : Thread nD τ) arg11 fullShare (k0_pay1 x4)
          ∗ (∃ b0 : Buf (Elt F) ((c : Thread nD τ).loc cc0_scratch0), ⌜sc0.view.read (Elt F) b0 = sc0.view.read (Elt F) a0⌝ ∗ (sc0.view.loc (c : Thread nD τ) ↦{fullShare} b0))
          ∗ (∃ b1 : Buf (Elt F) ((c : Thread nD τ).loc cc0_scratch1), ⌜sc1.view.read (Elt F) b1 = sc1.view.read (Elt F) a1⌝ ∗ (sc1.view.loc (c : Thread nD τ) ↦{fullShare} b1))) -∗ K ⟨⟩))
      ⊢ wp frame (wpE (defs₀ (F := F)) Variants.none c none) Set.univ (cc0_experts i tb0 (Memref.isWhole_whole _) tb1 (Memref.isWhole_whole _) tb2 (Memref.isWhole_whole _) tb3 (Memref.isWhole_whole _) arg6 harg6 arg7 harg7 arg8 harg8 arg9 harg9 arg10 harg10 arg11 harg11 sc0 (Memref.isWhole_whole _) sc1 (Memref.isWhole_whole _)) K := by
  unfold owns
  rw [cc0_experts_eq_skeleton]; unfold cc0_experts_skel
  iintro ⟨⟨H0, H1, H2, H3, H4, HT0, HT1, HT2, HT3⟩, ⟨%f5, %hf5, HO⟩, HS0, HS1, Hk⟩
  obtain rfl := harg11.eq_unread hf5
  have hS0 : sc0.IsWhole := Memref.isWhole_whole _
  have hS1 : sc1.IsWhole := Memref.isWhole_whole _
  have hT0 : tb0.IsWhole := Memref.isWhole_whole _
  have hT1 : tb1.IsWhole := Memref.isWhole_whole _
  have hT2 : tb2.IsWhole := Memref.isWhole_whole _
  have hT3 : tb3.IsWhole := Memref.isWhole_whole _
  sl_exec! (disch := first | (guard_target = k0_cond1 _ = _; exact h1) | (guard_target = ¬(Scalar.cmpi = _); exact h2) | (guard_target = ¬(k0_cond3 _ = _); exact h3) | (guard_target = ¬(k0_cond4 _ = _); exact h4))
  sl_step
  iapply Hk
  isplitl [H0 H1 H2 H3 H4 HT0 HT1 HT2 HT3]
  · isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    iexact HT3
  isplitl [HO]
  · iexists _
    isplitr
    rotate_left
    · iexact HO
    · ipureintro
      repeat (first | delta run00.sl.HO_1)
      simp -proj only [View.readAt_full, View.read_rep, View.read_writes_full, readCov_win, View.readCov_full]
  isplitl [HS0]
  · iexists _
    isplitr
    rotate_left
    · iexact HS0
    · ipureintro
      rfl
  · iexists _
    isplitr
    rotate_left
    · iexact HS1
    · ipureintro
      rfl

set_option backward.proofsInPublic true in
set_option maxHeartbeats 8000000 in
/-- First step of a half tile: bias rows, unpacked words, one step. -/
theorem run01 (c : Dev nD) (i : grid0.Coords)
    (arg6 : Memref sig .tc .vmem S512x1024 .i32) (harg6 : arg6.IsWhole) (arg7 : Memref sig .tc .vmem S1x2048x1024 .f32) (harg7 : arg7.IsWhole)
    (arg8 : Memref sig .tc .vmem S1x512x2048 .f32) (harg8 : arg8.IsWhole) (arg9 : Memref sig .tc .vmem S1x1x1024 .f32) (harg9 : arg9.IsWhole)
    (arg10 : Memref sig .tc .vmem S1x1x2048 .f32) (harg10 : arg10.IsWhole) (arg11 : Memref sig .tc .vmem S512x2048 .f32) (harg11 : arg11.IsWhole)
    (T0 T1 T2 : S96.Idx → Elt F .i32) (T3 : S1.Idx → Elt F .i32)
    (x0 : S512x1024.Idx → Elt F .i32) (x1 : S1x2048x1024.Idx → Elt F .f32) (x2 : S1x512x2048.Idx → Elt F .f32)
    (x3 : S1x1x1024.Idx → Elt F .f32) (x4 : S1x1x2048.Idx → Elt F .f32) (xo : S512x2048.Idx → Elt F .f32)
    (a0 : Buf (Elt F) ((c : Thread nD τ).loc cc0_scratch0)) (a1 : Buf (Elt F) ((c : Thread nD τ).loc cc0_scratch1))
    (h1 : k0_cond1 i = 1#1) (h2 : cond2 i (nsW i T1) = 1#1) (h3 : k0_cond3 (nsW i T1) = 1#1) (h4 : ¬ k0_cond4 (nsW i T1) = 1#1)
    (K : PUnit → sProp 𝕄) :
    iprop(held c arg6 arg7 arg8 arg9 arg10 T0 T1 T2 T3 x0 x1 x2 x3 x4
      ∗ owns (c : Thread nD τ) arg11 fullShare xo
      ∗ (sc0.view.loc (c : Thread nD τ) ↦{fullShare} a0)
      ∗ (sc1.view.loc (c : Thread nD τ) ↦{fullShare} a1)
      ∗ (iprop(held c arg6 arg7 arg8 arg9 arg10 T0 T1 T2 T3 x0 x1 x2 x3 x4
          ∗ owns (c : Thread nD τ) arg11 fullShare (stepHalf (k0_pay1 x4) (k0_pay2 x0) (k0_pay3 x0) x1 x2 x3)
          ∗ (∃ b0 : Buf (Elt F) ((c : Thread nD τ).loc cc0_scratch0), ⌜sc0.view.read (Elt F) b0 = k0_pay2 x0⌝ ∗ (sc0.view.loc (c : Thread nD τ) ↦{fullShare} b0))
          ∗ (∃ b1 : Buf (Elt F) ((c : Thread nD τ).loc cc0_scratch1), ⌜sc1.view.read (Elt F) b1 = k0_pay3 x0⌝ ∗ (sc1.view.loc (c : Thread nD τ) ↦{fullShare} b1))) -∗ K ⟨⟩))
      ⊢ wp frame (wpE (defs₀ (F := F)) Variants.none c none) Set.univ (cc0_experts i tb0 (Memref.isWhole_whole _) tb1 (Memref.isWhole_whole _) tb2 (Memref.isWhole_whole _) tb3 (Memref.isWhole_whole _) arg6 harg6 arg7 harg7 arg8 harg8 arg9 harg9 arg10 harg10 arg11 harg11 sc0 (Memref.isWhole_whole _) sc1 (Memref.isWhole_whole _)) K := by
  unfold owns
  rw [cc0_experts_eq_skeleton]; unfold cc0_experts_skel
  iintro ⟨⟨H0, H1, H2, H3, H4, HT0, HT1, HT2, HT3⟩, ⟨%f5, %hf5, HO⟩, HS0, HS1, Hk⟩
  obtain rfl := harg11.eq_unread hf5
  have hS0 : sc0.IsWhole := Memref.isWhole_whole _
  have hS1 : sc1.IsWhole := Memref.isWhole_whole _
  have hT0 : tb0.IsWhole := Memref.isWhole_whole _
  have hT1 : tb1.IsWhole := Memref.isWhole_whole _
  have hT2 : tb2.IsWhole := Memref.isWhole_whole _
  have hT3 : tb3.IsWhole := Memref.isWhole_whole _
  sl_exec! (disch := first | (guard_target = k0_cond1 _ = _; exact h1) | (guard_target = Scalar.cmpi = _; exact h2) | (guard_target = k0_cond3 _ = _; exact h3) | (guard_target = ¬(k0_cond4 _ = _); exact h4))
  sl_step
  iapply Hk
  isplitl [H0 H1 H2 H3 H4 HT0 HT1 HT2 HT3]
  · isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    iexact HT3
  isplitl [HO]
  · iexists _
    isplitr
    rotate_left
    · iexact HO
    · ipureintro
      repeat (first | delta run01.sl.HO_2 | delta run01.sl.HO_1 | delta run01.sl.HS0_1 | delta run01.sl.HS1_1 | delta run01.sl.r | delta run01.sl.r_1 | delta run01.sl.r_2 | delta run01.sl.r_3 | delta run01.sl.r_4 | delta run01.sl.r_5 | delta run01.sl.v16 | delta run01.sl.v21 | delta run01.sl.v102 | delta run01.sl.v17 | delta run01.sl.v22 | delta run01.sl.v27 | delta run01.sl.v104)
      rw [View.read_writes_cons_put _ _ _ _ _ rfl]
      simp -proj only [View.writes_nil, View.readCov, readAt_win]
      simp -proj only [View.read_writes_full, View.read_rep, harg11.read_unread]
      simp -proj only [win_full]
      rfl
  isplitl [HS0]
  · iexists _
    isplitr
    rotate_left
    · iexact HS0
    · ipureintro
      repeat (first | delta run01.sl.HS0_1)
      simp -proj only [View.readAt_full, View.read_rep, View.read_writes_full, readCov_win, View.readCov_full]
  · iexists _
    isplitr
    rotate_left
    · iexact HS1
    · ipureintro
      repeat (first | delta run01.sl.HS1_1)
      simp -proj only [View.readAt_full, View.read_rep, View.read_writes_full, readCov_win, View.readCov_full]

set_option backward.proofsInPublic true in
set_option maxHeartbeats 8000000 in
/-- First step of a full tile: bias rows, unpacked words, one step. -/
theorem run02 (c : Dev nD) (i : grid0.Coords)
    (arg6 : Memref sig .tc .vmem S512x1024 .i32) (harg6 : arg6.IsWhole) (arg7 : Memref sig .tc .vmem S1x2048x1024 .f32) (harg7 : arg7.IsWhole)
    (arg8 : Memref sig .tc .vmem S1x512x2048 .f32) (harg8 : arg8.IsWhole) (arg9 : Memref sig .tc .vmem S1x1x1024 .f32) (harg9 : arg9.IsWhole)
    (arg10 : Memref sig .tc .vmem S1x1x2048 .f32) (harg10 : arg10.IsWhole) (arg11 : Memref sig .tc .vmem S512x2048 .f32) (harg11 : arg11.IsWhole)
    (T0 T1 T2 : S96.Idx → Elt F .i32) (T3 : S1.Idx → Elt F .i32)
    (x0 : S512x1024.Idx → Elt F .i32) (x1 : S1x2048x1024.Idx → Elt F .f32) (x2 : S1x512x2048.Idx → Elt F .f32)
    (x3 : S1x1x1024.Idx → Elt F .f32) (x4 : S1x1x2048.Idx → Elt F .f32) (xo : S512x2048.Idx → Elt F .f32)
    (a0 : Buf (Elt F) ((c : Thread nD τ).loc cc0_scratch0)) (a1 : Buf (Elt F) ((c : Thread nD τ).loc cc0_scratch1))
    (h1 : k0_cond1 i = 1#1) (h2 : cond2 i (nsW i T1) = 1#1) (h3 : ¬ k0_cond3 (nsW i T1) = 1#1) (h4 : k0_cond4 (nsW i T1) = 1#1)
    (K : PUnit → sProp 𝕄) :
    iprop(held c arg6 arg7 arg8 arg9 arg10 T0 T1 T2 T3 x0 x1 x2 x3 x4
      ∗ owns (c : Thread nD τ) arg11 fullShare xo
      ∗ (sc0.view.loc (c : Thread nD τ) ↦{fullShare} a0)
      ∗ (sc1.view.loc (c : Thread nD τ) ↦{fullShare} a1)
      ∗ (iprop(held c arg6 arg7 arg8 arg9 arg10 T0 T1 T2 T3 x0 x1 x2 x3 x4
          ∗ owns (c : Thread nD τ) arg11 fullShare (stepFull (k0_pay1 x4) (k0_pay2 x0) (k0_pay3 x0) x1 x2 x3)
          ∗ (∃ b0 : Buf (Elt F) ((c : Thread nD τ).loc cc0_scratch0), ⌜sc0.view.read (Elt F) b0 = k0_pay2 x0⌝ ∗ (sc0.view.loc (c : Thread nD τ) ↦{fullShare} b0))
          ∗ (∃ b1 : Buf (Elt F) ((c : Thread nD τ).loc cc0_scratch1), ⌜sc1.view.read (Elt F) b1 = k0_pay3 x0⌝ ∗ (sc1.view.loc (c : Thread nD τ) ↦{fullShare} b1))) -∗ K ⟨⟩))
      ⊢ wp frame (wpE (defs₀ (F := F)) Variants.none c none) Set.univ (cc0_experts i tb0 (Memref.isWhole_whole _) tb1 (Memref.isWhole_whole _) tb2 (Memref.isWhole_whole _) tb3 (Memref.isWhole_whole _) arg6 harg6 arg7 harg7 arg8 harg8 arg9 harg9 arg10 harg10 arg11 harg11 sc0 (Memref.isWhole_whole _) sc1 (Memref.isWhole_whole _)) K := by
  unfold owns
  rw [cc0_experts_eq_skeleton]; unfold cc0_experts_skel
  iintro ⟨⟨H0, H1, H2, H3, H4, HT0, HT1, HT2, HT3⟩, ⟨%f5, %hf5, HO⟩, HS0, HS1, Hk⟩
  obtain rfl := harg11.eq_unread hf5
  have hS0 : sc0.IsWhole := Memref.isWhole_whole _
  have hS1 : sc1.IsWhole := Memref.isWhole_whole _
  have hT0 : tb0.IsWhole := Memref.isWhole_whole _
  have hT1 : tb1.IsWhole := Memref.isWhole_whole _
  have hT2 : tb2.IsWhole := Memref.isWhole_whole _
  have hT3 : tb3.IsWhole := Memref.isWhole_whole _
  sl_exec! (disch := first | (guard_target = k0_cond1 _ = _; exact h1) | (guard_target = Scalar.cmpi = _; exact h2) | (guard_target = ¬(k0_cond3 _ = _); exact h3) | (guard_target = k0_cond4 _ = _; exact h4))
  sl_step
  iapply Hk
  isplitl [H0 H1 H2 H3 H4 HT0 HT1 HT2 HT3]
  · isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    iexact HT3
  isplitl [HO]
  · iexists _
    isplitr
    rotate_left
    · iexact HO
    · ipureintro
      repeat (first | delta run02.sl.HO_2 | delta run02.sl.HO_1 | delta run02.sl.HS0_1 | delta run02.sl.HS1_1 | delta run02.sl.r | delta run02.sl.r_1 | delta run02.sl.r_2 | delta run02.sl.r_3 | delta run02.sl.r_4 | delta run02.sl.r_5 | delta run02.sl.v16 | delta run02.sl.v21 | delta run02.sl.v102 | delta run02.sl.v17 | delta run02.sl.v22 | delta run02.sl.v27 | delta run02.sl.v104)
      simp -proj only [View.readCov, readAt_win]
      simp -proj only [View.read_writes_full, View.read_rep, harg11.read_unread]
      simp -proj only [win_full]
      rfl
  isplitl [HS0]
  · iexists _
    isplitr
    rotate_left
    · iexact HS0
    · ipureintro
      repeat (first | delta run02.sl.HS0_1)
      simp -proj only [View.readAt_full, View.read_rep, View.read_writes_full, readCov_win, View.readCov_full]
  · iexists _
    isplitr
    rotate_left
    · iexact HS1
    · ipureintro
      repeat (first | delta run02.sl.HS1_1)
      simp -proj only [View.readAt_full, View.read_rep, View.read_writes_full, readCov_win, View.readCov_full]

set_option backward.proofsInPublic true in
set_option maxHeartbeats 8000000 in
/-- Later step of an empty tile: nothing changes. -/
theorem runn0 (c : Dev nD) (i : grid0.Coords)
    (arg6 : Memref sig .tc .vmem S512x1024 .i32) (harg6 : arg6.IsWhole) (arg7 : Memref sig .tc .vmem S1x2048x1024 .f32) (harg7 : arg7.IsWhole)
    (arg8 : Memref sig .tc .vmem S1x512x2048 .f32) (harg8 : arg8.IsWhole) (arg9 : Memref sig .tc .vmem S1x1x1024 .f32) (harg9 : arg9.IsWhole)
    (arg10 : Memref sig .tc .vmem S1x1x2048 .f32) (harg10 : arg10.IsWhole) (arg11 : Memref sig .tc .vmem S512x2048 .f32) (harg11 : arg11.IsWhole)
    (T0 T1 T2 : S96.Idx → Elt F .i32) (T3 : S1.Idx → Elt F .i32)
    (x0 : S512x1024.Idx → Elt F .i32) (x1 : S1x2048x1024.Idx → Elt F .f32) (x2 : S1x512x2048.Idx → Elt F .f32)
    (x3 : S1x1x1024.Idx → Elt F .f32) (x4 : S1x1x2048.Idx → Elt F .f32) (xo : S512x2048.Idx → Elt F .f32)
    (a0 : Buf (Elt F) ((c : Thread nD τ).loc cc0_scratch0)) (a1 : Buf (Elt F) ((c : Thread nD τ).loc cc0_scratch1))
    (h1 : ¬ k0_cond1 i = 1#1) (h2 : ¬ cond2 i (nsW i T1) = 1#1) (h3 : ¬ k0_cond3 (nsW i T1) = 1#1) (h4 : ¬ k0_cond4 (nsW i T1) = 1#1)
    (K : PUnit → sProp 𝕄) :
    iprop(held c arg6 arg7 arg8 arg9 arg10 T0 T1 T2 T3 x0 x1 x2 x3 x4
      ∗ owns (c : Thread nD τ) arg11 fullShare xo
      ∗ (sc0.view.loc (c : Thread nD τ) ↦{fullShare} a0)
      ∗ (sc1.view.loc (c : Thread nD τ) ↦{fullShare} a1)
      ∗ (iprop(held c arg6 arg7 arg8 arg9 arg10 T0 T1 T2 T3 x0 x1 x2 x3 x4
          ∗ owns (c : Thread nD τ) arg11 fullShare (xo)
          ∗ (∃ b0 : Buf (Elt F) ((c : Thread nD τ).loc cc0_scratch0), ⌜sc0.view.read (Elt F) b0 = sc0.view.read (Elt F) a0⌝ ∗ (sc0.view.loc (c : Thread nD τ) ↦{fullShare} b0))
          ∗ (∃ b1 : Buf (Elt F) ((c : Thread nD τ).loc cc0_scratch1), ⌜sc1.view.read (Elt F) b1 = sc1.view.read (Elt F) a1⌝ ∗ (sc1.view.loc (c : Thread nD τ) ↦{fullShare} b1))) -∗ K ⟨⟩))
      ⊢ wp frame (wpE (defs₀ (F := F)) Variants.none c none) Set.univ (cc0_experts i tb0 (Memref.isWhole_whole _) tb1 (Memref.isWhole_whole _) tb2 (Memref.isWhole_whole _) tb3 (Memref.isWhole_whole _) arg6 harg6 arg7 harg7 arg8 harg8 arg9 harg9 arg10 harg10 arg11 harg11 sc0 (Memref.isWhole_whole _) sc1 (Memref.isWhole_whole _)) K := by
  unfold owns
  rw [cc0_experts_eq_skeleton]; unfold cc0_experts_skel
  iintro ⟨⟨H0, H1, H2, H3, H4, HT0, HT1, HT2, HT3⟩, ⟨%f5, %hf5, HO⟩, HS0, HS1, Hk⟩
  obtain rfl := harg11.eq_unread hf5
  have hS0 : sc0.IsWhole := Memref.isWhole_whole _
  have hS1 : sc1.IsWhole := Memref.isWhole_whole _
  have hT0 : tb0.IsWhole := Memref.isWhole_whole _
  have hT1 : tb1.IsWhole := Memref.isWhole_whole _
  have hT2 : tb2.IsWhole := Memref.isWhole_whole _
  have hT3 : tb3.IsWhole := Memref.isWhole_whole _
  sl_exec! (disch := first | (guard_target = ¬(k0_cond1 _ = _); exact h1) | (guard_target = ¬(Scalar.cmpi = _); exact h2) | (guard_target = ¬(k0_cond3 _ = _); exact h3) | (guard_target = ¬(k0_cond4 _ = _); exact h4))
  sl_step
  iapply Hk
  isplitl [H0 H1 H2 H3 H4 HT0 HT1 HT2 HT3]
  · isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    iexact HT3
  isplitl [HO]
  · iexists _
    isplitr
    rotate_left
    · iexact HO
    · ipureintro
      exact harg11.read_unread xo
  isplitl [HS0]
  · iexists _
    isplitr
    rotate_left
    · iexact HS0
    · ipureintro
      rfl
  · iexists _
    isplitr
    rotate_left
    · iexact HS1
    · ipureintro
      rfl

set_option backward.proofsInPublic true in
set_option maxHeartbeats 8000000 in
/-- Later step of a half tile. -/
theorem runn1 (c : Dev nD) (i : grid0.Coords)
    (arg6 : Memref sig .tc .vmem S512x1024 .i32) (harg6 : arg6.IsWhole) (arg7 : Memref sig .tc .vmem S1x2048x1024 .f32) (harg7 : arg7.IsWhole)
    (arg8 : Memref sig .tc .vmem S1x512x2048 .f32) (harg8 : arg8.IsWhole) (arg9 : Memref sig .tc .vmem S1x1x1024 .f32) (harg9 : arg9.IsWhole)
    (arg10 : Memref sig .tc .vmem S1x1x2048 .f32) (harg10 : arg10.IsWhole) (arg11 : Memref sig .tc .vmem S512x2048 .f32) (harg11 : arg11.IsWhole)
    (T0 T1 T2 : S96.Idx → Elt F .i32) (T3 : S1.Idx → Elt F .i32)
    (x0 : S512x1024.Idx → Elt F .i32) (x1 : S1x2048x1024.Idx → Elt F .f32) (x2 : S1x512x2048.Idx → Elt F .f32)
    (x3 : S1x1x1024.Idx → Elt F .f32) (x4 : S1x1x2048.Idx → Elt F .f32) (xo : S512x2048.Idx → Elt F .f32)
    (a0 : Buf (Elt F) ((c : Thread nD τ).loc cc0_scratch0)) (a1 : Buf (Elt F) ((c : Thread nD τ).loc cc0_scratch1))
    (h1 : ¬ k0_cond1 i = 1#1) (h2 : ¬ cond2 i (nsW i T1) = 1#1) (h3 : k0_cond3 (nsW i T1) = 1#1) (h4 : ¬ k0_cond4 (nsW i T1) = 1#1)
    (K : PUnit → sProp 𝕄) :
    iprop(held c arg6 arg7 arg8 arg9 arg10 T0 T1 T2 T3 x0 x1 x2 x3 x4
      ∗ owns (c : Thread nD τ) arg11 fullShare xo
      ∗ (sc0.view.loc (c : Thread nD τ) ↦{fullShare} a0)
      ∗ (sc1.view.loc (c : Thread nD τ) ↦{fullShare} a1)
      ∗ (iprop(held c arg6 arg7 arg8 arg9 arg10 T0 T1 T2 T3 x0 x1 x2 x3 x4
          ∗ owns (c : Thread nD τ) arg11 fullShare (stepHalf xo (sc0.view.read (Elt F) a0) (sc1.view.read (Elt F) a1) x1 x2 x3)
          ∗ (∃ b0 : Buf (Elt F) ((c : Thread nD τ).loc cc0_scratch0), ⌜sc0.view.read (Elt F) b0 = sc0.view.read (Elt F) a0⌝ ∗ (sc0.view.loc (c : Thread nD τ) ↦{fullShare} b0))
          ∗ (∃ b1 : Buf (Elt F) ((c : Thread nD τ).loc cc0_scratch1), ⌜sc1.view.read (Elt F) b1 = sc1.view.read (Elt F) a1⌝ ∗ (sc1.view.loc (c : Thread nD τ) ↦{fullShare} b1))) -∗ K ⟨⟩))
      ⊢ wp frame (wpE (defs₀ (F := F)) Variants.none c none) Set.univ (cc0_experts i tb0 (Memref.isWhole_whole _) tb1 (Memref.isWhole_whole _) tb2 (Memref.isWhole_whole _) tb3 (Memref.isWhole_whole _) arg6 harg6 arg7 harg7 arg8 harg8 arg9 harg9 arg10 harg10 arg11 harg11 sc0 (Memref.isWhole_whole _) sc1 (Memref.isWhole_whole _)) K := by
  unfold owns
  rw [cc0_experts_eq_skeleton]; unfold cc0_experts_skel
  iintro ⟨⟨H0, H1, H2, H3, H4, HT0, HT1, HT2, HT3⟩, ⟨%f5, %hf5, HO⟩, HS0, HS1, Hk⟩
  obtain rfl := harg11.eq_unread hf5
  have hS0 : sc0.IsWhole := Memref.isWhole_whole _
  have hS1 : sc1.IsWhole := Memref.isWhole_whole _
  have hT0 : tb0.IsWhole := Memref.isWhole_whole _
  have hT1 : tb1.IsWhole := Memref.isWhole_whole _
  have hT2 : tb2.IsWhole := Memref.isWhole_whole _
  have hT3 : tb3.IsWhole := Memref.isWhole_whole _
  sl_exec! (disch := first | (guard_target = ¬(k0_cond1 _ = _); exact h1) | (guard_target = ¬(Scalar.cmpi = _); exact h2) | (guard_target = k0_cond3 _ = _; exact h3) | (guard_target = ¬(k0_cond4 _ = _); exact h4))
  sl_step
  iapply Hk
  isplitl [H0 H1 H2 H3 H4 HT0 HT1 HT2 HT3]
  · isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    iexact HT3
  isplitl [HO]
  · iexists _
    isplitr
    rotate_left
    · iexact HO
    · ipureintro
      repeat (first | delta runn1.sl.HO_2 | delta runn1.sl.HO_1 | delta runn1.sl.HS0_1 | delta runn1.sl.HS1_1 | delta runn1.sl.r | delta runn1.sl.r_1 | delta runn1.sl.r_2 | delta runn1.sl.r_3 | delta runn1.sl.r_4 | delta runn1.sl.r_5 | delta runn1.sl.v16 | delta runn1.sl.v21 | delta runn1.sl.v102 | delta runn1.sl.v17 | delta runn1.sl.v22 | delta runn1.sl.v27 | delta runn1.sl.v104)
      rw [View.read_writes_cons_put _ _ _ _ _ rfl]
      simp -proj only [View.writes_nil, View.readCov, readAt_win]
      simp -proj only [View.read_writes_full, View.read_rep, harg11.read_unread]
      simp -proj only [win_full]
      rfl
  isplitl [HS0]
  · iexists _
    isplitr
    rotate_left
    · iexact HS0
    · ipureintro
      rfl
  · iexists _
    isplitr
    rotate_left
    · iexact HS1
    · ipureintro
      rfl

set_option backward.proofsInPublic true in
set_option maxHeartbeats 8000000 in
/-- Later step of a full tile. -/
theorem runn2 (c : Dev nD) (i : grid0.Coords)
    (arg6 : Memref sig .tc .vmem S512x1024 .i32) (harg6 : arg6.IsWhole) (arg7 : Memref sig .tc .vmem S1x2048x1024 .f32) (harg7 : arg7.IsWhole)
    (arg8 : Memref sig .tc .vmem S1x512x2048 .f32) (harg8 : arg8.IsWhole) (arg9 : Memref sig .tc .vmem S1x1x1024 .f32) (harg9 : arg9.IsWhole)
    (arg10 : Memref sig .tc .vmem S1x1x2048 .f32) (harg10 : arg10.IsWhole) (arg11 : Memref sig .tc .vmem S512x2048 .f32) (harg11 : arg11.IsWhole)
    (T0 T1 T2 : S96.Idx → Elt F .i32) (T3 : S1.Idx → Elt F .i32)
    (x0 : S512x1024.Idx → Elt F .i32) (x1 : S1x2048x1024.Idx → Elt F .f32) (x2 : S1x512x2048.Idx → Elt F .f32)
    (x3 : S1x1x1024.Idx → Elt F .f32) (x4 : S1x1x2048.Idx → Elt F .f32) (xo : S512x2048.Idx → Elt F .f32)
    (a0 : Buf (Elt F) ((c : Thread nD τ).loc cc0_scratch0)) (a1 : Buf (Elt F) ((c : Thread nD τ).loc cc0_scratch1))
    (h1 : ¬ k0_cond1 i = 1#1) (h2 : ¬ cond2 i (nsW i T1) = 1#1) (h3 : ¬ k0_cond3 (nsW i T1) = 1#1) (h4 : k0_cond4 (nsW i T1) = 1#1)
    (K : PUnit → sProp 𝕄) :
    iprop(held c arg6 arg7 arg8 arg9 arg10 T0 T1 T2 T3 x0 x1 x2 x3 x4
      ∗ owns (c : Thread nD τ) arg11 fullShare xo
      ∗ (sc0.view.loc (c : Thread nD τ) ↦{fullShare} a0)
      ∗ (sc1.view.loc (c : Thread nD τ) ↦{fullShare} a1)
      ∗ (iprop(held c arg6 arg7 arg8 arg9 arg10 T0 T1 T2 T3 x0 x1 x2 x3 x4
          ∗ owns (c : Thread nD τ) arg11 fullShare (stepFull xo (sc0.view.read (Elt F) a0) (sc1.view.read (Elt F) a1) x1 x2 x3)
          ∗ (∃ b0 : Buf (Elt F) ((c : Thread nD τ).loc cc0_scratch0), ⌜sc0.view.read (Elt F) b0 = sc0.view.read (Elt F) a0⌝ ∗ (sc0.view.loc (c : Thread nD τ) ↦{fullShare} b0))
          ∗ (∃ b1 : Buf (Elt F) ((c : Thread nD τ).loc cc0_scratch1), ⌜sc1.view.read (Elt F) b1 = sc1.view.read (Elt F) a1⌝ ∗ (sc1.view.loc (c : Thread nD τ) ↦{fullShare} b1))) -∗ K ⟨⟩))
      ⊢ wp frame (wpE (defs₀ (F := F)) Variants.none c none) Set.univ (cc0_experts i tb0 (Memref.isWhole_whole _) tb1 (Memref.isWhole_whole _) tb2 (Memref.isWhole_whole _) tb3 (Memref.isWhole_whole _) arg6 harg6 arg7 harg7 arg8 harg8 arg9 harg9 arg10 harg10 arg11 harg11 sc0 (Memref.isWhole_whole _) sc1 (Memref.isWhole_whole _)) K := by
  unfold owns
  rw [cc0_experts_eq_skeleton]; unfold cc0_experts_skel
  iintro ⟨⟨H0, H1, H2, H3, H4, HT0, HT1, HT2, HT3⟩, ⟨%f5, %hf5, HO⟩, HS0, HS1, Hk⟩
  obtain rfl := harg11.eq_unread hf5
  have hS0 : sc0.IsWhole := Memref.isWhole_whole _
  have hS1 : sc1.IsWhole := Memref.isWhole_whole _
  have hT0 : tb0.IsWhole := Memref.isWhole_whole _
  have hT1 : tb1.IsWhole := Memref.isWhole_whole _
  have hT2 : tb2.IsWhole := Memref.isWhole_whole _
  have hT3 : tb3.IsWhole := Memref.isWhole_whole _
  sl_exec! (disch := first | (guard_target = ¬(k0_cond1 _ = _); exact h1) | (guard_target = ¬(Scalar.cmpi = _); exact h2) | (guard_target = ¬(k0_cond3 _ = _); exact h3) | (guard_target = k0_cond4 _ = _; exact h4))
  sl_step
  iapply Hk
  isplitl [H0 H1 H2 H3 H4 HT0 HT1 HT2 HT3]
  · isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    iexact HT3
  isplitl [HO]
  · iexists _
    isplitr
    rotate_left
    · iexact HO
    · ipureintro
      repeat (first | delta runn2.sl.HO_2 | delta runn2.sl.HO_1 | delta runn2.sl.HS0_1 | delta runn2.sl.HS1_1 | delta runn2.sl.r | delta runn2.sl.r_1 | delta runn2.sl.r_2 | delta runn2.sl.r_3 | delta runn2.sl.r_4 | delta runn2.sl.r_5 | delta runn2.sl.v16 | delta runn2.sl.v21 | delta runn2.sl.v102 | delta runn2.sl.v17 | delta runn2.sl.v22 | delta runn2.sl.v27 | delta runn2.sl.v104)
      simp -proj only [View.readCov, readAt_win]
      simp -proj only [View.read_writes_full, View.read_rep, harg11.read_unread]
      simp -proj only [win_full]
      rfl
  isplitl [HS0]
  · iexists _
    isplitr
    rotate_left
    · iexact HS0
    · ipureintro
      rfl
  · iexists _
    isplitr
    rotate_left
    · iexact HS1
    · ipureintro
      rfl

end Cert.KernelIdeal.Experts

end
-- ==== Proof.Experts.Cfg.lean ====
module

public import proofs.«01_k».proof.Proof.Experts.Runs

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The grid's coordinates -/

theorem coords_tile (t : Fin grid0.N) : (grid0.coords t 0).val = t.val / 4 := by
  have hN : grid0.N = 384 := N_0
  have ht := t.isLt
  show t.val / grid0.stride 0 % 96 = _
  rw [show grid0.stride 0 = 4 from by decide]
  omega

theorem coords_step (t : Fin grid0.N) : (grid0.coords t 1).val = t.val % 4 := by
  show t.val / grid0.stride 1 % 4 = _
  rw [show grid0.stride 1 = 1 from by decide, Nat.div_one]

/-! ## The tables -/

/-- The multi-index of tile `n` in a table of a word per tile. -/
def at96 (n : ℕ) (h : n < 96) : S96.Idx := fun a => ⟨n, by
  have : S96.size a = 96 := by fin_cases a; rfl
  omega⟩
/-- The one multi-index of the table of one word. -/
def at1 : S1.Idx := fun a => ⟨0, by
  have : S1.size a = 1 := by fin_cases a; rfl
  omega⟩

theorem tile_lt (i : grid0.Coords) : (i 0).val < 96 := (i 0).isLt
theorem step_lt (i : grid0.Coords) : (i 1).val < 4 := (i 1).isLt

/-- What the claims assume of the tables. -/
structure TabOk (T0 T1 : S96.Idx → BitVec 32) (T3 : S1.Idx → BitVec 32) : Prop where
  be : ∀ n h, (T0 (at96 n h)).toNat < 32
  ns : ∀ n h, T1 (at96 n h) = 0#32 ∨ T1 (at96 n h) = 1#32 ∨ T1 (at96 n h) = 2#32
  nu1 : 1 ≤ (T3 at1).toNat
  nu2 : (T3 at1).toNat ≤ 96
  used : ∀ n h, n < (T3 at1).toNat ∨ T1 (at96 n h) = 0#32

theorem off1_val (i : grid0.Coords) (a : Fin 1) : k0_off1 i a = (i 0).val := by
  have h := tile_lt i
  fin_cases a
  show (BitVec.ofNat 32 (i 0).val).toNat = _
  simp only [BitVec.toNat_ofNat]
  omega

theorem word_at (i : grid0.Coords) (h) (h1 : S1.numel = 1) :
    ((Rect.unit (s := S96) (k0_off1 i) S1.size h).emb (Shape.Idx.first (h1.symm ▸ Nat.one_pos))) = at96 (i 0).val (tile_lt i) := by
  funext a
  apply Fin.ext
  show k0_off1 i a + 1 * 0 = (i 0).val
  rw [off1_val]; omega

theorem word_one (h) (h1 : S1.numel = 1) :
    ((Rect.unit (s := S1) ![0] S1.size h).emb (Shape.Idx.first (h1.symm ▸ Nat.one_pos))) = at1 := by
  funext a
  apply Fin.ext
  fin_cases a
  rfl

theorem nsW_eq (i : grid0.Coords) (T1 : S96.Idx → Elt F .i32) : nsW i T1 = T1 (at96 (i 0).val (tile_lt i)) := by
  rw [← word_at i (k0_off1_inb i) numel1_S1]
  rfl

theorem atD_eq (pf : pre0.Contents (Elt F)) (i : grid0.Coords) : pf.atD 1 (k0_off1 i) = (pf 1 : S96.Idx → Elt F .i32) (at96 (i 0).val (tile_lt i)) := by
  have hl : ∀ a : Fin 1, k0_off1 i a < S96.size a := fun a => by
    rw [off1_val]; fin_cases a; exact tile_lt i
  have hd : pf.atD 1 (k0_off1 i) = (pf 1 : S96.Idx → Elt F .i32) (fun a => ⟨k0_off1 i a, hl a⟩) := dif_pos hl
  rw [hd]
  exact congrArg (pf 1 : S96.Idx → Elt F .i32) (funext fun a => Fin.ext (off1_val i a))

/-- The tile of the hidden features the weights of a step are cut from. -/
def tileW (rev nu : BitVec 32) (j f : ℕ) : BitVec 32 :=
  Scalar.select (Scalar.cmpi .slt (BitVec.ofNat 32 j) nu)
    (Scalar.select (Scalar.cmpi .eq rev 1#32) (Scalar.subi 3#32 (BitVec.ofNat 32 f)) (BitVec.ofNat 32 f))
    (Scalar.select (Scalar.cmpi .eq rev 1#32) 0#32 3#32)

theorem tileW_lt (rev nu : BitVec 32) (j f : ℕ) (hf : f < 4) : (tileW rev nu j f).toNat < 4 := by
  unfold tileW
  generalize Scalar.cmpi .slt (BitVec.ofNat 32 j) nu = c
  generalize Scalar.cmpi .eq rev 1#32 = d
  rcases (show f = 0 ∨ f = 1 ∨ f = 2 ∨ f = 3 by omega) with rfl | rfl | rfl | rfl <;> revert c d <;> decide

/-- The block of words a step's tile reads. -/
def rowsW (nu : BitVec 32) (j : ℕ) : BitVec 32 := Scalar.minsi (BitVec.ofNat 32 j) (Scalar.subi nu 1#32)

theorem rowsW_lt (nu : BitVec 32) (j : ℕ) (hj : j < 96) (h1 : 1 ≤ nu.toNat) (h2 : nu.toNat ≤ 96) : (rowsW nu j).toNat < 96 := by
  have hs : (nu - 1#32).toNat = nu.toNat - 1 := by
    rw [BitVec.toNat_sub_of_le (by rw [BitVec.le_def]; exact h1)]; rfl
  have hb : (BitVec.ofNat 32 j).toNat = j := by simp only [BitVec.toNat_ofNat]; omega
  unfold rowsW Scalar.minsi IntOp.minsi
  split
  · omega
  · show (nu - 1#32).toNat < 96
    omega

theorem tr0 (pf : pre0.Contents (Elt F)) (i : grid0.Coords) :
    cc0_transform_0 inb_S1_S1_0 numel1_S1 pf i = ![(rowsW ((pf 3 : S1.Idx → Elt F .i32) at1) (i 0).val).toNat, 0] := by
  rw [← word_one inb_S1_S1_0 numel1_S1]
  rfl
theorem tr1 (pf : pre0.Contents (Elt F)) (i : grid0.Coords) :
    cc0_transform_1 k0_off1_inb numel1_S1 inb_S1_S1_0 pf i = ![((pf 0 : S96.Idx → Elt F .i32) (at96 (i 0).val (tile_lt i)) : BitVec 32).toNat, 0,
      (tileW ((pf 2 : S96.Idx → Elt F .i32) (at96 (i 0).val (tile_lt i))) ((pf 3 : S1.Idx → Elt F .i32) at1) (i 0).val (i 1).val).toNat] := by
  rw [← word_at i (k0_off1_inb i) numel1_S1, ← word_one inb_S1_S1_0 numel1_S1]
  rfl
theorem tr2 (pf : pre0.Contents (Elt F)) (i : grid0.Coords) :
    cc0_transform_2 k0_off1_inb numel1_S1 inb_S1_S1_0 pf i = ![((pf 0 : S96.Idx → Elt F .i32) (at96 (i 0).val (tile_lt i)) : BitVec 32).toNat,
      (tileW ((pf 2 : S96.Idx → Elt F .i32) (at96 (i 0).val (tile_lt i))) ((pf 3 : S1.Idx → Elt F .i32) at1) (i 0).val (i 1).val).toNat, 0] := by
  rw [← word_at i (k0_off1_inb i) numel1_S1, ← word_one inb_S1_S1_0 numel1_S1]
  rfl
theorem tr3 (pf : pre0.Contents (Elt F)) (i : grid0.Coords) :
    cc0_transform_3 k0_off1_inb numel1_S1 inb_S1_S1_0 pf i = ![((pf 0 : S96.Idx → Elt F .i32) (at96 (i 0).val (tile_lt i)) : BitVec 32).toNat, 0,
      (tileW ((pf 2 : S96.Idx → Elt F .i32) (at96 (i 0).val (tile_lt i))) ((pf 3 : S1.Idx → Elt F .i32) at1) (i 0).val (i 1).val).toNat] := by
  rw [← word_at i (k0_off1_inb i) numel1_S1, ← word_one inb_S1_S1_0 numel1_S1]
  rfl
theorem tr4 (pf : pre0.Contents (Elt F)) (i : grid0.Coords) :
    cc0_transform_4 k0_off1_inb numel1_S1 pf i = ![((pf 0 : S96.Idx → Elt F .i32) (at96 (i 0).val (tile_lt i)) : BitVec 32).toNat, 0, 0] := by
  rw [← word_at i (k0_off1_inb i) numel1_S1]
  rfl
theorem tr5 (i : grid0.Coords) : cc0_transform_5 i = ![(i 0).val, 0] := by
  have h := tile_lt i
  have : (BitVec.ofNat 32 (i 0).val).toNat = (i 0).val := by simp only [BitVec.toNat_ofNat]; omega
  show ![(BitVec.ofNat 32 (i 0).val).toNat, 0] = _
  rw [this]

/-- The tables as the region reads them. -/
abbrev PfOk (pf : pre0.Contents (Elt F)) : Prop :=
  TabOk (pf 0 : S96.Idx → Elt F .i32) (pf 1 : S96.Idx → Elt F .i32) (pf 3 : S1.Idx → Elt F .i32)

/-- Every window's block lies inside its array, whatever the point. -/
theorem ok_of (pf : pre0.Contents (Elt F)) (h : PfOk pf) : ok0 pf := by
  refine ⟨fun i => ⟨?_, .inl rfl⟩, fun i => ⟨?_, .inl rfl⟩, fun i => ⟨?_, .inl rfl⟩, fun i => ⟨?_, .inl rfl⟩, fun i => ⟨?_, .inl rfl⟩⟩ <;> intro a
  · have hr := rowsW_lt _ _ (tile_lt i) h.nu1 h.nu2
    rw [tr0]
    fin_cases a
    · show (_ + 1) * 512 ≤ 49152
      refine le_trans (Nat.mul_le_mul_right 512 (Nat.succ_le_of_lt hr)) (by decide)
    · show (0 + 1) * 1024 ≤ 1024
      decide
  all_goals have hb := h.be _ (tile_lt i)
  · have ht := tileW_lt ((pf 2 : S96.Idx → Elt F .i32) (at96 (i 0).val (tile_lt i))) ((pf 3 : S1.Idx → Elt F .i32) at1) (i 0).val _ (step_lt i)
    rw [tr1]
    fin_cases a
    · show (_ + 1) * 1 ≤ 32
      rw [Nat.mul_one]; exact hb
    · show (0 + 1) * 2048 ≤ 2048
      decide
    · show (_ + 1) * 1024 ≤ 4096
      exact le_trans (Nat.mul_le_mul_right 1024 (Nat.succ_le_of_lt ht)) (by decide)
  · have ht := tileW_lt ((pf 2 : S96.Idx → Elt F .i32) (at96 (i 0).val (tile_lt i))) ((pf 3 : S1.Idx → Elt F .i32) at1) (i 0).val _ (step_lt i)
    rw [tr2]
    fin_cases a
    · show (_ + 1) * 1 ≤ 32
      rw [Nat.mul_one]; exact hb
    · show (_ + 1) * 512 ≤ 2048
      exact le_trans (Nat.mul_le_mul_right 512 (Nat.succ_le_of_lt ht)) (by decide)
    · show (0 + 1) * 2048 ≤ 2048
      decide
  · have ht := tileW_lt ((pf 2 : S96.Idx → Elt F .i32) (at96 (i 0).val (tile_lt i))) ((pf 3 : S1.Idx → Elt F .i32) at1) (i 0).val _ (step_lt i)
    rw [tr3]
    fin_cases a
    · show (_ + 1) * 1 ≤ 32
      rw [Nat.mul_one]; exact hb
    · show (0 + 1) * 1 ≤ 1
      decide
    · show (_ + 1) * 1024 ≤ 4096
      exact le_trans (Nat.mul_le_mul_right 1024 (Nat.succ_le_of_lt ht)) (by decide)
  · rw [tr4]
    fin_cases a
    · show (_ + 1) * 1 ≤ 32
      rw [Nat.mul_one]; exact hb
    · show (0 + 1) * 1 ≤ 1
      decide
    · show (0 + 1) * 2048 ≤ 2048
      decide

/-! ## The step's conditions -/

theorem cond1_iff (i : grid0.Coords) : k0_cond1 i = 1#1 ↔ (i 1).val = 0 := by
  have h := step_lt i
  unfold k0_cond1
  generalize (i 1).val = f at h
  rcases (show f = 0 ∨ f = 1 ∨ f = 2 ∨ f = 3 by omega) with rfl | rfl | rfl | rfl <;> decide

theorem cond2_iff (i : grid0.Coords) (v : BitVec 32) (hv : v = 0#32 ∨ v = 1#32 ∨ v = 2#32) :
    cond2 i v = 1#1 ↔ ((i 1).val = 0 ∧ v ≠ 0#32) := by
  have h := step_lt i
  unfold cond2
  generalize (i 1).val = f at h
  rcases hv with rfl | rfl | rfl <;> rcases (show f = 0 ∨ f = 1 ∨ f = 2 ∨ f = 3 by omega) with rfl | rfl | rfl | rfl <;> decide

theorem cond3_iff (v : BitVec 32) (hv : v = 0#32 ∨ v = 1#32 ∨ v = 2#32) : k0_cond3 v = 1#1 ↔ v = 1#32 := by
  rcases hv with rfl | rfl | rfl <;> decide

theorem cond4_iff (v : BitVec 32) (hv : v = 0#32 ∨ v = 1#32 ∨ v = 2#32) : k0_cond4 v = 1#1 ↔ v = 2#32 := by
  rcases hv with rfl | rfl | rfl <;> decide

end Cert.KernelIdeal.Experts

end
-- ==== Proof.Experts.Pre.lean ====
module

public import proofs.«01_k».proof.Proof.Experts.Cfg
public import proofs.«01_k».proof.Pre_tables_ok
public import proofs.«01_k».proof.Proof.Gen.Pre_tables_ok
public import Idealize.ShloMosaic.Lib.ReduceAll

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

theorem int_range (x : BitVec 32) (b : ℕ) (hb : b < 2 ^ 31) (h0 : 0 ≤ x.toInt) (h1 : x.toInt < b) : x.toNat < b := by
  rw [BitVec.toInt_eq_toNat_cond] at h0 h1
  have := x.isLt
  split at h0 <;> rename_i h <;> simp only [h, ite_true, ite_false] at h1 <;> omega

theorem one_eq (x y : S1.Idx) : x = y := by
  funext a
  apply Fin.ext
  have hx := (x a).isLt
  have hy := (y a).isLt
  have : S1.size a = 1 := by fin_cases a; rfl
  omega

/-- The precondition read back: what it says of the tables. -/
theorem tabOk_of_pre (T0 T1 T2 : S96.Idx → BitVec 32) (T3 : S1.Idx → BitVec 32) (X : Cert.Pre_tables_ok.S49152x1024.Idx → BitVec 32)
    (A : FVec F Cert.Pre_tables_ok.S32x2048x4096 .f32) (B : FVec F Cert.Pre_tables_ok.S32x2048x2048 .f32)
    (C : FVec F Cert.Pre_tables_ok.S32x1x4096 .f32) (D : FVec F Cert.Pre_tables_ok.S32x1x2048 .f32)
    (h : Cert.Pre_tables_ok.fn (F := F) T0 T1 T2 T3 X A B C D = fun _ => 1#1) : TabOk T0 T1 T3 := by
  haveI : Subsingleton Cert.Pre_tables_ok.S_.Idx := ⟨fun a b => funext fun x => x.elim0⟩
  have h0 := congrFun h (fun a => a.elim0)
  unfold Cert.Pre_tables_ok.fn Cert.Pre_tables_ok.fn_part1 at h0
  dsimp only at h0
  obtain ⟨h1, h27⟩ := IntOp.andi_eq_one.1 h0
  obtain ⟨h13, h19⟩ := IntOp.andi_eq_one.1 h1
  obtain ⟨h6, h12⟩ := IntOp.andi_eq_one.1 h13
  have a6 := fun i => IntOp.andi_eq_one.1 (Host.reduce_andi_all _ _ _ _ _ h6 i)
  have a12 := fun i => IntOp.andi_eq_one.1 (Host.reduce_andi_all _ _ _ _ _ h12 i)
  have a19 := IntOp.andi_eq_one.1 (Host.reduce_andi_all _ _ _ _ _ h19 at1)
  have a27 := fun i => Host.reduce_andi_all _ _ _ _ _ h27 i
  have n1 : 1 ≤ (T3 at1).toInt := IntOp.cmpi_sge.1 a19.1
  have n2 : (T3 at1).toInt ≤ 96 := IntOp.cmpi_sle.1 a19.2
  have nu : (T3 at1).toNat < 97 := int_range _ 97 (by decide) (by omega) (by omega)
  refine ⟨fun n hn => ?_, fun n hn => ?_, ?_, by omega, fun n hn => ?_⟩
  · have e1 : 0 ≤ (T0 (at96 n hn)).toInt := IntOp.cmpi_sge.1 (a6 (at96 n hn)).1
    have e2 : (T0 (at96 n hn)).toInt < 32 := IntOp.cmpi_slt.1 (a6 (at96 n hn)).2
    exact int_range _ 32 (by decide) e1 e2
  · have e1 : 0 ≤ (T1 (at96 n hn)).toInt := IntOp.cmpi_sge.1 (a12 (at96 n hn)).1
    have e2 : (T1 (at96 n hn)).toInt ≤ 2 := IntOp.cmpi_sle.1 (a12 (at96 n hn)).2
    have e3 := int_range _ 3 (by decide) e1 (by omega)
    generalize T1 (at96 n hn) = v at e3
    rcases (show v.toNat = 0 ∨ v.toNat = 1 ∨ v.toNat = 2 by omega) with e | e | e
    · left; exact BitVec.eq_of_toNat_eq e
    · right; left; exact BitVec.eq_of_toNat_eq e
    · right; right; exact BitVec.eq_of_toNat_eq e
  · rw [BitVec.toInt_eq_toNat_cond] at n1
    split at n1 <;> omega
  · have e := a27 (at96 n hn)
    have e' : IntOp.ori (IntOp.cmpi .slt (BitVec.ofNat 32 n) (T3 at1)) (IntOp.cmpi .eq (T1 (at96 n hn)) 0#32) = 1#1 := by
      refine Eq.trans ?_ e
      show _ = IntOp.ori (IntOp.cmpi .slt _ (T3 _)) (IntOp.cmpi .eq _ _)
      congr 3
      exact one_eq _ _
    by_cases c : IntOp.cmpi .eq (T1 (at96 n hn)) 0#32 = 1#1
    · right; exact IntOp.cmpi_eq.1 c
    · left
      have c1 : IntOp.cmpi .slt (BitVec.ofNat 32 n) (T3 at1) = 1#1 := by
        revert e' c
        generalize IntOp.cmpi .slt (BitVec.ofNat 32 n) (T3 at1) = p
        generalize IntOp.cmpi .eq (T1 (at96 n hn)) 0#32 = q
        revert p q; decide
      have c2 : (BitVec.ofNat 32 n).toInt < (T3 at1).toInt := IntOp.cmpi_slt.1 c1
      rw [BitVec.toInt_eq_toNat_cond, BitVec.toInt_eq_toNat_cond, BitVec.toNat_ofNat] at c2
      rw [if_pos (by omega), if_pos (by omega)] at c2
      omega

end Cert.KernelIdeal.Experts

end
-- ==== Proof.Experts.Step.lean ====
module

public import proofs.«01_k».proof.Proof.Experts.Cfg

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- A step applied to an output block: by the number of half tiles that hold rows. -/
def applyStep (w : BitVec 32) (y : S512x2048.Idx → Elt F .f32) (a0 a1 : S512x1024.Idx → Elt F .bf16) (x1 : S1x2048x1024.Idx → Elt F .f32)
    (x2 : S1x512x2048.Idx → Elt F .f32) (x3 : S1x1x1024.Idx → Elt F .f32) : S512x2048.Idx → Elt F .f32 :=
  if w = 1#32 then stepHalf y a0 a1 x1 x2 x3 else if w = 2#32 then stepFull y a0 a1 x1 x2 x3 else y

/-- What the output block holds after a point, from what it held before and the point's blocks. -/
def nextOut (f : ℕ) (w : BitVec 32) (y : S512x2048.Idx → Elt F .f32) (x0 : S512x1024.Idx → Elt F .i32) (x1 : S1x2048x1024.Idx → Elt F .f32)
    (x2 : S1x512x2048.Idx → Elt F .f32) (x3 : S1x1x1024.Idx → Elt F .f32) (x4 : S1x1x2048.Idx → Elt F .f32) : S512x2048.Idx → Elt F .f32 :=
  applyStep w (if f = 0 then k0_pay1 x4 else y) (k0_pay2 x0) (k0_pay3 x0) x1 x2 x3

set_option backward.proofsInPublic true in
set_option maxHeartbeats 4000000 in
/-- The body at any point, whichever of its six paths it takes. -/
theorem run_any (c : Dev nD) (i : grid0.Coords)
    (arg6 : Memref sig .tc .vmem S512x1024 .i32) (harg6 : arg6.IsWhole) (arg7 : Memref sig .tc .vmem S1x2048x1024 .f32) (harg7 : arg7.IsWhole)
    (arg8 : Memref sig .tc .vmem S1x512x2048 .f32) (harg8 : arg8.IsWhole) (arg9 : Memref sig .tc .vmem S1x1x1024 .f32) (harg9 : arg9.IsWhole)
    (arg10 : Memref sig .tc .vmem S1x1x2048 .f32) (harg10 : arg10.IsWhole) (arg11 : Memref sig .tc .vmem S512x2048 .f32) (harg11 : arg11.IsWhole)
    (T0 T1 T2 : S96.Idx → Elt F .i32) (T3 : S1.Idx → Elt F .i32)
    (x0 : S512x1024.Idx → Elt F .i32) (x1 : S1x2048x1024.Idx → Elt F .f32) (x2 : S1x512x2048.Idx → Elt F .f32)
    (x3 : S1x1x1024.Idx → Elt F .f32) (x4 : S1x1x2048.Idx → Elt F .f32) (xo : S512x2048.Idx → Elt F .f32)
    (a0 : Buf (Elt F) ((c : Thread nD τ).loc cc0_scratch0)) (a1 : Buf (Elt F) ((c : Thread nD τ).loc cc0_scratch1))
    (hw : nsW i T1 = 0#32 ∨ nsW i T1 = 1#32 ∨ nsW i T1 = 2#32)
    (hs : (i 1).val ≠ 0 → nsW i T1 ≠ 0#32 → sc0.view.read (Elt F) a0 = k0_pay2 x0 ∧ sc1.view.read (Elt F) a1 = k0_pay3 x0)
    (K : PUnit → sProp 𝕄) :
    iprop(held c arg6 arg7 arg8 arg9 arg10 T0 T1 T2 T3 x0 x1 x2 x3 x4
      ∗ owns (c : Thread nD τ) arg11 fullShare xo
      ∗ (sc0.view.loc (c : Thread nD τ) ↦{fullShare} a0)
      ∗ (sc1.view.loc (c : Thread nD τ) ↦{fullShare} a1)
      ∗ (iprop(held c arg6 arg7 arg8 arg9 arg10 T0 T1 T2 T3 x0 x1 x2 x3 x4
          ∗ owns (c : Thread nD τ) arg11 fullShare (nextOut (i 1).val (nsW i T1) xo x0 x1 x2 x3 x4)
          ∗ (∃ b0 : Buf (Elt F) ((c : Thread nD τ).loc cc0_scratch0), ⌜nsW i T1 ≠ 0#32 → sc0.view.read (Elt F) b0 = k0_pay2 x0⌝ ∗ (sc0.view.loc (c : Thread nD τ) ↦{fullShare} b0))
          ∗ (∃ b1 : Buf (Elt F) ((c : Thread nD τ).loc cc0_scratch1), ⌜nsW i T1 ≠ 0#32 → sc1.view.read (Elt F) b1 = k0_pay3 x0⌝ ∗ (sc1.view.loc (c : Thread nD τ) ↦{fullShare} b1))) -∗ K ⟨⟩))
      ⊢ wp frame (wpE (defs₀ (F := F)) Variants.none c none) Set.univ (cc0_experts i tb0 (Memref.isWhole_whole _) tb1 (Memref.isWhole_whole _) tb2 (Memref.isWhole_whole _) tb3 (Memref.isWhole_whole _) arg6 harg6 arg7 harg7 arg8 harg8 arg9 harg9 arg10 harg10 arg11 harg11 sc0 (Memref.isWhole_whole _) sc1 (Memref.isWhole_whole _)) K := by
  have hw' := hw
  have c1 := cond1_iff i
  have c2 := cond2_iff i (nsW i T1) hw
  have c3 := cond3_iff (nsW i T1) hw
  have c4 := cond4_iff (nsW i T1) hw
  by_cases hf : (i 1).val = 0
  · rcases hw' with hw' | hw' | hw'
    · have hz := hw'
      have hY : nextOut (i 1).val (nsW i T1) xo x0 x1 x2 x3 x4 = k0_pay1 x4 := by
        unfold nextOut applyStep; rw [hz, if_pos hf, if_neg (show ¬ (0#32 = 1#32) by decide), if_neg (show ¬ (0#32 = 2#32) by decide)]
      rw [hY]
      iintro ⟨Hh, HO, HS0, HS1, Hk⟩
      iapply (run00 c i arg6 harg6 arg7 harg7 arg8 harg8 arg9 harg9 arg10 harg10 arg11 harg11 T0 T1 T2 T3 x0 x1 x2 x3 x4 xo a0 a1 (c1.2 hf) (fun h => (c2.1 h).2 hz) (fun h => absurd (hz.symm.trans (c3.1 h)) (by decide)) (fun h => absurd (hz.symm.trans (c4.1 h)) (by decide)) K)
      isplitl [Hh]; · iexact Hh
      isplitl [HO]; · iexact HO
      isplitl [HS0]; · iexact HS0
      isplitl [HS1]; · iexact HS1
      iintro ⟨Hh, HO, ⟨%b0, %hb0, HS0⟩, ⟨%b1, %hb1, HS1⟩⟩
      iapply Hk
      isplitl [Hh]; · iexact Hh
      isplitl [HO]; · iexact HO
      isplitl [HS0]
      · iexists b0; isplitr; swap
        · iexact HS0
        · ipureintro; intro hn; exact absurd hz hn
      · iexists b1; isplitr; swap
        · iexact HS1
        · ipureintro; intro hn; exact absurd hz hn
    · have hz := hw'
      have hY : nextOut (i 1).val (nsW i T1) xo x0 x1 x2 x3 x4 = stepHalf (k0_pay1 x4) (k0_pay2 x0) (k0_pay3 x0) x1 x2 x3 := by
        unfold nextOut applyStep; rw [hz, if_pos hf, if_pos (rfl : (1#32 : BitVec 32) = 1#32)]
      rw [hY]
      iintro ⟨Hh, HO, HS0, HS1, Hk⟩
      iapply (run01 c i arg6 harg6 arg7 harg7 arg8 harg8 arg9 harg9 arg10 harg10 arg11 harg11 T0 T1 T2 T3 x0 x1 x2 x3 x4 xo a0 a1 (c1.2 hf) (c2.2 ⟨hf, by rw [hz]; decide⟩) (c3.2 hz) (fun h => absurd (hz.symm.trans (c4.1 h)) (by decide)) K)
      isplitl [Hh]; · iexact Hh
      isplitl [HO]; · iexact HO
      isplitl [HS0]; · iexact HS0
      isplitl [HS1]; · iexact HS1
      iintro ⟨Hh, HO, ⟨%b0, %hb0, HS0⟩, ⟨%b1, %hb1, HS1⟩⟩
      iapply Hk
      isplitl [Hh]; · iexact Hh
      isplitl [HO]; · iexact HO
      isplitl [HS0]
      · iexists b0; isplitr; swap
        · iexact HS0
        · ipureintro; intro _; exact hb0
      · iexists b1; isplitr; swap
        · iexact HS1
        · ipureintro; intro _; exact hb1
    · have hz := hw'
      have hY : nextOut (i 1).val (nsW i T1) xo x0 x1 x2 x3 x4 = stepFull (k0_pay1 x4) (k0_pay2 x0) (k0_pay3 x0) x1 x2 x3 := by
        unfold nextOut applyStep; rw [hz, if_pos hf, if_neg (show ¬ (2#32 = 1#32) by decide), if_pos (rfl : (2#32 : BitVec 32) = 2#32)]
      rw [hY]
      iintro ⟨Hh, HO, HS0, HS1, Hk⟩
      iapply (run02 c i arg6 harg6 arg7 harg7 arg8 harg8 arg9 harg9 arg10 harg10 arg11 harg11 T0 T1 T2 T3 x0 x1 x2 x3 x4 xo a0 a1 (c1.2 hf) (c2.2 ⟨hf, by rw [hz]; decide⟩) (fun h => absurd (hz.symm.trans (c3.1 h)) (by decide)) (c4.2 hz) K)
      isplitl [Hh]; · iexact Hh
      isplitl [HO]; · iexact HO
      isplitl [HS0]; · iexact HS0
      isplitl [HS1]; · iexact HS1
      iintro ⟨Hh, HO, ⟨%b0, %hb0, HS0⟩, ⟨%b1, %hb1, HS1⟩⟩
      iapply Hk
      isplitl [Hh]; · iexact Hh
      isplitl [HO]; · iexact HO
      isplitl [HS0]
      · iexists b0; isplitr; swap
        · iexact HS0
        · ipureintro; intro _; exact hb0
      · iexists b1; isplitr; swap
        · iexact HS1
        · ipureintro; intro _; exact hb1
  · rcases hw' with hw' | hw' | hw'
    · have hz := hw'
      have hY : nextOut (i 1).val (nsW i T1) xo x0 x1 x2 x3 x4 = xo := by
        unfold nextOut applyStep; rw [hz, if_neg hf, if_neg (show ¬ (0#32 = 1#32) by decide), if_neg (show ¬ (0#32 = 2#32) by decide)]
      rw [hY]
      iintro ⟨Hh, HO, HS0, HS1, Hk⟩
      iapply (runn0 c i arg6 harg6 arg7 harg7 arg8 harg8 arg9 harg9 arg10 harg10 arg11 harg11 T0 T1 T2 T3 x0 x1 x2 x3 x4 xo a0 a1 (fun h => hf (c1.1 h)) (fun h => (c2.1 h).2 hz) (fun h => absurd (hz.symm.trans (c3.1 h)) (by decide)) (fun h => absurd (hz.symm.trans (c4.1 h)) (by decide)) K)
      isplitl [Hh]; · iexact Hh
      isplitl [HO]; · iexact HO
      isplitl [HS0]; · iexact HS0
      isplitl [HS1]; · iexact HS1
      iintro ⟨Hh, HO, ⟨%b0, %hb0, HS0⟩, ⟨%b1, %hb1, HS1⟩⟩
      iapply Hk
      isplitl [Hh]; · iexact Hh
      isplitl [HO]; · iexact HO
      isplitl [HS0]
      · iexists b0; isplitr; swap
        · iexact HS0
        · ipureintro; intro hn; exact absurd hz hn
      · iexists b1; isplitr; swap
        · iexact HS1
        · ipureintro; intro hn; exact absurd hz hn
    · have hz := hw'
      have hY : nextOut (i 1).val (nsW i T1) xo x0 x1 x2 x3 x4 = stepHalf xo (k0_pay2 x0) (k0_pay3 x0) x1 x2 x3 := by
        unfold nextOut applyStep; rw [hz, if_neg hf, if_pos (rfl : (1#32 : BitVec 32) = 1#32)]
      rw [hY]
      obtain ⟨hs0, hs1⟩ := hs hf (by rw [hz]; decide)
      rw [← hs0, ← hs1]
      iintro ⟨Hh, HO, HS0, HS1, Hk⟩
      iapply (runn1 c i arg6 harg6 arg7 harg7 arg8 harg8 arg9 harg9 arg10 harg10 arg11 harg11 T0 T1 T2 T3 x0 x1 x2 x3 x4 xo a0 a1 (fun h => hf (c1.1 h)) (fun h => hf (c2.1 h).1) (c3.2 hz) (fun h => absurd (hz.symm.trans (c4.1 h)) (by decide)) K)
      isplitl [Hh]; · iexact Hh
      isplitl [HO]; · iexact HO
      isplitl [HS0]; · iexact HS0
      isplitl [HS1]; · iexact HS1
      iintro ⟨Hh, HO, ⟨%b0, %hb0, HS0⟩, ⟨%b1, %hb1, HS1⟩⟩
      iapply Hk
      isplitl [Hh]; · iexact Hh
      isplitl [HO]; · iexact HO
      isplitl [HS0]
      · iexists b0; isplitr; swap
        · iexact HS0
        · ipureintro; intro _; exact hb0
      · iexists b1; isplitr; swap
        · iexact HS1
        · ipureintro; intro _; exact hb1
    · have hz := hw'
      have hY : nextOut (i 1).val (nsW i T1) xo x0 x1 x2 x3 x4 = stepFull xo (k0_pay2 x0) (k0_pay3 x0) x1 x2 x3 := by
        unfold nextOut applyStep; rw [hz, if_neg hf, if_neg (show ¬ (2#32 = 1#32) by decide), if_pos (rfl : (2#32 : BitVec 32) = 2#32)]
      rw [hY]
      obtain ⟨hs0, hs1⟩ := hs hf (by rw [hz]; decide)
      rw [← hs0, ← hs1]
      iintro ⟨Hh, HO, HS0, HS1, Hk⟩
      iapply (runn2 c i arg6 harg6 arg7 harg7 arg8 harg8 arg9 harg9 arg10 harg10 arg11 harg11 T0 T1 T2 T3 x0 x1 x2 x3 x4 xo a0 a1 (fun h => hf (c1.1 h)) (fun h => hf (c2.1 h).1) (fun h => absurd (hz.symm.trans (c3.1 h)) (by decide)) (c4.2 hz) K)
      isplitl [Hh]; · iexact Hh
      isplitl [HO]; · iexact HO
      isplitl [HS0]; · iexact HS0
      isplitl [HS1]; · iexact HS1
      iintro ⟨Hh, HO, ⟨%b0, %hb0, HS0⟩, ⟨%b1, %hb1, HS1⟩⟩
      iapply Hk
      isplitl [Hh]; · iexact Hh
      isplitl [HO]; · iexact HO
      isplitl [HS0]
      · iexists b0; isplitr; swap
        · iexact HS0
        · ipureintro; intro _; exact hb0
      · iexists b1; isplitr; swap
        · iexact HS1
        · ipureintro; intro _; exact hb1

end Cert.KernelIdeal.Experts

end
-- ==== Proof.Experts.Data.lean ====
module

public import proofs.«01_k».proof.Proof.Experts.Step
public import Idealize.ShloMosaic.Lib.Pipeline.Quiescent
public import Idealize.ShloMosaic.Lib.Pipeline.KitQuiescent
public import Idealize.ShloMosaic.Lib.Claim

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: the staging cells' rounds, embedded whole. -/
abbrev EP : Emb (UR sig nD τ) 𝕄 := emb₁

section Region
variable (pf : pre0.Contents (Elt F)) (hpf : PfOk pf)
variable (m : (ℓ : Loc nD τ sig) → Buf (Elt F) ℓ) (ρ : Dev nD → PrngReg)

/-- The table of the half tiles in use. -/
abbrev tabNs : S96.Idx → Elt F .i32 := pf 1

/-- The tables' contents with every block they name inside its array. -/
def adm : (pcfg0 (F := F)).Adm := ⟨pf, ok_of pf hpf⟩
/-- The region at these tables, -/
abbrev cfgA : Pipeline.Cfg sig Λ₀ := cfg0 (F := F) (adm pf hpf)
/-- as the program's one region. -/
abbrev regions : Fin 1 → Pipeline.Cfg sig Λ₀ := Pipeline.pin (pcfgs (F := F)) fun _ => adm pf hpf

theorem cfgN : (cfgA pf hpf).N = 384 := N_0

/-- A point's coordinates. -/
abbrev crd (t : Fin (cfgA pf hpf).N) : grid0.Coords := (cfgA pf hpf).grid.coords t
/-- A point by its number. -/
def pt (n : ℕ) : Fin (cfgA pf hpf).N := ⟨n % 384, by rw [cfgN]; omega⟩
theorem pt_val (t : Fin (cfgA pf hpf).N) : pt pf hpf t.val = t :=
  Fin.ext (Nat.mod_eq_of_lt (t.isLt.trans_eq (cfgN pf hpf)))

/-- The staging buffers of a point. -/
abbrev ms0 (t : Fin (cfgA pf hpf).N) : Memref sig .tc .vmem S512x1024 .i32 := spec0_0.stage ((cfgA pf hpf).slots t (0 : Fin 6))
abbrev hs0 (t : Fin (cfgA pf hpf).N) : (ms0 pf hpf t).IsWhole := hstage0_0 (((cfgA pf hpf).slots t (0 : Fin 6)).cast nbuf0_0)
abbrev ms1 (t : Fin (cfgA pf hpf).N) : Memref sig .tc .vmem S1x2048x1024 .f32 := spec0_1.stage ((cfgA pf hpf).slots t (1 : Fin 6))
abbrev hs1 (t : Fin (cfgA pf hpf).N) : (ms1 pf hpf t).IsWhole := hstage0_1 (((cfgA pf hpf).slots t (1 : Fin 6)).cast nbuf0_1)
abbrev ms2 (t : Fin (cfgA pf hpf).N) : Memref sig .tc .vmem S1x512x2048 .f32 := spec0_2.stage ((cfgA pf hpf).slots t (2 : Fin 6))
abbrev hs2 (t : Fin (cfgA pf hpf).N) : (ms2 pf hpf t).IsWhole := hstage0_2 (((cfgA pf hpf).slots t (2 : Fin 6)).cast nbuf0_2)
abbrev ms3 (t : Fin (cfgA pf hpf).N) : Memref sig .tc .vmem S1x1x1024 .f32 := spec0_3.stage ((cfgA pf hpf).slots t (3 : Fin 6))
abbrev hs3 (t : Fin (cfgA pf hpf).N) : (ms3 pf hpf t).IsWhole := hstage0_3 (((cfgA pf hpf).slots t (3 : Fin 6)).cast nbuf0_3)
abbrev ms4 (t : Fin (cfgA pf hpf).N) : Memref sig .tc .vmem S1x1x2048 .f32 := spec0_4.stage ((cfgA pf hpf).slots t (4 : Fin 6))
abbrev hs4 (t : Fin (cfgA pf hpf).N) : (ms4 pf hpf t).IsWhole := hstage0_4 (((cfgA pf hpf).slots t (4 : Fin 6)).cast nbuf0_4)
abbrev ms5 (t : Fin (cfgA pf hpf).N) : Memref sig .tc .vmem S512x2048 .f32 := spec0_5.stage ((cfgA pf hpf).slots t (5 : Fin 6))
abbrev hs5 (t : Fin (cfgA pf hpf).N) : (ms5 pf hpf t).IsWhole := hstage0_5 (((cfgA pf hpf).slots t (5 : Fin 6)).cast nbuf0_5)

/-- Window `w`'s block at a point, cut from its array at launch. -/
def blkAt (c : Dev nD) (w : Fin (cfgA pf hpf).W) (t : Fin (cfgA pf hpf).N) :
    (((cfgA pf hpf).win w).xblock ((cfgA pf hpf).grid.coords t)).Idx → Elt F ((cfgA pf hpf).win w).elt :=
  (((cfgA pf hpf).win w).blk t).view.read (Elt F) ((s₀ m ρ).mem (((cfgA pf hpf).win w).arr.view.loc (c : Thread nD τ)))

/-- The five input blocks of a point, at their shapes. -/
abbrev x0At (c : Dev nD) (t : Fin (cfgA pf hpf).N) : S512x1024.Idx → Elt F .i32 := blkAt pf hpf m ρ c (0 : Fin 6) t
abbrev x1At (c : Dev nD) (t : Fin (cfgA pf hpf).N) : S1x2048x1024.Idx → Elt F .f32 := blkAt pf hpf m ρ c (1 : Fin 6) t
abbrev x2At (c : Dev nD) (t : Fin (cfgA pf hpf).N) : S1x512x2048.Idx → Elt F .f32 := blkAt pf hpf m ρ c (2 : Fin 6) t
abbrev x3At (c : Dev nD) (t : Fin (cfgA pf hpf).N) : S1x1x1024.Idx → Elt F .f32 := blkAt pf hpf m ρ c (3 : Fin 6) t
abbrev x4At (c : Dev nD) (t : Fin (cfgA pf hpf).N) : S1x1x2048.Idx → Elt F .f32 := blkAt pf hpf m ρ c (4 : Fin 6) t

/-- The number of half tiles in use at a point. -/
abbrev wAt (t : Fin (cfgA pf hpf).N) : BitVec 32 := nsW (crd pf hpf t) (tabNs pf)

theorem wAt_cases (t : Fin (cfgA pf hpf).N) : wAt pf hpf t = 0#32 ∨ wAt pf hpf t = 1#32 ∨ wAt pf hpf t = 2#32 := by
  have h := hpf.ns _ (tile_lt (crd pf hpf t))
  have e : wAt pf hpf t = (tabNs pf) (at96 ((crd pf hpf t) 0).val (tile_lt (crd pf hpf t))) := nsW_eq _ _
  rw [e]
  exact h

/-- What the output block holds after point `n`. -/
def accAt (c : Dev nD) : ℕ → S512x2048.Idx → Elt F .f32
  | 0 => nextOut 0 (wAt pf hpf (pt pf hpf 0)) (k0_pay1 (x4At pf hpf m ρ c (pt pf hpf 0))) (x0At pf hpf m ρ c (pt pf hpf 0)) (x1At pf hpf m ρ c (pt pf hpf 0))
      (x2At pf hpf m ρ c (pt pf hpf 0)) (x3At pf hpf m ρ c (pt pf hpf 0)) (x4At pf hpf m ρ c (pt pf hpf 0))
  | n + 1 => nextOut ((n + 1) % 4) (wAt pf hpf (pt pf hpf (n + 1))) (accAt c n) (x0At pf hpf m ρ c (pt pf hpf (n + 1))) (x1At pf hpf m ρ c (pt pf hpf (n + 1)))
      (x2At pf hpf m ρ c (pt pf hpf (n + 1))) (x3At pf hpf m ρ c (pt pf hpf (n + 1))) (x4At pf hpf m ρ c (pt pf hpf (n + 1)))

theorem nextOut_zero (w : BitVec 32) (y y' : S512x2048.Idx → Elt F .f32) (x0 : S512x1024.Idx → Elt F .i32) (x1 : S1x2048x1024.Idx → Elt F .f32)
    (x2 : S1x512x2048.Idx → Elt F .f32) (x3 : S1x1x1024.Idx → Elt F .f32) (x4 : S1x1x2048.Idx → Elt F .f32) :
    nextOut 0 w y x0 x1 x2 x3 x4 = nextOut 0 w y' x0 x1 x2 x3 x4 := by
  unfold nextOut; rw [if_pos rfl, if_pos rfl]

theorem accAt_eq (c : Dev nD) (t : Fin (cfgA pf hpf).N) (y : S512x2048.Idx → Elt F .f32) (hy : t.val % 4 ≠ 0 → y = accAt pf hpf m ρ c (t.val - 1)) :
    accAt pf hpf m ρ c t.val = nextOut (t.val % 4) (wAt pf hpf t) y (x0At pf hpf m ρ c t) (x1At pf hpf m ρ c t) (x2At pf hpf m ρ c t)
      (x3At pf hpf m ρ c t) (x4At pf hpf m ρ c t) := by
  have key : ∀ n, n = t.val → accAt pf hpf m ρ c n = nextOut (n % 4) (wAt pf hpf (pt pf hpf n)) y (x0At pf hpf m ρ c (pt pf hpf n)) (x1At pf hpf m ρ c (pt pf hpf n))
      (x2At pf hpf m ρ c (pt pf hpf n)) (x3At pf hpf m ρ c (pt pf hpf n)) (x4At pf hpf m ρ c (pt pf hpf n)) := by
    intro n hn
    cases n with
    | zero => unfold accAt; exact nextOut_zero _ _ _ _ _ _ _ _
    | succ n =>
      unfold accAt
      by_cases h : (n + 1) % 4 = 0
      · rw [h]; exact nextOut_zero _ _ _ _ _ _ _ _
      · rw [hy (by rw [← hn]; exact h), ← hn]; rfl
  have := key t.val rfl
  rw [pt_val] at this
  exact this

/-- The output block's previous contents count only past a tile's first point. -/
theorem accAt_idle (c : Dev nD) (t : Fin (cfgA pf hpf).N) (h : t.val % 4 ≠ 0) (hw : wAt pf hpf t = 0#32) :
    accAt pf hpf m ρ c t.val = accAt pf hpf m ρ c (t.val - 1) := by
  rw [accAt_eq pf hpf m ρ c t _ (fun _ => rfl)]
  unfold nextOut applyStep
  rw [hw, if_neg (show ¬ (0#32 = 1#32) by decide), if_neg (show ¬ (0#32 = 2#32) by decide), if_neg h]

/-! ## The schedule of the output window -/

theorem idle5 (t : Fin (cfgA pf hpf).N) : (cfgA pf hpf).idle (5 : Fin 6) ((cfgA pf hpf).grid.coords t) = (decide (t.val % 4 ≠ 0) && decide (wAt pf hpf t = 0#32)) := by
  show (!(k0_cond1 (crd pf hpf t) == 1#1) && !(k0_cond3 (pf.atD 1 (k0_off1 (crd pf hpf t))) == 1#1) && !(k0_cond4 (pf.atD 1 (k0_off1 (crd pf hpf t))) == 1#1)) = _
  have hc := cond1_iff (crd pf hpf t)
  rw [show ((crd pf hpf t) 1).val = t.val % 4 from coords_step t] at hc
  have e : (pf.atD 1 (k0_off1 (crd pf hpf t)) : BitVec 32) = wAt pf hpf t := (atD_eq pf (crd pf hpf t)).trans (nsW_eq _ _).symm
  rw [e]
  have hw := wAt_cases pf hpf t
  have c3 := cond3_iff _ hw
  have c4 := cond4_iff _ hw
  by_cases h : t.val % 4 = 0
  · rw [hc.2 h]; simp [h]
  · have h1 : ¬ k0_cond1 (crd pf hpf t) = 1#1 := fun x => h (hc.1 x)
    rcases hw with hw | hw | hw
    · have h3 : ¬ k0_cond3 (wAt pf hpf t) = 1#1 := fun x => absurd (hw.symm.trans (c3.1 x)) (by decide)
      have h4 : ¬ k0_cond4 (wAt pf hpf t) = 1#1 := fun x => absurd (hw.symm.trans (c4.1 x)) (by decide)
      rw [beq_eq_false_iff_ne.2 h1, beq_eq_false_iff_ne.2 h3, beq_eq_false_iff_ne.2 h4, decide_eq_true h, decide_eq_true hw]
      rfl
    · rw [c3.2 hw, hw]; simp
    · rw [c4.2 hw, hw]; simp

theorem index5 (t : Fin (cfgA pf hpf).N) : ((cfgA pf hpf).win (5 : Fin 6)).index t = ![t.val / 4, 0] := by
  show cc0_transform_5 (crd pf hpf t) = _
  rw [tr5, show ((crd pf hpf t) 0).val = t.val / 4 from coords_tile t]

theorem flush5 (t : Fin (cfgA pf hpf).N) : ((cfgA pf hpf).win (5 : Fin 6)).flush t = decide (t.val % 4 = 3) := by
  have ht : t.val < 384 := t.isLt.trans_eq (cfgN pf hpf)
  have hN : (cfgA pf hpf).grid.N = 384 := N_0
  unfold Pipeline.Window.flush
  show (true && _) = _
  rw [Bool.true_and]
  by_cases h : t.val % 4 = 3
  · rw [decide_eq_true h, Bool.or_eq_true]
    by_cases h' : t.val + 1 = 384
    · left; exact decide_eq_true (h'.trans hN.symm)
    · right; refine decide_eq_true ⟨show t.val + 1 < (cfgA pf hpf).grid.N by omega, fun e => ?_⟩
      rw [index5, index5] at e
      have e0 := congrFun e (0 : Fin 2)
      have e1 : (t.val + 1) / 4 = t.val / 4 := e0
      omega
  · rw [decide_eq_false h, Bool.or_eq_false_iff]
    refine ⟨decide_eq_false (fun e => by have := e.trans hN; omega), decide_eq_false ?_⟩
    rintro ⟨h', e⟩
    apply e
    rw [index5, index5]
    show ![(t.val + 1) / 4, 0] = _
    rw [show (t.val + 1) / 4 = t.val / 4 by omega]

theorem fresh5 (t : Fin (cfgA pf hpf).N) : (cfgA pf hpf).fresh (5 : Fin 6) t.val = decide (t.val % 4 = 0) :=
  Pipeline.Cfg.fresh_tab (cfgA pf hpf) (5 : Fin 6) (fun n => decide (n % 4 = 0)) rfl (fun t => by
    rw [flush5, idle5]
    by_cases h3 : t.val % 4 = 3
    · simp [h3, show (t.val + 1) % 4 = 0 by omega]
    · have : (t.val + 1) % 4 ≠ 0 := by omega
      by_cases h0 : t.val % 4 = 0
      · simp [h3, h0, this]
      · simp [h3, h0, this]) t.val (Nat.le_of_lt t.isLt)

/-! ## The region's data -/

/-- The invariant before a point: past a tile's first point, if the tile holds rows, the two scratch buffers hold its unpacked
    halves; and the body's halves of the tables. -/
def Inv (c : Dev nD) (t : Fin ((cfgA pf hpf).N + 1)) : sProp 𝕄 :=
  iprop((∃ a : Buf (Elt F) ((c : Thread nD τ).loc cc0_scratch0), ⌜t.val % 4 ≠ 0 → wAt pf hpf (pt pf hpf t.val) ≠ 0#32 → sc0.view.read (Elt F) a = k0_pay2 (x0At pf hpf m ρ c (pt pf hpf t.val))⌝ ∗ (sc0.view.loc (c : Thread nD τ) ↦{fullShare} a))
    ∗ (∃ a : Buf (Elt F) ((c : Thread nD τ).loc cc0_scratch1), ⌜t.val % 4 ≠ 0 → wAt pf hpf (pt pf hpf t.val) ≠ 0#32 → sc1.view.read (Elt F) a = k0_pay3 (x0At pf hpf m ρ c (pt pf hpf t.val))⌝ ∗ (sc1.view.loc (c : Thread nD τ) ↦{fullShare} a))
    ∗ (tb0.view.loc (c : Thread nD τ) ↦{fullShare.right} (pf 0 : S96.Idx → Elt F .i32))
    ∗ (tb1.view.loc (c : Thread nD τ) ↦{fullShare.right} (pf 1 : S96.Idx → Elt F .i32))
    ∗ (tb2.view.loc (c : Thread nD τ) ↦{fullShare.right} (pf 2 : S96.Idx → Elt F .i32))
    ∗ (tb3.view.loc (c : Thread nD τ) ↦{fullShare.right} (pf 3 : S1.Idx → Elt F .i32)))

/-- The region's proof data on a core. -/
def dats (_ : Fin 1) (c : Dev nD) : Dat τ (Elt F) Unit ℕ (UR sig nD τ) ℕ (cfgA pf hpf) c where
  A w := (s₀ m ρ).mem (((cfgA pf hpf).win w).arr.view.loc (c : Thread nD τ))
  after w t := match w with
    | ⟨0, _⟩ => blkAt pf hpf m ρ c (0 : Fin 6) t
    | ⟨1, _⟩ => blkAt pf hpf m ρ c (1 : Fin 6) t
    | ⟨2, _⟩ => blkAt pf hpf m ρ c (2 : Fin 6) t
    | ⟨3, _⟩ => blkAt pf hpf m ρ c (3 : Fin 6) t
    | ⟨4, _⟩ => blkAt pf hpf m ρ c (4 : Fin 6) t
    | ⟨5, _⟩ => accAt pf hpf m ρ c t.val
  Φ t := Inv pf hpf m ρ c t
  q _ := fullShare
  owed _ := 0

theorem after0 (c : Dev nD) (t : Fin (cfgA pf hpf).N) : (dats pf hpf m ρ 0 c).after (0 : Fin 6) t = blkAt pf hpf m ρ c (0 : Fin 6) t := rfl
theorem after1 (c : Dev nD) (t : Fin (cfgA pf hpf).N) : (dats pf hpf m ρ 0 c).after (1 : Fin 6) t = blkAt pf hpf m ρ c (1 : Fin 6) t := rfl
theorem after2 (c : Dev nD) (t : Fin (cfgA pf hpf).N) : (dats pf hpf m ρ 0 c).after (2 : Fin 6) t = blkAt pf hpf m ρ c (2 : Fin 6) t := rfl
theorem after3 (c : Dev nD) (t : Fin (cfgA pf hpf).N) : (dats pf hpf m ρ 0 c).after (3 : Fin 6) t = blkAt pf hpf m ρ c (3 : Fin 6) t := rfl
theorem after4 (c : Dev nD) (t : Fin (cfgA pf hpf).N) : (dats pf hpf m ρ 0 c).after (4 : Fin 6) t = blkAt pf hpf m ρ c (4 : Fin 6) t := rfl
theorem after5 (c : Dev nD) (t : Fin (cfgA pf hpf).N) : (dats pf hpf m ρ 0 c).after (5 : Fin 6) t = accAt pf hpf m ρ c t.val := rfl

theorem before0 (c : Dev nD) (t : Fin (cfgA pf hpf).N) (d) : (dats pf hpf m ρ 0 c).before (0 : Fin 6) t d = blkAt pf hpf m ρ c (0 : Fin 6) t :=
  ((dats pf hpf m ρ 0 c).before_in_eq_fetched (0 : Fin 6) rfl (fun _ => rfl) (fun _ _ _ => rfl) (fun t => by rw [after0]; unfold Dat.blockOf blkAt; rfl) t d).trans
    (by unfold Dat.fetched Dat.blockOf blkAt; rfl)
theorem before1 (c : Dev nD) (t : Fin (cfgA pf hpf).N) (d) : (dats pf hpf m ρ 0 c).before (1 : Fin 6) t d = blkAt pf hpf m ρ c (1 : Fin 6) t :=
  ((dats pf hpf m ρ 0 c).before_in_eq_fetched (1 : Fin 6) rfl (fun _ => rfl) (fun _ _ _ => rfl) (fun t => by rw [after1]; unfold Dat.blockOf blkAt; rfl) t d).trans
    (by unfold Dat.fetched Dat.blockOf blkAt; rfl)
theorem before2 (c : Dev nD) (t : Fin (cfgA pf hpf).N) (d) : (dats pf hpf m ρ 0 c).before (2 : Fin 6) t d = blkAt pf hpf m ρ c (2 : Fin 6) t :=
  ((dats pf hpf m ρ 0 c).before_in_eq_fetched (2 : Fin 6) rfl (fun _ => rfl) (fun _ _ _ => rfl) (fun t => by rw [after2]; unfold Dat.blockOf blkAt; rfl) t d).trans
    (by unfold Dat.fetched Dat.blockOf blkAt; rfl)
theorem before3 (c : Dev nD) (t : Fin (cfgA pf hpf).N) (d) : (dats pf hpf m ρ 0 c).before (3 : Fin 6) t d = blkAt pf hpf m ρ c (3 : Fin 6) t :=
  ((dats pf hpf m ρ 0 c).before_in_eq_fetched (3 : Fin 6) rfl (fun _ => rfl) (fun _ _ _ => rfl) (fun t => by rw [after3]; unfold Dat.blockOf blkAt; rfl) t d).trans
    (by unfold Dat.fetched Dat.blockOf blkAt; rfl)
theorem before4 (c : Dev nD) (t : Fin (cfgA pf hpf).N) (d) : (dats pf hpf m ρ 0 c).before (4 : Fin 6) t d = blkAt pf hpf m ρ c (4 : Fin 6) t :=
  ((dats pf hpf m ρ 0 c).before_in_eq_fetched (4 : Fin 6) rfl (fun _ => rfl) (fun _ _ _ => rfl) (fun t => by rw [after4]; unfold Dat.blockOf blkAt; rfl) t d).trans
    (by unfold Dat.fetched Dat.blockOf blkAt; rfl)

theorem before5 (c : Dev nD) (t : Fin (cfgA pf hpf).N) (d) :
    (dats pf hpf m ρ 0 c).before (5 : Fin 6) t d = if t.val % 4 = 0 then d else accAt pf hpf m ρ c (t.val - 1) := by
  rw [(dats pf hpf m ρ 0 c).before_out_traj (5 : Fin 6) rfl (fun _ _ => rfl) (fun t ht hi hf => by
    rw [idle5, Bool.and_eq_true] at hi
    rw [after5, after5]
    exact accAt_idle pf hpf m ρ c t (of_decide_eq_true hi.1) (of_decide_eq_true hi.2)) t.val t rfl d, fresh5]
  by_cases h : t.val % 4 = 0
  · simp only [h, decide_true, ↓reduceIte]
  · simp only [h, decide_false, Bool.false_eq_true, ↓reduceIte, after5]

/-! ## A point and the next of its tile -/

theorem crd_tile (t : Fin (cfgA pf hpf).N) : ((crd pf hpf t) 0).val = t.val / 4 := coords_tile t
theorem crd_step (t : Fin (cfgA pf hpf).N) : ((crd pf hpf t) 1).val = t.val % 4 := coords_step t

theorem wAt_same (t t' : Fin (cfgA pf hpf).N) (h : t.val / 4 = t'.val / 4) : wAt pf hpf t = wAt pf hpf t' := by
  have e (t : Fin (cfgA pf hpf).N) : wAt pf hpf t = (tabNs pf) (at96 ((crd pf hpf t) 0).val (tile_lt (crd pf hpf t))) := nsW_eq _ _
  rw [e, e]
  congr 1
  funext a
  apply Fin.ext
  show ((crd pf hpf t) 0).val = ((crd pf hpf t') 0).val
  rw [crd_tile, crd_tile, h]

theorem x0At_apply (c : Dev nD) (t : Fin (cfgA pf hpf).N) (y : S512x1024.Idx)
    (h : ∀ a, cc0_transform_0 inb_S1_S1_0 numel1_S1 pf (crd pf hpf t) a * S512x1024.size a + (y a).val < S49152x1024.size a) :
    x0At pf hpf m ρ c t y = (m ((c : Thread nD τ).loc main_arg4) : S49152x1024.Idx → Elt F .i32)
      (fun a => ⟨cc0_transform_0 inb_S1_S1_0 numel1_S1 pf (crd pf hpf t) a * S512x1024.size a + (y a).val, h a⟩) :=
  congrArg (m ((c : Thread nD τ).loc main_arg4) : S49152x1024.Idx → Elt F .i32) (funext fun a => Fin.ext (by
    show cc0_transform_0 inb_S1_S1_0 numel1_S1 pf (crd pf hpf t) a * S512x1024.size a + 1 * (y a).val = _
    rw [Nat.one_mul]))

end Region

end Cert.KernelIdeal.Experts

end
-- ==== Proof.Experts.Launch.lean ====
module

public import proofs.«01_k».proof.Proof.Experts.Data

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

section Region
variable (pf : pre0.Contents (Elt F)) (hpf : PfOk pf)
variable (m : (ℓ : Loc nD τ sig) → Buf (Elt F) ℓ) (ρ : Dev nD → PrngReg)

theorem inb_rows (t : Fin (cfgA pf hpf).N) (y : S512x1024.Idx) (a : Fin 2) :
    cc0_transform_0 inb_S1_S1_0 numel1_S1 pf (crd pf hpf t) a * S512x1024.size a + (y a).val < S49152x1024.size a := by
  obtain ⟨h, -⟩ := (ok_of pf hpf).1 (crd pf hpf t)
  have h1 := h a
  have h2 := (y a).isLt
  rw [Nat.add_mul, Nat.one_mul] at h1
  omega

/-- A tile's points all read one block of words. -/
theorem x0At_same (c : Dev nD) (t t' : Fin (cfgA pf hpf).N) (h : t.val / 4 = t'.val / 4) : x0At pf hpf m ρ c t = x0At pf hpf m ρ c t' := by
  funext y
  rw [x0At_apply pf hpf m ρ c t y (inb_rows pf hpf t y), x0At_apply pf hpf m ρ c t' y (inb_rows pf hpf t' y)]
  refine congrArg _ (funext fun a => Fin.ext ?_)
  show cc0_transform_0 inb_S1_S1_0 numel1_S1 pf (crd pf hpf t) a * _ + _ = cc0_transform_0 inb_S1_S1_0 numel1_S1 pf (crd pf hpf t') a * _ + _
  rw [tr0, tr0, crd_tile, crd_tile, h]

/-- The body at a point on its staging buffers. -/
abbrev bodyAt (t : Fin (cfgA pf hpf).N) : Prog (TpuEff nD τ sig (Elt F) Λ₀ .tc) PUnit :=
  cc0_experts (crd pf hpf t) tb0 (Memref.isWhole_whole _) tb1 (Memref.isWhole_whole _) tb2 (Memref.isWhole_whole _) tb3 (Memref.isWhole_whole _) (ms0 pf hpf t) (hs0 pf hpf t) (ms1 pf hpf t) (hs1 pf hpf t) (ms2 pf hpf t) (hs2 pf hpf t) (ms3 pf hpf t) (hs3 pf hpf t) (ms4 pf hpf t) (hs4 pf hpf t) (ms5 pf hpf t) (hs5 pf hpf t) sc0 (Memref.isWhole_whole _) sc1 (Memref.isWhole_whole _)

/-- What a point leaves of the output's staging buffer: the new contents, or, idle and not written back, the old. -/
theorem leave5 (c : Dev nD) (t : Fin (cfgA pf hpf).N) :
    owns (c : Thread nD τ) (ms5 pf hpf t) fullShare (accAt pf hpf m ρ c t.val)
      ⊢ (match (cfgA pf hpf).idle (5 : Fin 6) ((cfgA pf hpf).grid.coords t) with
          | true =>
            match ((cfgA pf hpf).win (5 : Fin 6)).flush t with
            | false => iprop(∃ d, owns (c : Thread nD τ) (((cfgA pf hpf).win (5 : Fin 6)).stage ((cfgA pf hpf).slots t (5 : Fin 6))) fullShare ((dats pf hpf m ρ 0 c).before (5 : Fin 6) t d))
            | true => owns (c : Thread nD τ) (((cfgA pf hpf).win (5 : Fin 6)).stage ((cfgA pf hpf).slots t (5 : Fin 6))) fullShare ((dats pf hpf m ρ 0 c).after (5 : Fin 6) t)
          | false => owns (c : Thread nD τ) (((cfgA pf hpf).win (5 : Fin 6)).stage ((cfgA pf hpf).slots t (5 : Fin 6))) fullShare ((dats pf hpf m ρ 0 c).after (5 : Fin 6) t) : sProp 𝕄) := by
  rw [idle5, flush5]
  by_cases h : t.val % 4 ≠ 0 ∧ wAt pf hpf t = 0#32
  · rw [decide_eq_true h.1, decide_eq_true h.2, Bool.and_true]
    by_cases h3 : t.val % 4 = 3
    · rw [decide_eq_true h3]; exact .rfl
    · rw [decide_eq_false h3]
      dsimp only
      iintro H
      iexists (accAt pf hpf m ρ c t.val)
      rw [before5, if_neg h.1, ← accAt_idle pf hpf m ρ c t h.1 h.2]
      iexact H
  · have : (decide (t.val % 4 ≠ 0) && decide (wAt pf hpf t = 0#32)) = false := by
      rw [Bool.and_eq_false_iff]
      by_cases h1 : t.val % 4 ≠ 0
      · right; exact decide_eq_false fun e => h ⟨h1, e⟩
      · left; exact decide_eq_false h1
    rw [this]; exact .rfl

set_option maxHeartbeats 4000000 in
/-- The body at a point takes the region's data from before it to after it. -/
theorem body_sound (c : Dev nD) (t : Fin (cfgA pf hpf).N) :
    iprop((dats pf hpf m ρ 0 c).Φ t.castSucc ∗ (dats pf hpf m ρ 0 c).owesAt () t.castSucc
        ∗ (∃ d, owns (c : Thread nD τ) (ms0 pf hpf t) fullShare ((dats pf hpf m ρ 0 c).before (0 : Fin 6) t d))
        ∗ (∃ d, owns (c : Thread nD τ) (ms1 pf hpf t) fullShare ((dats pf hpf m ρ 0 c).before (1 : Fin 6) t d))
        ∗ (∃ d, owns (c : Thread nD τ) (ms2 pf hpf t) fullShare ((dats pf hpf m ρ 0 c).before (2 : Fin 6) t d))
        ∗ (∃ d, owns (c : Thread nD τ) (ms3 pf hpf t) fullShare ((dats pf hpf m ρ 0 c).before (3 : Fin 6) t d))
        ∗ (∃ d, owns (c : Thread nD τ) (ms4 pf hpf t) fullShare ((dats pf hpf m ρ 0 c).before (4 : Fin 6) t d))
        ∗ (∃ d, owns (c : Thread nD τ) (ms5 pf hpf t) fullShare ((dats pf hpf m ρ 0 c).before (5 : Fin 6) t d)))
      ⊢ wp frame (wpE (defs₀ (F := F)) Variants.none c none) Set.univ (bodyAt pf hpf t) fun _ =>
          iprop((dats pf hpf m ρ 0 c).Φ t.succ ∗ (dats pf hpf m ρ 0 c).owesAt () t.succ
            ∗ bigSep Finset.univ fun w : Fin (cfgA pf hpf).W =>
                match (cfgA pf hpf).idle w ((cfgA pf hpf).grid.coords t) with
                | true =>
                  match ((cfgA pf hpf).win w).flush t with
                  | false => iprop(∃ d, owns (c : Thread nD τ) (((cfgA pf hpf).win w).stage ((cfgA pf hpf).slots t w)) fullShare ((dats pf hpf m ρ 0 c).before w t d))
                  | true => owns (c : Thread nD τ) (((cfgA pf hpf).win w).stage ((cfgA pf hpf).slots t w)) fullShare ((dats pf hpf m ρ 0 c).after w t)
                | false => owns (c : Thread nD τ) (((cfgA pf hpf).win w).stage ((cfgA pf hpf).slots t w)) fullShare ((dats pf hpf m ρ 0 c).after w t)) := by
  rw [bigSep_W0]
  simp only [before0, before1, before2, before3, before4, after0, after1, after2, after3, after4]
  rewrite [show (dats pf hpf m ρ 0 c).Φ t.succ = Inv pf hpf m ρ c t.succ from rfl, show (dats pf hpf m ρ 0 c).Φ t.castSucc = Inv pf hpf m ρ c t.castSucc from rfl,
    show (dats pf hpf m ρ 0 c).owesAt () t.succ = (dats pf hpf m ρ 0 c).owesAt () t.castSucc from rfl]
  unfold Inv
  iintro ⟨⟨⟨%a0, %ha0, HS0⟩, ⟨%a1, %ha1, HS1⟩, HT0, HT1, HT2, HT3⟩, Ho, ⟨%d0, H0⟩, ⟨%d1, H1⟩, ⟨%d2, H2⟩, ⟨%d3, H3⟩, ⟨%d4, H4⟩, ⟨%d5, H5⟩⟩
  have hstep := crd_step pf hpf t
  rw [Fin.val_castSucc, pt_val] at ha0 ha1
  iapply (run_any c (crd pf hpf t) (ms0 pf hpf t) (hs0 pf hpf t) (ms1 pf hpf t) (hs1 pf hpf t) (ms2 pf hpf t) (hs2 pf hpf t) (ms3 pf hpf t) (hs3 pf hpf t) (ms4 pf hpf t) (hs4 pf hpf t) (ms5 pf hpf t) (hs5 pf hpf t)
    (pf 0 : S96.Idx → Elt F .i32) (tabNs pf) (pf 2 : S96.Idx → Elt F .i32) (pf 3 : S1.Idx → Elt F .i32)
    (x0At pf hpf m ρ c t) (x1At pf hpf m ρ c t) (x2At pf hpf m ρ c t) (x3At pf hpf m ρ c t) (x4At pf hpf m ρ c t) ((dats pf hpf m ρ 0 c).before (5 : Fin 6) t d5) a0 a1
    (wAt_cases pf hpf t) (fun h hn => by rw [hstep] at h; exact ⟨ha0 h hn, ha1 h hn⟩) _)
  isplitl [H0 H1 H2 H3 H4 HT0 HT1 HT2 HT3]
  · isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [HT2]; · iexact HT2
    iexact HT3
  isplitl [H5]; · iexact H5
  isplitl [HS0]; · iexact HS0
  isplitl [HS1]; · iexact HS1
  iintro ⟨⟨H0, H1, H2, H3, H4, HT0, HT1, HT2, HT3⟩, HO, ⟨%b0, %hb0, HS0⟩, ⟨%b1, %hb1, HS1⟩⟩
  have hacc := accAt_eq pf hpf m ρ c t ((dats pf hpf m ρ 0 c).before (5 : Fin 6) t d5) (fun h => by rw [before5, if_neg h])
  have htt : (t.val + 1) % 4 ≠ 0 → (pt pf hpf (t.val + 1)).val / 4 = t.val / 4 := fun h => by
    have ht : t.val < 384 := t.isLt.trans_eq (cfgN pf hpf)
    show (t.val + 1) % 384 / 4 = _
    omega
  isplitl [HS0 HS1 HT0 HT1 HT2 HT3]
  · isplitl [HS0]
    · iexists b0; isplitr; swap
      · iexact HS0
      · ipureintro
        intro h hn
        rw [Fin.val_succ] at h hn ⊢
        rw [wAt_same pf hpf _ t (htt h)] at hn
        rw [x0At_same pf hpf m ρ c _ t (htt h)]
        exact hb0 hn
    isplitl [HS1]
    · iexists b1; isplitr; swap
      · iexact HS1
      · ipureintro
        intro h hn
        rw [Fin.val_succ] at h hn ⊢
        rw [wAt_same pf hpf _ t (htt h)] at hn
        rw [x0At_same pf hpf m ρ c _ t (htt h)]
        exact hb1 hn
    isplitl [HT0]; · iexact HT0
    isplitl [HT1]; · iexact HT1
    isplitl [HT2]; · iexact HT2
    iexact HT3
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  iapply (leave5 pf hpf m ρ c t)
  rw [hacc, ← hstep]
  iexact HO

theorem body_obligation (c : Dev nD) : BodyObligation (dats pf hpf m ρ 0 c) (defs₀ (F := F)) Variants.none () Set.univ := fun t => by
  rw [bigSep_W0]
  exact body_sound pf hpf m ρ c t

/-! ## The launch -/

/-- The launch element of the staging cells. -/
def u₀ : UR sig nD τ :=
  initOf (Pipeline.cells (regions pf hpf) ((launch0 (F := F)).cellOf_inj fun _ => adm pf hpf))
    (Pipeline.launchToks (regions pf hpf) ((launch0 (F := F)).cellOf_inj fun _ => adm pf hpf))

theorem share_full (c : Dev nD) (w : Fin (cfgA pf hpf).W) : (dats pf hpf m ρ 0 c).share w = fullShare := by unfold Dat.share; split <;> rfl

/-- The tables one by one. -/
theorem tables_eq (c : Dev nD) (q : Fin 4 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1) ∗ (((c : Thread nD τ).loc main_arg2) ↦{q 2} v 2) ∗ (((c : Thread nD τ).loc main_arg3) ↦{q 3} v 3)) := by
  unfold Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-- The invariant holds before the first point. -/
theorem inv_first (c : Dev nD) :
    iprop(BI.emp ∗ Pipeline.prefHeld pre0 c (fun _ => fullShare.right) (adm pf hpf).1 ∗ Pipeline.scopedRest spec0 c) ⊢ (dats pf hpf m ρ 0 c).Φ 0 := by
  rw [tables_eq, scopedRest0_eq, show (dats pf hpf m ρ 0 c).Φ 0 = Inv pf hpf m ρ c 0 from rfl]
  unfold Inv
  iintro ⟨-, ⟨HT0, HT1, HT2, HT3⟩, ⟨%a0, HS0⟩, ⟨%a1, HS1⟩⟩
  isplitl [HS0]
  · iexists a0; isplitr; swap
    · iexact HS0
    · ipureintro; intro h; exact absurd (rfl : 0 % 4 = 0) h
  isplitl [HS1]
  · iexists a1; isplitr; swap
    · iexact HS1
    · ipureintro; intro h; exact absurd (rfl : 0 % 4 = 0) h
  isplitl [HT0]; · iexact HT0
  isplitl [HT1]; · iexact HT1
  isplitl [HT2]; · iexact HT2
  iexact HT3

/-- After the last point it gives the scratch buffers back. -/
theorem inv_last (c : Dev nD) : (dats pf hpf m ρ 0 c).Φ (Fin.last (cfgA pf hpf).N) ⊢ iprop(BI.emp ∗ Pipeline.scopedRest spec0 c) := by
  rw [scopedRest0_eq, show (dats pf hpf m ρ 0 c).Φ (Fin.last (cfgA pf hpf).N) = Inv pf hpf m ρ c (Fin.last _) from rfl]
  unfold Inv
  iintro ⟨⟨%a0, -, HS0⟩, ⟨%a1, -, HS1⟩, -, -, -, -⟩
  isplitr; · iempintro
  isplitl [HS0]
  · iexists a0; iexact HS0
  iexists a1; iexact HS1

/-- The final state: each array at the computed contents, each table as it was. -/
def Final : PUnit × MemSt nD τ sig (Elt F) → Prop := fun r =>
  ∀ c : Dev nD, (∀ w : Fin (cfgA pf hpf).W, r.2.mem (((cfgA pf hpf).win w).arr.view.loc (c : Thread nD τ)) = (dats pf hpf m ρ 0 c).arrAt w (cfgA pf hpf).N)
    ∧ ∀ j, r.2.mem ((c : Thread nD τ).loc (pre0.ref j)) = pf j

set_option backward.isDefEq.respectTransparency.types false in
set_option maxHeartbeats 4000000 in
/-- Every weakly fair execution of @main ends, each array at the computed contents and every semaphore counter at zero. -/
theorem run_main_quiescent (hp : ∀ (c : Dev nD) (j : Fin 4), m ((c : Thread nD τ).loc (pre0.ref j)) = pf j) :
    θ_run (defs (F := F)) (onTc (τ := τ) (main (F := F))) (s₀ m ρ) (fun r => Final pf hpf m ρ r ∧ r.2.sem = fun _ => 0) :=
  Pipeline.θ_run_region_noSem_pf_quiescent pcfgs (fun _ => adm pf hpf) (dats pf hpf m ρ) () ((launch0 (F := F)).cellOf_inj fun _ => adm pf hpf) (0 : Fin 1)
    (launch0 (F := F)).win.to₀ (launch0 (F := F)).pre EP defs₀ Variants.none m ρ main
    (hbody := fun c => (body_obligation pf hpf m ρ c).loose) (hne := (launch0 (F := F)).block_pos)
    (harr := (launch0 (F := F)).arr_whole) (hstage := (launch0 (F := F)).stage_whole) (howed := fun _ _ => rfl)
    (u₀ := u₀ pf hpf) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (regions pf hpf) (dats pf hpf m ρ) 0 (launch0 (F := F)).win.arr_inj c (launch0 (F := F)).arr_whole
      (share_full pf hpf m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := inv_first pf hpf m ρ)
    (hout := inv_last pf hpf m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- What a run leaves: the result array at the computed contents, every argument array unchanged, every counter at zero. -/
theorem run_final (hp : ∀ (c : Dev nD) (j : Fin 4), m ((c : Thread nD τ).loc (pre0.ref j)) = pf j) :
    θ_run (defs (F := F)) (onTc (τ := τ) (main (F := F))) (s₀ m ρ) (fun r => (∀ c : Dev nD,
      r.2.mem ((c.tc : Thread nD τ).loc main_v0) = (dats pf hpf m ρ 0 c).arrAt (5 : Fin 6) (cfgA pf hpf).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(h.1 c).1 (5 : Fin 6),
    ((h.1 c).2 0).trans (hp c 0).symm, ((h.1 c).2 1).trans (hp c 1).symm, ((h.1 c).2 2).trans (hp c 2).symm, ((h.1 c).2 3).trans (hp c 3).symm,
    ((h.1 c).1 (0 : Fin 6)).trans ((dats pf hpf m ρ 0 c).arrAt_in (0 : Fin 6) rfl _),
    ((h.1 c).1 (1 : Fin 6)).trans ((dats pf hpf m ρ 0 c).arrAt_in (1 : Fin 6) rfl _),
    ((h.1 c).1 (2 : Fin 6)).trans ((dats pf hpf m ρ 0 c).arrAt_in (2 : Fin 6) rfl _),
    ((h.1 c).1 (3 : Fin 6)).trans ((dats pf hpf m ρ 0 c).arrAt_in (3 : Fin 6) rfl _),
    ((h.1 c).1 (4 : Fin 6)).trans ((dats pf hpf m ρ 0 c).arrAt_in (4 : Fin 6) rfl _)⟩, h.2⟩) (run_main_quiescent pf hpf m ρ hp)

end Region

end Cert.KernelIdeal.Experts

end
-- ==== Proof.Experts.Payload.lean ====
/- What the stored values of the experts' body are at one index, over the extended reals: the two halves of the gate-and-up
   product, the gate, the pairing of even and odd columns through the selection product, and the down product. -/
module

public import proofs.«01_k».proof.Proof.Experts.Step
public import Idealize.ShloMosaic.Lib.Pointwise

@[expose] public section

set_option maxRecDepth 16384

noncomputable section

namespace Cert.KernelIdeal.Experts

open Cert.KernelIdeal Cert.KernelIdeal.Gen Idealize.ShloMosaic

/-- The gate on one value: the value capped at seven, times its scaled logistic. -/
def gateOf (g : EReal) : EReal :=
  min g (Ideal.ofBits FTy.f32 1088421888#32) * Ideal.logistic (Ideal.ofBits FTy.f32 1071242019#32 * min g (Ideal.ofBits FTy.f32 1088421888#32))

/-- The up value: clipped to seven either way, plus one. -/
def upOf (g : EReal) : EReal :=
  min (Ideal.ofBits FTy.f32 1088421888#32) (max (Ideal.ofBits FTy.f32 3235905536#32) g) + 1

theorem pay1_apply (b : Vec Ideal S1x1x2048 .f32) (j : S512x2048.Idx) : k0_pay1 (F := Ideal) b j = b (ix3 0 0 (j 1)) := by
  unfold k0_pay1
  pointwise

theorem pay2_apply (x : Vec Ideal S512x1024 .i32) (j : S512x1024.Idx) :
    k0_pay2 (F := Ideal) x j = Ideal.ofBits FTy.f32 (IntOp.shli ArithUnit.vector (x j) 16#32) := by
  unfold k0_pay2
  pointwise

theorem pay3_apply (x : Vec Ideal S512x1024 .i32) (j : S512x1024.Idx) :
    k0_pay3 (F := Ideal) x j = Ideal.ofBits FTy.f32 (IntOp.andi (x j) 4294901760#32) := by
  unfold k0_pay3
  pointwise

theorem two_mul_word (a b : ℕ) (ha : a < 256) (hb : b < 128) :
    IntOp.cmpi CmpIPredicate.eq (BitVec.ofNat 32 a) (IntOp.muli (2#32) (BitVec.ofNat 32 b)) = if a = 2 * b then 1#1 else 0#1 := by
  have e : (BitVec.ofNat 32 a = 2#32 * BitVec.ofNat 32 b) ↔ a = 2 * b := by
    rw [← BitVec.toNat_inj, BitVec.toNat_mul]
    simp only [BitVec.toNat_ofNat]
    omega
  show BitVec.ofBool (BitVec.ofNat 32 a == 2#32 * BitVec.ofNat 32 b) = _
  by_cases h : a = 2 * b
  · rw [if_pos h, beq_iff_eq.2 (e.2 h)]
    rfl
  · rw [if_neg h, beq_eq_false_iff_ne.2 (fun h' => h (e.1 h'))]
    rfl

theorem sel_apply (j : S256x128.Idx) : k0_pay9 (F := Ideal) j = if (j 0).val = 2 * (j 1).val then 1 else 0 := by
  idx_vars j
  unfold k0_pay9
  pointwise
  rw [two_mul_word _ _ j0.isLt j1.isLt]
  show Scalar.select (if j0.val = 2 * j1.val then 1#1 else 0#1) (1 : EReal) 0 = if j0.val = 2 * j1.val then 1 else 0
  split <;> rfl

theorem sel_sum (f : Fin 128 → EReal) (o p : ℕ) (s : Fin 128 → EReal) (hs : ∀ x : Fin 128, s x = if o + x.val = 2 * p then 1 else 0) :
    ∑ x, f x * s x = if h : o ≤ 2 * p ∧ 2 * p < o + 128 then f ⟨2 * p - o, by omega⟩ else 0 := by
  split
  · rename_i h
    rw [Finset.sum_eq_single (⟨2 * p - o, by omega⟩ : Fin 128)]
    · rw [hs, if_pos (by show o + (2 * p - o) = 2 * p; omega), mul_one]
    · intro x _ hx
      rw [hs, if_neg (fun e => hx (Fin.ext (by show x.val = 2 * p - o; omega))), mul_zero]
    · exact fun h => absurd (Finset.mem_univ _) h
  · rename_i h
    refine Finset.sum_eq_zero fun x _ => ?_
    rw [hs, if_neg (by have := x.isLt; omega), mul_zero]

theorem sel_pair (f₁ f₂ : Fin 128 → EReal) (p : Fin 128) :
    ∑ x : Fin 128, f₁ x * k0_pay9 (F := Ideal) (ix2 ⟨x.val, by omega⟩ p) + ∑ x : Fin 128, f₂ x * k0_pay9 (F := Ideal) (ix2 ⟨128 + x.val, by omega⟩ p)
      = if h : p.val < 64 then f₁ ⟨2 * p.val, by omega⟩ else f₂ ⟨2 * p.val - 128, by omega⟩ := by
  rw [sel_sum f₁ 0 p.val _ (fun x => (sel_apply _).trans (by show (if x.val = 2 * p.val then (1 : EReal) else 0) = _; rw [Nat.zero_add])),
    sel_sum f₂ 128 p.val _ (fun x => sel_apply _)]
  have := p.isLt
  split
  · rename_i h
    rw [dif_neg (by omega), dif_pos (by omega), add_zero]
    rfl
  · rename_i h
    rw [dif_pos (by omega), dif_neg (by omega), zero_add]

/-! ### 256 rows -/

theorem pay6_apply (a : Vec Ideal S256x1024 .bf16) (w : Vec Ideal S1x1024x1024 .f32) (b : Vec Ideal S256x1024 .bf16) (w' : Vec Ideal S1x1024x1024 .f32)
    (v : Vec Ideal S1x1x1024 .f32) (j : S256x1024.Idx) :
    k0_pay6 (F := Ideal) a w b w' v j
      = ∑ x : Fin 1024, a (ix2 (j 0) x) * w (ix3 0 x (j 1)) + ∑ x : Fin 1024, b (ix2 (j 0) x) * w' (ix3 0 x (j 1)) + v (ix3 0 0 (j 1)) := by
  unfold k0_pay6
  pointwise

theorem pay7_apply (a : Vec Ideal S256x1024 .bf16) (w : Vec Ideal S1x1024x1024 .f32) (b : Vec Ideal S256x1024 .bf16) (w' : Vec Ideal S1x1024x1024 .f32)
    (v : Vec Ideal S1x1x1024 .f32) (j : S256x1024.Idx) : k0_pay7 (F := Ideal) a w b w' v j = gateOf (k0_pay6 (F := Ideal) a w b w' v j) := by
  unfold k0_pay7
  pointwise
  rfl

theorem pay8_apply (a : Vec Ideal S256x1024 .bf16) (w : Vec Ideal S1x1024x1024 .f32) (b : Vec Ideal S256x1024 .bf16) (w' : Vec Ideal S1x1024x1024 .f32)
    (v : Vec Ideal S1x1x1024 .f32) (j : S256x1024.Idx) : k0_pay8 (F := Ideal) a w b w' v j = upOf (k0_pay6 (F := Ideal) a w b w' v j) := by
  unfold k0_pay8
  pointwise
  rfl

theorem pay4_apply (a : FVec Ideal S256x512 .f32) (y : Vec Ideal S256x2048 .f32) (w : Vec Ideal S1x512x2048 .f32) (j : S256x2048.Idx) :
    k0_pay4 (F := Ideal) a y w j = y j + ∑ x : Fin 512, a (ix2 (j 0) x) * w (ix3 0 x (j 1)) := by
  unfold k0_pay4
  pointwise

set_option maxHeartbeats 1000000 in
theorem pay11_apply (g u : FVec Ideal S256x1024 .f32) (j0 : Fin 256) (j1 : Fin 512) :
    k0_pay11 (F := Ideal) g u (k0_pay9 (F := Ideal)) (extractStridedSlice S256x128 ![0, 0] g slices_S256x1024_o0_0_S256x128) (ix2 j0 j1)
      = g (ix2 j0 ⟨2 * j1.val, by omega⟩) * u (ix2 j0 ⟨2 * j1.val + 1, by omega⟩) := by
  have hj := j1.isLt
  unfold k0_pay11
  pointwise
  have key : ∀ (m : ℕ) (hm : m < 1024) (n : ℕ) (hn : n < 1024), m = 2 * j1.val → n = 2 * j1.val + 1 →
      g (ix2 j0 ⟨m, hm⟩) * u (ix2 j0 ⟨n, hn⟩) = g (ix2 j0 ⟨2 * j1.val, by omega⟩) * u (ix2 j0 ⟨2 * j1.val + 1, by omega⟩) := by
    intro m hm n hn e e'
    subst e e'
    rfl
  split
  · refine (sel_pair (fun x => g (ix2 j0 ⟨x.val, _⟩) * u (ix2 j0 ⟨(x.val + 128 - 127) % 128, _⟩)) (fun x => g (ix2 j0 ⟨128 + x.val, _⟩) * u (ix2 j0 ⟨128 + (x.val + 128 - 127) % 128, _⟩)) ⟨j1.val, by omega⟩).trans ?_
    split <;> rename_i h' <;> refine key _ _ _ _ ?_ ?_ <;> (simp only at h' ⊢ <;> omega)
  split
  · refine (sel_pair (fun x => g (ix2 j0 ⟨256 + x.val, _⟩) * u (ix2 j0 ⟨256 + (x.val + 128 - 127) % 128, _⟩)) (fun x => g (ix2 j0 ⟨384 + x.val, _⟩) * u (ix2 j0 ⟨384 + (x.val + 128 - 127) % 128, _⟩)) ⟨j1.val - 128, by omega⟩).trans ?_
    split <;> rename_i h' <;> refine key _ _ _ _ ?_ ?_ <;> (simp only at h' ⊢ <;> omega)
  split
  · refine (sel_pair (fun x => g (ix2 j0 ⟨512 + x.val, _⟩) * u (ix2 j0 ⟨512 + (x.val + 128 - 127) % 128, _⟩)) (fun x => g (ix2 j0 ⟨640 + x.val, _⟩) * u (ix2 j0 ⟨640 + (x.val + 128 - 127) % 128, _⟩)) ⟨j1.val - 128 - 128, by omega⟩).trans ?_
    split <;> rename_i h' <;> refine key _ _ _ _ ?_ ?_ <;> (simp only at h' ⊢ <;> omega)
  · refine (sel_pair (fun x => g (ix2 j0 ⟨768 + x.val, _⟩) * u (ix2 j0 ⟨768 + (x.val + 128 - 127) % 128, _⟩)) (fun x => g (ix2 j0 ⟨896 + x.val, _⟩) * u (ix2 j0 ⟨896 + (x.val + 128 - 127) % 128, _⟩)) ⟨j1.val - 128 - 128 - 128, by omega⟩).trans ?_
    split <;> rename_i h' <;> refine key _ _ _ _ ?_ ?_ <;> (simp only at h' ⊢ <;> omega)

/-! ### 512 rows -/

theorem pay12_apply (a : Vec Ideal S512x1024 .bf16) (w : Vec Ideal S1x1024x1024 .f32) (b : Vec Ideal S512x1024 .bf16) (w' : Vec Ideal S1x1024x1024 .f32)
    (v : Vec Ideal S1x1x1024 .f32) (j : S512x1024.Idx) :
    k0_pay12 (F := Ideal) a w b w' v j
      = ∑ x : Fin 1024, a (ix2 (j 0) x) * w (ix3 0 x (j 1)) + ∑ x : Fin 1024, b (ix2 (j 0) x) * w' (ix3 0 x (j 1)) + v (ix3 0 0 (j 1)) := by
  unfold k0_pay12
  pointwise

theorem pay13_apply (a : Vec Ideal S512x1024 .bf16) (w : Vec Ideal S1x1024x1024 .f32) (b : Vec Ideal S512x1024 .bf16) (w' : Vec Ideal S1x1024x1024 .f32)
    (v : Vec Ideal S1x1x1024 .f32) (j : S512x1024.Idx) : k0_pay13 (F := Ideal) a w b w' v j = gateOf (k0_pay12 (F := Ideal) a w b w' v j) := by
  unfold k0_pay13
  pointwise
  rfl

theorem pay14_apply (a : Vec Ideal S512x1024 .bf16) (w : Vec Ideal S1x1024x1024 .f32) (b : Vec Ideal S512x1024 .bf16) (w' : Vec Ideal S1x1024x1024 .f32)
    (v : Vec Ideal S1x1x1024 .f32) (j : S512x1024.Idx) : k0_pay14 (F := Ideal) a w b w' v j = upOf (k0_pay12 (F := Ideal) a w b w' v j) := by
  unfold k0_pay14
  pointwise
  rfl

theorem pay5_apply (a : FVec Ideal S512x512 .f32) (y : Vec Ideal S512x2048 .f32) (w : Vec Ideal S1x512x2048 .f32) (j : S512x2048.Idx) :
    k0_pay5 (F := Ideal) a y w j = y j + ∑ x : Fin 512, a (ix2 (j 0) x) * w (ix3 0 x (j 1)) := by
  unfold k0_pay5
  pointwise

set_option maxHeartbeats 1000000 in
theorem pay17_apply (g u : FVec Ideal S512x1024 .f32) (j0 : Fin 512) (j1 : Fin 512) :
    k0_pay17 (F := Ideal) g u (k0_pay9 (F := Ideal)) (extractStridedSlice S512x128 ![0, 0] g slices_S512x1024_o0_0_S512x128) (ix2 j0 j1)
      = g (ix2 j0 ⟨2 * j1.val, by omega⟩) * u (ix2 j0 ⟨2 * j1.val + 1, by omega⟩) := by
  have hj := j1.isLt
  unfold k0_pay17
  pointwise
  have key : ∀ (m : ℕ) (hm : m < 1024) (n : ℕ) (hn : n < 1024), m = 2 * j1.val → n = 2 * j1.val + 1 →
      g (ix2 j0 ⟨m, hm⟩) * u (ix2 j0 ⟨n, hn⟩) = g (ix2 j0 ⟨2 * j1.val, by omega⟩) * u (ix2 j0 ⟨2 * j1.val + 1, by omega⟩) := by
    intro m hm n hn e e'
    subst e e'
    rfl
  split
  · refine (sel_pair (fun x => g (ix2 j0 ⟨x.val, _⟩) * u (ix2 j0 ⟨(x.val + 128 - 127) % 128, _⟩)) (fun x => g (ix2 j0 ⟨128 + x.val, _⟩) * u (ix2 j0 ⟨128 + (x.val + 128 - 127) % 128, _⟩)) ⟨j1.val, by omega⟩).trans ?_
    split <;> rename_i h' <;> refine key _ _ _ _ ?_ ?_ <;> (simp only at h' ⊢ <;> omega)
  split
  · refine (sel_pair (fun x => g (ix2 j0 ⟨256 + x.val, _⟩) * u (ix2 j0 ⟨256 + (x.val + 128 - 127) % 128, _⟩)) (fun x => g (ix2 j0 ⟨384 + x.val, _⟩) * u (ix2 j0 ⟨384 + (x.val + 128 - 127) % 128, _⟩)) ⟨j1.val - 128, by omega⟩).trans ?_
    split <;> rename_i h' <;> refine key _ _ _ _ ?_ ?_ <;> (simp only at h' ⊢ <;> omega)
  split
  · refine (sel_pair (fun x => g (ix2 j0 ⟨512 + x.val, _⟩) * u (ix2 j0 ⟨512 + (x.val + 128 - 127) % 128, _⟩)) (fun x => g (ix2 j0 ⟨640 + x.val, _⟩) * u (ix2 j0 ⟨640 + (x.val + 128 - 127) % 128, _⟩)) ⟨j1.val - 128 - 128, by omega⟩).trans ?_
    split <;> rename_i h' <;> refine key _ _ _ _ ?_ ?_ <;> (simp only at h' ⊢ <;> omega)
  · refine (sel_pair (fun x => g (ix2 j0 ⟨768 + x.val, _⟩) * u (ix2 j0 ⟨768 + (x.val + 128 - 127) % 128, _⟩)) (fun x => g (ix2 j0 ⟨896 + x.val, _⟩) * u (ix2 j0 ⟨896 + (x.val + 128 - 127) % 128, _⟩)) ⟨j1.val - 128 - 128 - 128, by omega⟩).trans ?_
    split <;> rename_i h' <;> refine key _ _ _ _ ?_ ?_ <;> (simp only at h' ⊢ <;> omega)

end Cert.KernelIdeal.Experts

end
-- ==== Proof.Experts.Block.lean ====
/- One point of the experts' grid as arithmetic over the extended reals: what it adds to the output block. -/
module

public import proofs.«01_k».proof.Proof.Experts.Payload

@[expose] public section

set_option maxRecDepth 16384

noncomputable section

namespace Cert.KernelIdeal.Experts

open Cert.KernelIdeal Cert.KernelIdeal.Gen Idealize.ShloMosaic

/-- Feature `k` of a row of packed words: the low half of word `k` up to 1024, the high half of word `k - 1024` beyond. -/
def rowVal (w : Fin 1024 → BitVec 32) (k : Fin 2048) : EReal :=
  if h : k.val < 1024 then Ideal.ofBits FTy.f32 (IntOp.shli ArithUnit.vector (w ⟨k.val, h⟩) 16#32)
  else Ideal.ofBits FTy.f32 (IntOp.andi (w ⟨k.val - 1024, by omega⟩) 4294901760#32)

theorem rowVal_sum (w : Fin 1024 → BitVec 32) (g : Fin 2048 → EReal) :
    ∑ x : Fin 1024, Ideal.ofBits FTy.f32 (IntOp.shli ArithUnit.vector (w x) 16#32) * g ⟨x.val, by omega⟩
      + ∑ x : Fin 1024, Ideal.ofBits FTy.f32 (IntOp.andi (w x) 4294901760#32) * g ⟨1024 + x.val, by omega⟩ = ∑ k : Fin 2048, rowVal w k * g k := by
  rw [Fin.sum_univ_two_halves 1024 1024 rfl (fun k => rowVal w k * g k)]
  refine congrArg₂ _ (Finset.sum_congr rfl fun x _ => ?_) (Finset.sum_congr rfl fun x _ => ?_)
  · unfold rowVal
    rw [dif_pos (show _ < 1024 from x.isLt)]
  · unfold rowVal
    rw [dif_neg (show ¬ 1024 + x.val < 1024 by omega)]
    congr 4
    apply Fin.ext
    show x.val = 1024 + x.val - 1024
    omega

/-- The gate-and-up product of a row with one tile of the first weights. -/
def guBlk (w : Fin 1024 → BitVec 32) (x1 : S1x2048x1024.Idx → EReal) (x3 : S1x1x1024.Idx → EReal) (c : Fin 1024) : EReal :=
  ∑ k : Fin 2048, rowVal w k * x1 (ix3 0 k c) + x3 (ix3 0 0 c)

/-- The hidden value of a row, feature `h` of the tile: the gate on the even column times the up value of the odd one. -/
def hidBlk (w : Fin 1024 → BitVec 32) (x1 : S1x2048x1024.Idx → EReal) (x3 : S1x1x1024.Idx → EReal) (h : Fin 512) : EReal :=
  gateOf (guBlk w x1 x3 ⟨2 * h.val, by omega⟩) * upOf (guBlk w x1 x3 ⟨2 * h.val + 1, by omega⟩)

/-- What a point adds to a row. -/
def downBlk (w : Fin 1024 → BitVec 32) (x1 : S1x2048x1024.Idx → EReal) (x2 : S1x512x2048.Idx → EReal) (x3 : S1x1x1024.Idx → EReal) (d : Fin 2048) : EReal :=
  ∑ h : Fin 512, hidBlk w x1 x3 h * x2 (ix3 0 h d)

variable (x0 : S512x1024.Idx → BitVec 32) (x1 : S1x2048x1024.Idx → EReal) (x2 : S1x512x2048.Idx → EReal) (x3 : S1x1x1024.Idx → EReal)

theorem wTop_apply (k : Fin 1024) (c : Fin 1024) : wTop (F := Ideal) x1 (ix3 0 k c) = x1 (ix3 0 ⟨k.val, by omega⟩ c) := by
  unfold wTop
  rw [VecWindow.window_eq_ld (Val := Elt Ideal) (e := .f32)]
  pointwise

theorem wBot_apply (k : Fin 1024) (c : Fin 1024) : wBot (F := Ideal) x1 (ix3 0 k c) = x1 (ix3 0 ⟨1024 + k.val, by omega⟩ c) := by
  unfold wBot
  rw [VecWindow.window_eq_ld (Val := Elt Ideal) (e := .f32)]
  pointwise

theorem rows256_apply (a : S512x1024.Idx → EReal) (r : Fin 256) (c : Fin 1024) : rows256 (F := Ideal) a (ix2 r c) = a (ix2 ⟨r.val, by omega⟩ c) := by
  unfold rows256
  rw [VecWindow.window_eq_ld (Val := Elt Ideal) (e := .f32)]
  pointwise

theorem gu_half (r : Fin 256) (c : Fin 1024) :
    k0_pay6 (F := Ideal) (rows256 (k0_pay2 (F := Ideal) x0)) (wTop x1) (rows256 (k0_pay3 (F := Ideal) x0)) (wBot x1) x3 (ix2 r c)
      = guBlk (fun k => x0 (ix2 ⟨r.val, by omega⟩ k)) x1 x3 c := by
  rw [pay6_apply]
  unfold guBlk
  refine congrArg (· + x3 (ix3 0 0 c)) (Eq.trans ?_ (rowVal_sum _ (fun k => x1 (ix3 0 k c))))
  refine congrArg₂ _ (Finset.sum_congr rfl fun x _ => ?_) (Finset.sum_congr rfl fun x _ => ?_)
  · show rows256 (F := Ideal) (k0_pay2 (F := Ideal) x0) (ix2 r x) * wTop (F := Ideal) x1 (ix3 0 x c) = _
    rw [rows256_apply, wTop_apply, pay2_apply]
  · show rows256 (F := Ideal) (k0_pay3 (F := Ideal) x0) (ix2 r x) * wBot (F := Ideal) x1 (ix3 0 x c) = _
    rw [rows256_apply, wBot_apply, pay3_apply]

theorem gu_full (r : Fin 512) (c : Fin 1024) :
    k0_pay12 (F := Ideal) (k0_pay2 (F := Ideal) x0) (wTop x1) (k0_pay3 (F := Ideal) x0) (wBot x1) x3 (ix2 r c)
      = guBlk (fun k => x0 (ix2 r k)) x1 x3 c := by
  rw [pay12_apply]
  unfold guBlk
  refine congrArg (· + x3 (ix3 0 0 c)) (Eq.trans ?_ (rowVal_sum _ (fun k => x1 (ix3 0 k c))))
  refine congrArg₂ _ (Finset.sum_congr rfl fun x _ => ?_) (Finset.sum_congr rfl fun x _ => ?_)
  · show k0_pay2 (F := Ideal) x0 (ix2 r x) * wTop (F := Ideal) x1 (ix3 0 x c) = _
    rw [wTop_apply, pay2_apply]
  · show k0_pay3 (F := Ideal) x0 (ix2 r x) * wBot (F := Ideal) x1 (ix3 0 x c) = _
    rw [wBot_apply, pay3_apply]

theorem act_half (r : Fin 256) (h : Fin 512) :
    actHalf (F := Ideal) (k0_pay2 (F := Ideal) x0) (k0_pay3 (F := Ideal) x0) x1 x3 (ix2 r h) = hidBlk (fun k => x0 (ix2 ⟨r.val, by omega⟩ k)) x1 x3 h := by
  unfold actHalf
  refine (pay11_apply _ _ r h).trans ?_
  rw [pay7_apply, pay8_apply, gu_half, gu_half]
  rfl

theorem act_full (r : Fin 512) (h : Fin 512) :
    actFull (F := Ideal) (k0_pay2 (F := Ideal) x0) (k0_pay3 (F := Ideal) x0) x1 x3 (ix2 r h) = hidBlk (fun k => x0 (ix2 r k)) x1 x3 h := by
  unfold actFull
  refine (pay17_apply _ _ r h).trans ?_
  rw [pay13_apply, pay14_apply, gu_full, gu_full]
  rfl

theorem stepFull_apply (y : S512x2048.Idx → EReal) (r : Fin 512) (d : Fin 2048) :
    stepFull (F := Ideal) y (k0_pay2 (F := Ideal) x0) (k0_pay3 (F := Ideal) x0) x1 x2 x3 (ix2 r d)
      = y (ix2 r d) + downBlk (fun k => x0 (ix2 r k)) x1 x2 x3 d := by
  unfold stepFull
  rw [pay5_apply]
  refine congrArg (y (ix2 r d) + ·) (Finset.sum_congr rfl fun h _ => ?_)
  show actFull (F := Ideal) (k0_pay2 (F := Ideal) x0) (k0_pay3 (F := Ideal) x0) x1 x3 (ix2 r h) * x2 (ix3 0 h d) = _
  rw [act_full]

theorem stepHalf_apply (y : S512x2048.Idx → EReal) (r : Fin 512) (d : Fin 2048) :
    stepHalf (F := Ideal) y (k0_pay2 (F := Ideal) x0) (k0_pay3 (F := Ideal) x0) x1 x2 x3 (ix2 r d)
      = if r.val < 256 then y (ix2 r d) + downBlk (fun k => x0 (ix2 r k)) x1 x2 x3 d else y (ix2 r d) := by
  unfold stepHalf
  split
  · rename_i hr
    have e := congrFun (VecWindow.window_put_same y ![0, 0] S256x2048.size inb_S512x2048_S256x2048_0_0
      (k0_pay4 (F := Ideal) (actHalf (k0_pay2 (F := Ideal) x0) (k0_pay3 (F := Ideal) x0) x1 x3) (VecWindow.window y ![0, 0] S256x2048.size inb_S512x2048_S256x2048_0_0) x2)) (ix2 ⟨r.val, hr⟩ d)
    have e' : ∀ z : S512x2048.Idx → EReal, VecWindow.window z ![0, 0] S256x2048.size inb_S512x2048_S256x2048_0_0 (ix2 ⟨r.val, hr⟩ d) = z (ix2 r d) := by
      intro z
      rw [VecWindow.window_eq_ld (Val := Elt Ideal) (e := .f32)]
      pointwise
    rw [e'] at e
    rw [e]
    refine (pay4_apply _ _ _ _).trans ?_
    rw [e']
    refine congrArg (y (ix2 r d) + ·) (Finset.sum_congr rfl fun h _ => ?_)
    show actHalf (F := Ideal) (k0_pay2 (F := Ideal) x0) (k0_pay3 (F := Ideal) x0) x1 x3 (ix2 ⟨r.val, hr⟩ h) * x2 (ix3 0 h d) = _
    rw [act_half]
  · rename_i hr
    unfold VecWindow.put
    rw [dif_neg]
    intro hc
    have := (hc 0).2
    exact hr (by simpa using this)

/-- One point's effect on the output block: at a tile's first point the bias first, then the product on the rows in use. -/
theorem nextOut_apply (f : ℕ) (w : BitVec 32) (hw : w = 0#32 ∨ w = 1#32 ∨ w = 2#32) (y : S512x2048.Idx → EReal) (x4 : S1x1x2048.Idx → EReal) (r : Fin 512) (d : Fin 2048) :
    nextOut (F := Ideal) f w y x0 x1 x2 x3 x4 (ix2 r d)
      = (if f = 0 then x4 (ix3 0 0 d) else y (ix2 r d)) + (if r.val < 256 * w.toNat then downBlk (fun k => x0 (ix2 r k)) x1 x2 x3 d else 0) := by
  have e : (if f = 0 then k0_pay1 (F := Ideal) x4 else y) (ix2 r d) = (if f = 0 then x4 (ix3 0 0 d) else y (ix2 r d)) := by
    split
    · exact pay1_apply x4 _
    · rfl
  have hr := r.isLt
  unfold nextOut applyStep
  rcases hw with rfl | rfl | rfl
  · rw [if_neg (by decide), if_neg (by decide), e, if_neg (show ¬ r.val < 256 * (0#32).toNat by simp), add_zero]
  · rw [if_pos rfl, stepHalf_apply, e]
    by_cases h : r.val < 256
    · rw [if_pos h, if_pos (show r.val < 256 * (1#32).toNat by simpa using h)]
    · rw [if_neg h, if_neg (show ¬ r.val < 256 * (1#32).toNat by simpa using h), add_zero]
  · rw [if_neg (by decide), if_pos rfl, stepFull_apply, e, if_pos (show r.val < 256 * (2#32).toNat by simpa using hr)]

end Cert.KernelIdeal.Experts

end
-- ==== Proof.Experts.Spec.lean ====
/- What the experts compute, row by row, as one expression over the whole arrays. -/
module

public import proofs.«01_k».proof.Proof.Experts.Block
public import proofs.«01_k».proof.Proof.Experts.Cfg

@[expose] public section

set_option maxRecDepth 16384

noncomputable section

namespace Cert.KernelIdeal.Experts

open Cert.KernelIdeal Cert.KernelIdeal.Gen Idealize.ShloMosaic

section
variable (X : S49152x1024.Idx → BitVec 32) (W1 : S32x2048x4096.Idx → EReal) (W2 : S32x2048x2048.Idx → EReal)
  (b1 : S32x1x4096.Idx → EReal) (b2 : S32x1x2048.Idx → EReal) (e : Fin 32) (row : Fin 49152)

/-- Column `c` of the gate-and-up product of a row with expert `e`'s first weights, its bias added. -/
def guRow (c : Fin 4096) : EReal :=
  ∑ k : Fin 2048, rowVal (fun w => X (ix2 row w)) k * W1 (ix3 e k c) + b1 (ix3 e 0 c)

/-- Hidden feature `h` of a row. -/
def hidRow (h : Fin 2048) : EReal :=
  gateOf (guRow X W1 b1 e row ⟨2 * h.val, by omega⟩) * upOf (guRow X W1 b1 e row ⟨2 * h.val + 1, by omega⟩)

/-- The part of the second product that tile `τ` of the hidden features gives. -/
def partRow (τ : Fin 4) (d : Fin 2048) : EReal :=
  ∑ h : Fin 512, hidRow X W1 b1 e row ⟨512 * τ.val + h.val, by omega⟩ * W2 (ix3 e ⟨512 * τ.val + h.val, by omega⟩ d)

/-- The second product of a row. -/
def downRow (d : Fin 2048) : EReal := ∑ h : Fin 2048, hidRow X W1 b1 e row h * W2 (ix3 e h d)

/-- The second product is the sum of its four tiles. -/
theorem downRow_parts (d : Fin 2048) :
    downRow X W1 W2 b1 e row d = partRow X W1 W2 b1 e row 0 d + partRow X W1 W2 b1 e row 1 d + partRow X W1 W2 b1 e row 2 d + partRow X W1 W2 b1 e row 3 d := by
  have g : ∀ n : Fin 2048, ∀ n', n = n' → hidRow X W1 b1 e row n * W2 (ix3 e n d) = hidRow X W1 b1 e row n' * W2 (ix3 e n' d) := fun n n' h => by rw [h]
  unfold downRow partRow
  rw [Fin.sum_univ_two_halves 1024 1024 rfl (fun h : Fin 2048 => hidRow X W1 b1 e row h * W2 (ix3 e h d)),
    Fin.sum_univ_two_halves 512 512 rfl (fun h : Fin 1024 => hidRow X W1 b1 e row ⟨h.val, by omega⟩ * W2 (ix3 e ⟨h.val, by omega⟩ d)),
    Fin.sum_univ_two_halves 512 512 rfl (fun h : Fin 1024 => hidRow X W1 b1 e row ⟨1024 + h.val, by omega⟩ * W2 (ix3 e ⟨1024 + h.val, by omega⟩ d)), ← add_assoc]
  refine congrArg₂ _ (congrArg₂ _ (congrArg₂ _ ?_ ?_) ?_) ?_ <;> refine Finset.sum_congr rfl fun h _ => g _ _ (Fin.ext ?_)
  · show h.val = 512 * 0 + h.val; omega
  · show 512 + h.val = 512 * 1 + h.val; omega
  · show 1024 + h.val = 512 * 2 + h.val; omega
  · show 1024 + (512 + h.val) = 512 * 3 + h.val; omega

end

/-- The experts' result: on a row in use the second product and its bias, on any other the bias alone. -/
def outRow (T0 T1 : S96.Idx → BitVec 32) (hbe : ∀ n h, (T0 (at96 n h)).toNat < 32) (X : S49152x1024.Idx → BitVec 32) (W1 : S32x2048x4096.Idx → EReal)
    (W2 : S32x2048x2048.Idx → EReal) (b1 : S32x1x4096.Idx → EReal) (b2 : S32x1x2048.Idx → EReal) (i0 : Fin 49152) (d : Fin 2048) : EReal :=
  b2 (ix3 ⟨(T0 (at96 (i0.val / 512) (by omega))).toNat, hbe _ _⟩ 0 d)
    + if i0.val % 512 < 256 * (T1 (at96 (i0.val / 512) (by omega))).toNat then downRow X W1 W2 b1 ⟨(T0 (at96 (i0.val / 512) (by omega))).toNat, hbe _ _⟩ i0 d else 0

end Cert.KernelIdeal.Experts

end
-- ==== Proof.Experts.Value.lean ====
/- The array the experts' kernel leaves, read at an index. -/
module

public import proofs.«01_k».proof.Proof.Experts.Data
public import proofs.«01_k».proof.Proof.Experts.Spec
public import Idealize.ShloMosaic.Lib.Pipeline.Covers
public import Idealize.ShloMosaic.Lib.Pipeline.ValueKit.Geometry

@[expose] public section

set_option maxRecDepth 16384

noncomputable section

namespace Cert.KernelIdeal.Experts

open Cert.KernelIdeal Cert.KernelIdeal.Gen
open Idealize.ShloMosaic Idealize.ShloMosaic.TcCoe
open Idealize.ShloMosaic.Pipeline (Dat Cfg Window)

section Value
variable (pf : pre0.Contents (Elt Ideal)) (hpf : PfOk pf)
variable (m : (ℓ : Loc nD τ sig) → Buf (Elt Ideal) ℓ) (ρ : Dev nD → PrngReg) (c : Dev nD)

/-- The tables and the arrays, at their shapes. -/
abbrev tabBe : S96.Idx → BitVec 32 := pf 0
abbrev tabRev : S96.Idx → BitVec 32 := pf 2
abbrev tabNu : S1.Idx → BitVec 32 := pf 3
abbrev arrX : S49152x1024.Idx → BitVec 32 := m ((c : Thread nD τ).loc main_arg4)
abbrev arrW1 : S32x2048x4096.Idx → EReal := m ((c : Thread nD τ).loc main_arg5)
abbrev arrW2 : S32x2048x2048.Idx → EReal := m ((c : Thread nD τ).loc main_arg6)
abbrev arrB1 : S32x1x4096.Idx → EReal := m ((c : Thread nD τ).loc main_arg7)
abbrev arrB2 : S32x1x2048.Idx → EReal := m ((c : Thread nD τ).loc main_arg8)

theorem tile_of (t : Fin (cfgA pf hpf).N) : t.val / 4 < 96 := by
  have := t.isLt.trans_eq (cfgN pf hpf)
  omega

/-- A tile's expert. -/
abbrev expertAt (t : Fin (cfgA pf hpf).N) : Fin 32 := ⟨(tabBe pf (at96 (t.val / 4) (tile_of pf hpf t))).toNat, hpf.be _ _⟩
/-- The tile of hidden features a point takes. -/
abbrev featAt (t : Fin (cfgA pf hpf).N) : BitVec 32 := tileW (tabRev pf (at96 (t.val / 4) (tile_of pf hpf t))) (tabNu pf at1) (t.val / 4) (t.val % 4)

theorem featAt_lt (t : Fin (cfgA pf hpf).N) : (featAt pf hpf t).toNat < 4 := tileW_lt _ _ _ _ (by omega)

theorem at96_congr {n n' : ℕ} (e : n = n') (h : n < 96) (h' : n' < 96) : at96 n h = at96 n' h' := by subst e; rfl

theorem be_eq (t : Fin (cfgA pf hpf).N) :
    (pf 0 : S96.Idx → Elt Ideal .i32) (at96 ((crd pf hpf t) 0).val (tile_lt (crd pf hpf t))) = tabBe pf (at96 (t.val / 4) (tile_of pf hpf t)) :=
  congrArg (tabBe pf) (at96_congr (crd_tile pf hpf t) _ _)

theorem feat_eq (t : Fin (cfgA pf hpf).N) :
    tileW ((pf 2 : S96.Idx → Elt Ideal .i32) (at96 ((crd pf hpf t) 0).val (tile_lt (crd pf hpf t)))) ((pf 3 : S1.Idx → Elt Ideal .i32) at1) ((crd pf hpf t) 0).val ((crd pf hpf t) 1).val
      = featAt pf hpf t := by
  have e : (pf 2 : S96.Idx → Elt Ideal .i32) (at96 ((crd pf hpf t) 0).val (tile_lt (crd pf hpf t))) = tabRev pf (at96 (t.val / 4) (tile_of pf hpf t)) :=
    congrArg (tabRev pf) (at96_congr (crd_tile pf hpf t) _ _)
  rw [e, crd_tile, crd_step]

theorem tr1_at (t : Fin (cfgA pf hpf).N) : cc0_transform_1 k0_off1_inb numel1_S1 inb_S1_S1_0 pf (crd pf hpf t) = ![(expertAt pf hpf t).val, 0, (featAt pf hpf t).toNat] :=
  (tr1 pf _).trans (congrArg₂ (fun (a b : BitVec 32) => ![a.toNat, 0, b.toNat]) (be_eq pf hpf t) (feat_eq pf hpf t))
theorem tr2_at (t : Fin (cfgA pf hpf).N) : cc0_transform_2 k0_off1_inb numel1_S1 inb_S1_S1_0 pf (crd pf hpf t) = ![(expertAt pf hpf t).val, (featAt pf hpf t).toNat, 0] :=
  (tr2 pf _).trans (congrArg₂ (fun (a b : BitVec 32) => ![a.toNat, b.toNat, 0]) (be_eq pf hpf t) (feat_eq pf hpf t))
theorem tr3_at (t : Fin (cfgA pf hpf).N) : cc0_transform_3 k0_off1_inb numel1_S1 inb_S1_S1_0 pf (crd pf hpf t) = ![(expertAt pf hpf t).val, 0, (featAt pf hpf t).toNat] :=
  (tr3 pf _).trans (congrArg₂ (fun (a b : BitVec 32) => ![a.toNat, 0, b.toNat]) (be_eq pf hpf t) (feat_eq pf hpf t))
theorem tr4_at (t : Fin (cfgA pf hpf).N) : cc0_transform_4 k0_off1_inb numel1_S1 pf (crd pf hpf t) = ![(expertAt pf hpf t).val, 0, 0] :=
  (tr4 pf _).trans (congrArg (fun (a : BitVec 32) => ![a.toNat, 0, 0]) (be_eq pf hpf t))

theorem x1At_apply (t : Fin (cfgA pf hpf).N) (k : Fin 2048) (q : Fin 1024) :
    x1At pf hpf m ρ c t (ix3 0 k q) = arrW1 m c (ix3 (expertAt pf hpf t) k ⟨1024 * (featAt pf hpf t).toNat + q.val, by have := featAt_lt pf hpf t; omega⟩) :=
  congrArg (arrW1 m c) (funext fun a => Fin.ext (by
    show cc0_transform_1 k0_off1_inb numel1_S1 inb_S1_S1_0 pf (crd pf hpf t) a * S1x2048x1024.size a + 1 * ((ix3 (0 : Fin 1) k q) a).val = _
    rw [tr1_at]
    match a with
    | ⟨0, _⟩ => show (expertAt pf hpf t).val * 1 + 1 * 0 = (expertAt pf hpf t).val; omega
    | ⟨1, _⟩ => show 0 * 2048 + 1 * k.val = k.val; omega
    | ⟨2, _⟩ => show (featAt pf hpf t).toNat * 1024 + 1 * q.val = 1024 * (featAt pf hpf t).toNat + q.val; omega))

theorem x2At_apply (t : Fin (cfgA pf hpf).N) (h : Fin 512) (d : Fin 2048) :
    x2At pf hpf m ρ c t (ix3 0 h d) = arrW2 m c (ix3 (expertAt pf hpf t) ⟨512 * (featAt pf hpf t).toNat + h.val, by have := featAt_lt pf hpf t; omega⟩ d) :=
  congrArg (arrW2 m c) (funext fun a => Fin.ext (by
    show cc0_transform_2 k0_off1_inb numel1_S1 inb_S1_S1_0 pf (crd pf hpf t) a * S1x512x2048.size a + 1 * ((ix3 (0 : Fin 1) h d) a).val = _
    rw [tr2_at]
    match a with
    | ⟨0, _⟩ => show (expertAt pf hpf t).val * 1 + 1 * 0 = (expertAt pf hpf t).val; omega
    | ⟨1, _⟩ => show (featAt pf hpf t).toNat * 512 + 1 * h.val = 512 * (featAt pf hpf t).toNat + h.val; omega
    | ⟨2, _⟩ => show 0 * 2048 + 1 * d.val = d.val; omega))

theorem x3At_apply (t : Fin (cfgA pf hpf).N) (q : Fin 1024) :
    x3At pf hpf m ρ c t (ix3 0 0 q) = arrB1 m c (ix3 (expertAt pf hpf t) 0 ⟨1024 * (featAt pf hpf t).toNat + q.val, by have := featAt_lt pf hpf t; omega⟩) :=
  congrArg (arrB1 m c) (funext fun a => Fin.ext (by
    show cc0_transform_3 k0_off1_inb numel1_S1 inb_S1_S1_0 pf (crd pf hpf t) a * S1x1x1024.size a + 1 * ((ix3 (0 : Fin 1) (0 : Fin 1) q) a).val = _
    rw [tr3_at]
    match a with
    | ⟨0, _⟩ => show (expertAt pf hpf t).val * 1 + 1 * 0 = (expertAt pf hpf t).val; omega
    | ⟨1, _⟩ => show 0 * 1 + 1 * 0 = 0; omega
    | ⟨2, _⟩ => show (featAt pf hpf t).toNat * 1024 + 1 * q.val = 1024 * (featAt pf hpf t).toNat + q.val; omega))

theorem x4At_apply (t : Fin (cfgA pf hpf).N) (d : Fin 2048) :
    x4At pf hpf m ρ c t (ix3 0 0 d) = arrB2 m c (ix3 (expertAt pf hpf t) 0 d) :=
  congrArg (arrB2 m c) (funext fun a => Fin.ext (by
    show cc0_transform_4 k0_off1_inb numel1_S1 pf (crd pf hpf t) a * S1x1x2048.size a + 1 * ((ix3 (0 : Fin 1) (0 : Fin 1) d) a).val = _
    rw [tr4_at]
    match a with
    | ⟨0, _⟩ => show (expertAt pf hpf t).val * 1 + 1 * 0 = (expertAt pf hpf t).val; omega
    | ⟨1, _⟩ => show 0 * 1 + 1 * 0 = 0; omega
    | ⟨2, _⟩ => show 0 * 2048 + 1 * d.val = d.val; omega))

theorem rowsW_used (nu : BitVec 32) (j : ℕ) (hj : j < nu.toNat) (h2 : nu.toNat ≤ 96) : (rowsW nu j).toNat = j := by
  have hs : (nu - 1#32).toNat = nu.toNat - 1 := by
    rw [BitVec.toNat_sub_of_le (by rw [BitVec.le_def]; show 1 ≤ nu.toNat; omega)]; rfl
  have hb : (BitVec.ofNat 32 j).toNat = j := by simp only [BitVec.toNat_ofNat]; omega
  unfold rowsW Scalar.minsi IntOp.minsi
  split
  · exact hb
  · rename_i hc
    show (nu - 1#32).toNat = j
    by_contra hne
    apply hc
    show (BitVec.ofNat 32 j).slt (nu - 1#32) = true
    rw [BitVec.slt_eq_decide]
    refine decide_eq_true ?_
    rw [BitVec.toInt_eq_toNat_cond, BitVec.toInt_eq_toNat_cond, if_pos (by omega), if_pos (by omega)]
    omega

/-- A tile in use reads its own rows. -/
theorem x0At_used (t : Fin (cfgA pf hpf).N) (hu : t.val / 4 < (tabNu pf at1).toNat) (r : Fin 512) (k : Fin 1024) :
    x0At pf hpf m ρ c t (ix2 r k) = arrX m c (ix2 ⟨512 * (t.val / 4) + r.val, by have := tile_of pf hpf t; omega⟩ k) :=
  congrArg (arrX m c) (funext fun a => Fin.ext (by
    show cc0_transform_0 inb_S1_S1_0 numel1_S1 pf (crd pf hpf t) a * S512x1024.size a + 1 * ((ix2 r k) a).val = _
    rw [tr0, crd_tile, rowsW_used _ _ hu hpf.nu2]
    match a with
    | ⟨0, _⟩ => show t.val / 4 * 512 + 1 * r.val = 512 * (t.val / 4) + r.val; omega
    | ⟨1, _⟩ => show 0 * 1024 + 1 * k.val = k.val; omega))

/-- What a point of a tile in use adds to a row. -/
theorem down_used (t : Fin (cfgA pf hpf).N) (hu : t.val / 4 < (tabNu pf at1).toNat) (r : Fin 512) (d : Fin 2048) :
    downBlk (fun k => x0At pf hpf m ρ c t (ix2 r k)) (x1At pf hpf m ρ c t) (x2At pf hpf m ρ c t) (x3At pf hpf m ρ c t) d
      = partRow (arrX m c) (arrW1 m c) (arrW2 m c) (arrB1 m c) (expertAt pf hpf t) ⟨512 * (t.val / 4) + r.val, by have := tile_of pf hpf t; omega⟩
          ⟨(featAt pf hpf t).toNat, featAt_lt pf hpf t⟩ d := by
  have hgu : ∀ q : Fin 1024, guBlk (fun k => x0At pf hpf m ρ c t (ix2 r k)) (x1At pf hpf m ρ c t) (x3At pf hpf m ρ c t) q
      = guRow (arrX m c) (arrW1 m c) (arrB1 m c) (expertAt pf hpf t) ⟨512 * (t.val / 4) + r.val, by have := tile_of pf hpf t; omega⟩
          ⟨1024 * (featAt pf hpf t).toNat + q.val, by have := featAt_lt pf hpf t; omega⟩ := by
    intro q
    unfold guBlk guRow
    rw [x3At_apply, funext fun k => x0At_used pf hpf m ρ c t hu r k]
    exact congrArg (· + _) (Finset.sum_congr rfl fun k _ => by rw [x1At_apply])
  have hgu' : ∀ (q : Fin 1024) (q' : Fin 4096), q'.val = 1024 * (featAt pf hpf t).toNat + q.val →
      guBlk (fun k => x0At pf hpf m ρ c t (ix2 r k)) (x1At pf hpf m ρ c t) (x3At pf hpf m ρ c t) q
      = guRow (arrX m c) (arrW1 m c) (arrB1 m c) (expertAt pf hpf t) ⟨512 * (t.val / 4) + r.val, by have := tile_of pf hpf t; omega⟩ q' := by
    intro q q' h
    rw [hgu]
    exact congrArg _ (Fin.ext h.symm)
  unfold downBlk partRow
  refine Finset.sum_congr rfl fun h _ => ?_
  rw [x2At_apply]
  unfold hidBlk hidRow
  rw [hgu' _ ⟨2 * (512 * (featAt pf hpf t).toNat + h.val), by have := featAt_lt pf hpf t; omega⟩ (by show 2 * (512 * (featAt pf hpf t).toNat + h.val) = 1024 * (featAt pf hpf t).toNat + 2 * h.val; omega),
    hgu' _ ⟨2 * (512 * (featAt pf hpf t).toNat + h.val) + 1, by have := featAt_lt pf hpf t; omega⟩ (by show 2 * (512 * (featAt pf hpf t).toNat + h.val) + 1 = 1024 * (featAt pf hpf t).toNat + (2 * h.val + 1); omega)]

/-- The half tiles in use, at a point. -/
theorem wAt_tab (t : Fin (cfgA pf hpf).N) : wAt pf hpf t = tabNs pf (at96 (t.val / 4) (tile_of pf hpf t)) :=
  (nsW_eq _ _).trans (congrArg (tabNs pf) (at96_congr (crd_tile pf hpf t) _ _))

/-- The output block after a point, from what it held before. -/
theorem acc_step (t : Fin (cfgA pf hpf).N) (r : Fin 512) (d : Fin 2048) :
    accAt pf hpf m ρ c t.val (ix2 r d)
      = (if t.val % 4 = 0 then arrB2 m c (ix3 (expertAt pf hpf t) 0 d) else accAt pf hpf m ρ c (t.val - 1) (ix2 r d))
        + (if r.val < 256 * (tabNs pf (at96 (t.val / 4) (tile_of pf hpf t))).toNat then
            partRow (arrX m c) (arrW1 m c) (arrW2 m c) (arrB1 m c) (expertAt pf hpf t) ⟨512 * (t.val / 4) + r.val, by have := tile_of pf hpf t; omega⟩
              ⟨(featAt pf hpf t).toNat, featAt_lt pf hpf t⟩ d else 0) := by
  rw [accAt_eq pf hpf m ρ c t _ (fun _ => rfl), nextOut_apply _ _ _ _ _ _ (wAt_cases pf hpf t), x4At_apply]
  refine congrArg₂ _ rfl ?_
  rw [wAt_tab]
  by_cases h : r.val < 256 * (tabNs pf (at96 (t.val / 4) (tile_of pf hpf t))).toNat
  · rw [if_pos h, if_pos h]
    refine down_used pf hpf m ρ c t ?_ r d
    rcases hpf.used _ (tile_of pf hpf t) with hu | h0
    · exact hu
    · rw [show tabNs pf (at96 (t.val / 4) (tile_of pf hpf t)) = 0#32 from h0] at h
      exact absurd h (by simp)
  · rw [if_neg h, if_neg h]

theorem slt_small (j : ℕ) (nu : BitVec 32) (hj : j < nu.toNat) (h2 : nu.toNat ≤ 96) : Scalar.cmpi .slt (BitVec.ofNat 32 j) nu = 1#1 := by
  have hb : (BitVec.ofNat 32 j).toNat = j := by simp only [BitVec.toNat_ofNat]; omega
  refine IntOp.cmpi_slt.2 ?_
  rw [BitVec.toInt_eq_toNat_cond, BitVec.toInt_eq_toNat_cond, if_pos (by omega), if_pos (by omega)]
  omega

/-- The tile a point of a tile in use takes: counted down where the tile's flag says so. -/
theorem tileW_used (rev nu : BitVec 32) (j f : ℕ) (hj : j < nu.toNat) (h2 : nu.toNat ≤ 96) (hf : f < 4) :
    (tileW rev nu j f).toNat = if Scalar.cmpi .eq rev 1#32 = 1#1 then 3 - f else f := by
  unfold tileW
  rw [slt_small j nu hj h2]
  generalize Scalar.cmpi .eq rev 1#32 = d
  rcases (show f = 0 ∨ f = 1 ∨ f = 2 ∨ f = 3 by omega) with rfl | rfl | rfl | rfl <;> revert d <;> decide

/-- A tile's expert, by the tile's number. -/
abbrev expertOf (j : ℕ) (hj : j < 96) : Fin 32 := ⟨(tabBe pf (at96 j hj)).toNat, hpf.be _ _⟩
/-- The tile of hidden features, by the tile's number and the step. -/
abbrev featOf (j : ℕ) (hj : j < 96) (f : ℕ) : BitVec 32 := tileW (tabRev pf (at96 j hj)) (tabNu pf at1) j f
/-- What tile `j`'s step `f` adds to a row. -/
def addOf (j : ℕ) (hj : j < 96) (f : ℕ) (hf : f < 4) (r : Fin 512) (d : Fin 2048) : EReal :=
  if r.val < 256 * (tabNs pf (at96 j hj)).toNat then
    partRow (arrX m c) (arrW1 m c) (arrW2 m c) (arrB1 m c) (expertOf pf hpf j hj) ⟨512 * j + r.val, by omega⟩ ⟨(featOf pf j hj f).toNat, tileW_lt _ _ _ _ hf⟩ d else 0

theorem acc_point (t : Fin (cfgA pf hpf).N) (r : Fin 512) (d : Fin 2048) (j : ℕ) (hj : j < 96) (f : ℕ) (hf : f < 4) (ej : t.val / 4 = j) (ef : t.val % 4 = f) :
    accAt pf hpf m ρ c t.val (ix2 r d)
      = (if f = 0 then arrB2 m c (ix3 (expertOf pf hpf j hj) 0 d) else accAt pf hpf m ρ c (t.val - 1) (ix2 r d)) + addOf pf hpf m c j hj f hf r d := by
  subst ej ef
  exact acc_step pf hpf m ρ c t r d

/-- After a tile's last step the block holds the bias and the four steps' sums. -/
theorem acc_four (j : ℕ) (hj : j < 96) (r : Fin 512) (d : Fin 2048) :
    accAt pf hpf m ρ c (4 * j + 3) (ix2 r d)
      = arrB2 m c (ix3 (expertOf pf hpf j hj) 0 d) + addOf pf hpf m c j hj 0 (by omega) r d + addOf pf hpf m c j hj 1 (by omega) r d
        + addOf pf hpf m c j hj 2 (by omega) r d + addOf pf hpf m c j hj 3 (by omega) r d := by
  have h0 := acc_point pf hpf m ρ c ⟨4 * j, by rw [cfgN]; omega⟩ r d j hj 0 (by omega) (by show 4 * j / 4 = j; omega) (by show 4 * j % 4 = 0; omega)
  have h1 := acc_point pf hpf m ρ c ⟨4 * j + 1, by rw [cfgN]; omega⟩ r d j hj 1 (by omega) (by show (4 * j + 1) / 4 = j; omega) (by show (4 * j + 1) % 4 = 1; omega)
  have h2 := acc_point pf hpf m ρ c ⟨4 * j + 2, by rw [cfgN]; omega⟩ r d j hj 2 (by omega) (by show (4 * j + 2) / 4 = j; omega) (by show (4 * j + 2) % 4 = 2; omega)
  have h3 := acc_point pf hpf m ρ c ⟨4 * j + 3, by rw [cfgN]; omega⟩ r d j hj 3 (by omega) (by show (4 * j + 3) / 4 = j; omega) (by show (4 * j + 3) % 4 = 3; omega)
  rw [if_pos rfl] at h0
  rw [if_neg (by decide)] at h1 h2 h3
  exact h3.trans (congrArg (· + _) (h2.trans (congrArg (· + _) (h1.trans (congrArg (· + _) h0)))))

/-- The four steps' sums are the second product of a row in use, nothing on any other. -/
theorem add_four (j : ℕ) (hj : j < 96) (r : Fin 512) (d : Fin 2048) :
    addOf pf hpf m c j hj 0 (by omega) r d + addOf pf hpf m c j hj 1 (by omega) r d + addOf pf hpf m c j hj 2 (by omega) r d + addOf pf hpf m c j hj 3 (by omega) r d
      = if r.val < 256 * (tabNs pf (at96 j hj)).toNat then
          downRow (arrX m c) (arrW1 m c) (arrW2 m c) (arrB1 m c) (expertOf pf hpf j hj) ⟨512 * j + r.val, by omega⟩ d else 0 := by
  unfold addOf
  by_cases h : r.val < 256 * (tabNs pf (at96 j hj)).toNat
  · have hu : j < (tabNu pf at1).toNat := by
      rcases hpf.used _ hj with hu | h0
      · exact hu
      · rw [show tabNs pf (at96 j hj) = 0#32 from h0] at h
        exact absurd h (by simp)
    have ht : ∀ f hf (τ : Fin 4), τ.val = (if Scalar.cmpi .eq (tabRev pf (at96 j hj)) 1#32 = 1#1 then 3 - f else f) →
        (⟨(featOf pf j hj f).toNat, tileW_lt _ _ _ _ hf⟩ : Fin 4) = τ := fun f hf τ hτ =>
      Fin.ext ((tileW_used _ _ j f hu hpf.nu2 hf).trans hτ.symm)
    rw [if_pos h, if_pos h, if_pos h, if_pos h, if_pos h, downRow_parts]
    by_cases hr : Scalar.cmpi .eq (tabRev pf (at96 j hj)) 1#32 = 1#1
    · rw [ht 0 (by omega) 3 (by rw [if_pos hr]; rfl), ht 1 (by omega) 2 (by rw [if_pos hr]; rfl), ht 2 (by omega) 1 (by rw [if_pos hr]; rfl), ht 3 (by omega) 0 (by rw [if_pos hr]; rfl)]
      generalize partRow _ _ _ _ _ _ 0 d = p0
      generalize partRow _ _ _ _ _ _ 1 d = p1
      generalize partRow _ _ _ _ _ _ 2 d = p2
      generalize partRow _ _ _ _ _ _ 3 d = p3
      abel
    · rw [ht 0 (by omega) 0 (by rw [if_neg hr]; rfl), ht 1 (by omega) 1 (by rw [if_neg hr]; rfl), ht 2 (by omega) 2 (by rw [if_neg hr]; rfl), ht 3 (by omega) 3 (by rw [if_neg hr]; rfl)]
  · rw [if_neg h, if_neg h, if_neg h, if_neg h, if_neg h, add_zero, add_zero, add_zero]

theorem acc_last (j : ℕ) (hj : j < 96) (r : Fin 512) (d : Fin 2048) :
    accAt pf hpf m ρ c (4 * j + 3) (ix2 r d)
      = outRow (tabBe pf) (tabNs pf) hpf.be (arrX m c) (arrW1 m c) (arrW2 m c) (arrB1 m c) (arrB2 m c) ⟨512 * j + r.val, by omega⟩ d := by
  have key : ∀ (j' : ℕ) (hj' : j' < 96) (r' : ℕ) (i0 : Fin 49152), j' = j → r' = r.val → i0.val = 512 * j + r.val →
      accAt pf hpf m ρ c (4 * j + 3) (ix2 r d)
        = arrB2 m c (ix3 (expertOf pf hpf j' hj') 0 d) + if r' < 256 * (tabNs pf (at96 j' hj')).toNat then
            downRow (arrX m c) (arrW1 m c) (arrW2 m c) (arrB1 m c) (expertOf pf hpf j' hj') i0 d else 0 := by
    rintro j' hj' r' i0 rfl rfl h
    rw [show i0 = ⟨512 * j' + r.val, by omega⟩ from Fin.ext h, ← add_four, acc_four _ _ _ _ _ _ hj']
    simp only [add_assoc]
  exact key _ _ _ _ (by show (512 * j + r.val) / 512 = j; omega) (by show (512 * j + r.val) % 512 = r.val; omega) rfl

/-- The result array after the run. -/
theorem out_eq :
    (dats pf hpf m ρ 0 c).arrAt (5 : Fin 6) (cfgA pf hpf).N
      = fun i : S49152x2048.Idx => outRow (tabBe pf) (tabNs pf) hpf.be (arrX m c) (arrW1 m c) (arrW2 m c) (arrB1 m c) (arrB2 m c) (i 0) (i 1) := by
  refine (dats pf hpf m ρ 0 c).arrAt_eq_of_covers (5 : Fin 6) _ ?_ fun t hf y => ?_
  · refine ((cfgA pf hpf).win (5 : Fin 6)).covers_of_indexMap_surj rfl ?_ ?_
    · intro a
      match a with
      | ⟨0, _⟩ => exact (by decide : 0 < 512)
      | ⟨1, _⟩ => exact (by decide : 0 < 2048)
    · intro β
      have hβ0 : (β (0 : Fin 2)).val < 96 := (β (0 : Fin 2)).isLt.trans_eq (show (49152 + 512 - 1) / 512 = 96 by decide)
      have hβ1 : (β (1 : Fin 2)).val < 1 := (β (1 : Fin 2)).isLt.trans_eq (show (2048 + 2048 - 1) / 2048 = 1 by decide)
      have e := index5 pf hpf ⟨4 * (β (0 : Fin 2)).val, by rw [cfgN]; omega⟩
      refine ⟨crd pf hpf ⟨4 * (β (0 : Fin 2)).val, by rw [cfgN]; omega⟩, fun a => (congrFun e a).trans ?_⟩
      match a with
      | ⟨0, _⟩ => show 4 * (β (0 : Fin 2)).val / 4 = (β (0 : Fin 2)).val; omega
      | ⟨1, _⟩ => show 0 = (β (1 : Fin 2)).val; omega
  · have ht := flush5 pf hpf t
    have h3 : t.val % 4 = 3 := of_decide_eq_true (ht.symm.trans hf)
    have hj := tile_of pf hpf t
    have e := index5 pf hpf t
    have hy0 : (y (0 : Fin 2)).val < 512 := (y (0 : Fin 2)).isLt
    have hy1 : (y (1 : Fin 2)).val < 2048 := (y (1 : Fin 2)).isLt
    have ev : 4 * (t.val / 4) + 3 = t.val := by omega
    have hl := acc_last pf hpf m ρ c (t.val / 4) hj ⟨(y (0 : Fin 2)).val, hy0⟩ ⟨(y (1 : Fin 2)).val, hy1⟩
    rw [ev] at hl
    refine Eq.trans ?_ (hl.trans ?_)
    · show accAt pf hpf m ρ c t.val _ = accAt pf hpf m ρ c t.val _
      refine congrArg _ (funext fun a => Fin.ext ?_)
      match a with
      | ⟨0, _⟩ => rfl
      | ⟨1, _⟩ => rfl
    · have e0 : 512 * (t.val / 4) + (y (0 : Fin 2)).val = (((((cfgA pf hpf).win (5 : Fin 6)).blk t).view.emb y) (0 : Fin 2)).val := by
        show _ = ((cfgA pf hpf).win (5 : Fin 6)).index t (0 : Fin 2) * 512 + 1 * (y (0 : Fin 2)).val
        rw [e]
        show _ = t.val / 4 * 512 + 1 * (y (0 : Fin 2)).val
        omega
      have e1 : (y (1 : Fin 2)).val = (((((cfgA pf hpf).win (5 : Fin 6)).blk t).view.emb y) (1 : Fin 2)).val := by
        show _ = ((cfgA pf hpf).win (5 : Fin 6)).index t (1 : Fin 2) * 2048 + 1 * (y (1 : Fin 2)).val
        rw [e]
        show _ = 0 * 2048 + 1 * (y (1 : Fin 2)).val
        omega
      exact congrArg₂ (outRow (tabBe pf) (tabNs pf) hpf.be (arrX m c) (arrW1 m c) (arrW2 m c) (arrB1 m c) (arrB2 m c)) (Fin.ext e0) (Fin.ext e1)

end Value

end Cert.KernelIdeal.Experts

end
-- ==== Proof.Experts.Ref.lean ====
/- The reference's result read at an index. -/
module

public import proofs.«01_k».proof.Proof.Experts.Spec
public import proofs.«01_k».proof.Proof.Gen.ReferenceIdeal.Run
public import Idealize.ShloMosaic.Lib.Pointwise

@[expose] public section

set_option maxRecDepth 16384

noncomputable section

namespace Cert.ReferenceIdeal.Experts

open Cert.ReferenceIdeal Cert.ReferenceIdeal.Gen Idealize.ShloMosaic Idealize.ShloMosaic.TcCoe
open Cert.KernelIdeal.Experts (at96 rowVal gateOf upOf guRow hidRow downRow outRow)

/-! ## A table's planes named by a column of indices -/

section Planes
variable {α : Type}

/-- Whole planes of a rank-three array, one named by each index. -/
def planeDims (E J M N : ℕ) (wf : GatherDims.WF ⟨3, ![E, M, N]⟩ ⟨2, ![J, 1]⟩ ⟨3, ![J, M, N]⟩ [1, 2] [0] [] [0] [] 1 ![1, M, N]) :
    GatherDims ⟨3, ![E, M, N]⟩ ⟨2, ![J, 1]⟩ ⟨3, ![J, M, N]⟩ where
  offsetDims := [1, 2]
  collapsedSliceDims := [0]
  operandBatchingDims := []
  startIndicesBatchingDims := []
  startIndexMap := [0]
  indexVectorDim := 1
  sliceSizes := ![1, M, N]
  wf := wf

/-- Where the index names plane `e`, the gathered plane is that plane. -/
theorem plane_apply {E J M N : ℕ} (wf : GatherDims.WF ⟨3, ![E, M, N]⟩ ⟨2, ![J, 1]⟩ ⟨3, ![J, M, N]⟩ [1, 2] [0] [] [0] [] 1 ![1, M, N])
    (x : (⟨3, ![E, M, N]⟩ : Shape).Idx → α) (idx : IVec ⟨2, ![J, 1]⟩ 32) (j : Fin J) (a : Fin M) (b : Fin N) (e : Fin E)
    (he : (idx (ix2 j (0 : Fin 1))).toInt = e.val) :
    Host.gather (planeDims E J M N wf) x idx (ix3 j a b) = x (ix3 e a b) := by
  unfold Host.gather
  refine congrArg x (funext fun k => Fin.ext ?_)
  show (planeDims E J M N wf).start (ix3 j a b) idx k + (planeDims E J M N wf).batchCoord (ix3 j a b) k + (planeDims E J M N wf).offCoord (ix3 j a b) k = _
  rw [GatherDims.batchCoord_eq_zero _ _ _ (fun h => by simp [planeDims] at h), Nat.add_zero]
  match k with
  | ⟨0, _⟩ =>
    have hk : (0 : Fin 3) ∉ (planeDims E J M N wf).sKept := fun h => (((planeDims E J M N wf).mem_sKept 0).1 h).1 (List.mem_singleton.2 rfl)
    show (planeDims E J M N wf).start (ix3 j a b) idx 0 + (planeDims E J M N wf).offCoord (ix3 j a b) 0 = e.val
    rw [GatherDims.offCoord_eq_zero _ _ _ hk, Nat.add_zero]
    unfold GatherDims.start
    rw [dif_pos (show (0 : Fin 3) ∈ (planeDims E J M N wf).startIndexMap from List.mem_singleton.2 rfl)]
    have hsi : (planeDims E J M N wf).siIdx (ix3 j a b) ⟨List.idxOf (0 : Fin 3) (planeDims E J M N wf).startIndexMap,
        List.idxOf_lt_length_iff.2 (List.mem_singleton.2 rfl)⟩ = ix2 j (0 : Fin 1) := by
      funext q
      refine Fin.ext ?_
      match q with
      | ⟨0, _⟩ => rfl
      | ⟨1, _⟩ => rfl
    rw [hsi, he]
    have := e.isLt
    show min ((e.val : Int)).toNat (E - 1) = e.val
    omega
  | ⟨1, _⟩ =>
    have hm : (1 : Fin 3) ∉ (planeDims E J M N wf).startIndexMap := fun h => by simp [planeDims] at h
    have hk : (1 : Fin 3) ∈ (planeDims E J M N wf).sKept := ((planeDims E J M N wf).mem_sKept 1).2 ⟨fun h => by simp [planeDims] at h, fun h => by simp [planeDims] at h⟩
    show (planeDims E J M N wf).start (ix3 j a b) idx 1 + (planeDims E J M N wf).offCoord (ix3 j a b) 1 = a.val
    unfold GatherDims.start GatherDims.offCoord
    rw [dif_neg hm, dif_pos hk, Nat.zero_add]
    rfl
  | ⟨2, _⟩ =>
    have hm : (2 : Fin 3) ∉ (planeDims E J M N wf).startIndexMap := fun h => by simp [planeDims] at h
    have hk : (2 : Fin 3) ∈ (planeDims E J M N wf).sKept := ((planeDims E J M N wf).mem_sKept 2).2 ⟨fun h => by simp [planeDims] at h, fun h => by simp [planeDims] at h⟩
    show (planeDims E J M N wf).start (ix3 j a b) idx 2 + (planeDims E J M N wf).offCoord (ix3 j a b) 2 = b.val
    unfold GatherDims.start GatherDims.offCoord
    rw [dif_neg hm, dif_pos hk, Nat.zero_add]
    rfl

end Planes

/-! ## The reference's stages -/

section Stages
variable (T0 T1 : S96.Idx → BitVec 32) (X : S49152x1024.Idx → BitVec 32) (W1 : S32x2048x4096.Idx → EReal) (W2 : S32x2048x2048.Idx → EReal)
  (b1 : S32x1x4096.Idx → EReal) (b2 : S32x1x2048.Idx → EReal)

/-- The column of experts. -/
def col : S96x1.Idx → BitVec 32 :=
  broadcastInDim S96x1 ![0] bcast_S96_S96x1_0 (select (cmpi .slt T0 (broadcastInDim S96 ![] bcast_S_S96 (constantI S_ 32 0#32))) (addi T0 (broadcastInDim S96 ![] bcast_S_S96 (constantI S_ 32 32#32))) T0)

/-- The unpacked rows. -/
def rows : S96x512x2048.Idx → EReal :=
  shapeCast _ (concatenate S49152x2048 1 [⟨S49152x1024, (bitcastToFloat (F := Ideal) .f32 (Host.shli X (broadcastInDim S49152x1024 ![] bcast_S_S49152x1024 (constantI S_ 32 16#32))))⟩, ⟨S49152x1024, (bitcastToFloat (F := Ideal) .f32 (andi X (broadcastInDim S49152x1024 ![] bcast_S_S49152x1024 (constantI S_ 32 4294901760#32))))⟩] concatenates_S49152x1024_S49152x1024_S49152x2048_d1) shapeCasts_S49152x2048_S96x512x2048

/-- The first product and its bias. -/
def gu : FVec Ideal S96x512x4096 .f32 :=
  addf (Host.dotGeneral (φ₁ := .f32) (φ₂ := .f32) dot_S96x512x2048_S96x2048x4096_S96x512x4096_2_1_1_2_0_0 none (rows X : FVec Ideal S96x512x2048 .f32) (Host.gather gather_S32x2048x4096_S96x1_S96x2048x4096_12_0_n_n_0_1_120484096 W1 (col T0) : FVec Ideal S96x2048x4096 .f32))
    (broadcastInDim S96x512x4096 ![0, 1, 2] bcast_S96x1x4096_S96x512x4096_0_1_2 (Host.gather gather_S32x1x4096_S96x1_S96x1x4096_12_0_n_n_0_1_114096 b1 (col T0)))

/-- The hidden features of a first product. -/
def act (g : FVec Ideal S96x512x4096 .f32) : FVec Ideal S96x512x2048 .f32 :=
  mulf (addf (minimumf (broadcastInDim S96x512x2048 ![] bcast_S_S96x512x2048 (id (constant S_ .f32 0x40E00000#32))) (maximumf (broadcastInDim S96x512x2048 ![] bcast_S_S96x512x2048 (id (constant S_ .f32 0xC0E00000#32))) (Host.slice S96x512x2048 ![0, 0, 1] ![1, 1, 2] g slicesBy_S96x512x4096_S96x512x2048_0s1_0s1_1s2))) (broadcastInDim S96x512x2048 ![] bcast_S_S96x512x2048 (constant S_ .f32 0x3F800000#32)))
    (mulf (minimumf (Host.slice S96x512x2048 ![0, 0, 0] ![1, 1, 2] g slicesBy_S96x512x4096_S96x512x2048_0s1_0s1_0s2) (broadcastInDim S96x512x2048 ![] bcast_S_S96x512x2048 (constant S_ .f32 0x40E00000#32)))
      (Host.divf (broadcastInDim S96x512x2048 ![] bcast_S_S96x512x2048 (constant S_ .f32 0x3F800000#32)) (addf (broadcastInDim S96x512x2048 ![] bcast_S_S96x512x2048 (constant S_ .f32 0x3F800000#32)) (Host.exp (Host.negf (mulf (broadcastInDim S96x512x2048 ![] bcast_S_S96x512x2048 (constant S_ .f32 0x3FD9DB23#32)) (minimumf (Host.slice S96x512x2048 ![0, 0, 0] ![1, 1, 2] g slicesBy_S96x512x4096_S96x512x2048_0s1_0s1_0s2) (broadcastInDim S96x512x2048 ![] bcast_S_S96x512x2048 (constant S_ .f32 0x40E00000#32)))))))))

/-- The bias of each block, over its rows. -/
def bias : FVec Ideal S96x512x2048 .f32 :=
  broadcastInDim S96x512x2048 ![0, 1, 2] bcast_S96x1x2048_S96x512x2048_0_1_2 (Host.gather gather_S32x1x2048_S96x1_S96x1x2048_12_0_n_n_0_1_112048 b2 (col T0))

/-- The second product and its bias. -/
def down (a : FVec Ideal S96x512x2048 .f32) : FVec Ideal S96x512x2048 .f32 :=
  addf (Host.dotGeneral (φ₁ := .f32) (φ₂ := .f32) dot_S96x512x2048_S96x2048x2048_S96x512x2048_2_1_1_2_0_0 none a (Host.gather gather_S32x2048x2048_S96x1_S96x2048x2048_12_0_n_n_0_1_120482048 W2 (col T0) : FVec Ideal S96x2048x2048 .f32)) (bias T0 b2)

/-- Which rows are in use. -/
def live : S96x512x2048.Idx → BitVec 1 :=
  broadcastInDim S96x512x2048 ![0, 1, 2] bcast_S96x512x1_S96x512x2048_0_1_2 (cmpi .slt (broadcastInDim S96x512x1 ![0, 1, 2] bcast_S1x512x1_S96x512x1_0_1_2 (broadcastInDim S1x512x1 ![1] bcast_S512_S1x512x1_1 (iotaInDim S512 32 0))) (broadcastInDim S96x512x1 ![0, 1, 2] bcast_S96x1x1_S96x512x1_0_1_2 (broadcastInDim S96x1x1 ![0] bcast_S96_S96x1x1_0 (muli T1 (broadcastInDim S96 ![] bcast_S_S96 (constantI S_ 32 256#32))))))

/-- The reference's result. -/
def result : FVec Ideal S49152x2048 .f32 :=
  shapeCast _ (select (live T1) (down T0 W2 b2 (act (gu T0 X W1 b1))) (bias T0 b2)) shapeCasts_S96x512x2048_S49152x2048

end Stages

theorem res_eq (m : (ℓ : Loc nD τ sig) → Buf (Elt Ideal) ℓ) (c : Dev nD) :
    Value.res_main_v68 m c = result (m ((c.tc : Thread nD τ).loc main_arg0)) (m ((c.tc : Thread nD τ).loc main_arg1)) (m ((c.tc : Thread nD τ).loc main_arg4))
      (m ((c.tc : Thread nD τ).loc main_arg5)) (m ((c.tc : Thread nD τ).loc main_arg6)) (m ((c.tc : Thread nD τ).loc main_arg7)) (m ((c.tc : Thread nD τ).loc main_arg8)) := by
  sl_kernel_rfl

section Reads
variable (T0 T1 : S96.Idx → BitVec 32) (X : S49152x1024.Idx → BitVec 32) (W1 : S32x2048x4096.Idx → EReal) (W2 : S32x2048x2048.Idx → EReal)
  (b1 : S32x1x4096.Idx → EReal) (b2 : S32x1x2048.Idx → EReal)

theorem at96_eq (j : Fin 96) : (ix1 j : S96.Idx) = at96 j.val j.isLt := by
  funext a
  apply Fin.ext
  match a with
  | ⟨0, _⟩ => rfl

/-- An expert's number names its plane. -/
theorem col_toInt (j : Fin 96) (h : (T0 (at96 j.val j.isLt)).toNat < 32) : (col T0 (ix2 j (0 : Fin 1))).toInt = (T0 (at96 j.val j.isLt)).toNat := by
  have e : col T0 (ix2 j 0) = Scalar.select (IntOp.cmpi .slt (T0 (ix1 j)) 0#32) (IntOp.addi (T0 (ix1 j)) 32#32) (T0 (ix1 j)) := by
    unfold col
    pointwise
  rw [e, at96_eq]
  generalize T0 (at96 j.val j.isLt) = v at h
  have hv : v.toInt = v.toNat := by rw [BitVec.toInt_eq_toNat_cond, if_pos (by omega)]
  have hc : ¬ IntOp.cmpi .slt v 0#32 = 1#1 := fun x => by
    have := IntOp.cmpi_slt.1 x
    rw [hv] at this
    have : (v.toNat : Int) < 0 := this
    omega
  exact (congrArg BitVec.toInt (if_neg hc)).trans hv

theorem rows_apply (j : Fin 96) (r : Fin 512) (k : Fin 2048) : rows X (ix3 j r k) = rowVal (fun w => X (ix2 ⟨512 * j.val + r.val, by omega⟩ w)) k := by
  have e : (⟨512 * j.val + r.val, by omega⟩ : Fin 49152) = ⟨j.val * 512 + r.val, by omega⟩ := Fin.ext (by show 512 * j.val + r.val = j.val * 512 + r.val; omega)
  rw [e]
  unfold rows rowVal
  pointwise
  rfl

theorem act_apply (g : FVec Ideal S96x512x4096 .f32) (j : Fin 96) (r : Fin 512) (h : Fin 2048) :
    act g (ix3 j r h) = gateOf (g (ix3 j r ⟨2 * h.val, by omega⟩)) * upOf (g (ix3 j r ⟨2 * h.val + 1, by omega⟩)) := by
  have e : (⟨2 * h.val + 1, by omega⟩ : Fin 4096) = ⟨1 + 2 * h.val, by omega⟩ := Fin.ext (by show 2 * h.val + 1 = 1 + 2 * h.val; omega)
  rw [e]
  unfold act gateOf upOf
  pointwise
  rw [mul_comm]
  rfl

theorem live_apply (j : Fin 96) (r : Fin 512) (d : Fin 2048) : live T1 (ix3 j r d) = IntOp.cmpi .slt (BitVec.ofNat 32 r.val) (IntOp.muli (T1 (ix1 j)) 256#32) := by
  unfold live
  pointwise

variable (hbe : ∀ n h, (T0 (at96 n h)).toNat < 32)

/-- A block's expert. -/
abbrev expert (j : Fin 96) : Fin 32 := ⟨(T0 (at96 j.val j.isLt)).toNat, hbe _ _⟩

include hbe in
theorem plane_W1 (j : Fin 96) (k : Fin 2048) (q : Fin 4096) :
    Host.gather gather_S32x2048x4096_S96x1_S96x2048x4096_12_0_n_n_0_1_120484096 W1 (col T0) (ix3 j k q) = W1 (ix3 (expert T0 hbe j) k q) :=
  plane_apply gather_S32x2048x4096_S96x1_S96x2048x4096_12_0_n_n_0_1_120484096_wf W1 (col T0) j k q (expert T0 hbe j) (col_toInt T0 j (hbe _ _))
theorem plane_W2 (j : Fin 96) (k : Fin 2048) (q : Fin 2048) :
    Host.gather gather_S32x2048x2048_S96x1_S96x2048x2048_12_0_n_n_0_1_120482048 W2 (col T0) (ix3 j k q) = W2 (ix3 (expert T0 hbe j) k q) :=
  plane_apply gather_S32x2048x2048_S96x1_S96x2048x2048_12_0_n_n_0_1_120482048_wf W2 (col T0) j k q (expert T0 hbe j) (col_toInt T0 j (hbe _ _))
theorem plane_b1 (j : Fin 96) (q : Fin 4096) :
    Host.gather gather_S32x1x4096_S96x1_S96x1x4096_12_0_n_n_0_1_114096 b1 (col T0) (ix3 j 0 q) = b1 (ix3 (expert T0 hbe j) 0 q) :=
  plane_apply gather_S32x1x4096_S96x1_S96x1x4096_12_0_n_n_0_1_114096_wf b1 (col T0) j 0 q (expert T0 hbe j) (col_toInt T0 j (hbe _ _))
theorem plane_b2 (j : Fin 96) (q : Fin 2048) :
    Host.gather gather_S32x1x2048_S96x1_S96x1x2048_12_0_n_n_0_1_112048 b2 (col T0) (ix3 j 0 q) = b2 (ix3 (expert T0 hbe j) 0 q) :=
  plane_apply gather_S32x1x2048_S96x1_S96x1x2048_12_0_n_n_0_1_112048_wf b2 (col T0) j 0 q (expert T0 hbe j) (col_toInt T0 j (hbe _ _))

theorem gu_apply (j : Fin 96) (r : Fin 512) (q : Fin 4096) : gu T0 X W1 b1 (ix3 j r q) = guRow X W1 b1 (expert T0 hbe j) ⟨512 * j.val + r.val, by omega⟩ q := by
  unfold gu
  pointwise
  rw [plane_b1 T0 b1 hbe]
  unfold guRow
  refine congrArg (· + _) (Finset.sum_congr rfl fun k _ => ?_)
  rw [rows_apply, plane_W1 T0 W1 hbe]

theorem bias_apply (j : Fin 96) (r : Fin 512) (d : Fin 2048) : bias T0 b2 (ix3 j r d) = b2 (ix3 (expert T0 hbe j) 0 d) := by
  refine Eq.trans ?_ (plane_b2 T0 b2 hbe j d)
  unfold bias
  pointwise

theorem down_apply (j : Fin 96) (r : Fin 512) (d : Fin 2048) :
    down T0 W2 b2 (act (gu T0 X W1 b1)) (ix3 j r d)
      = downRow X W1 W2 b1 (expert T0 hbe j) ⟨512 * j.val + r.val, by omega⟩ d + b2 (ix3 (expert T0 hbe j) 0 d) := by
  unfold down
  generalize ha : act (gu T0 X W1 b1) = a
  have hb := bias_apply T0 b2 hbe j r d
  generalize bias T0 b2 = bb at hb
  pointwise
  rw [hb]
  unfold downRow hidRow
  refine congrArg (· + _) (Finset.sum_congr rfl fun h _ => ?_)
  rw [plane_W2 T0 W2 hbe, ← ha, act_apply, gu_apply T0 X W1 b1 hbe, gu_apply T0 X W1 b1 hbe]

/-- The rows in use, in numbers. -/
theorem live_iff (hns : ∀ n h, T1 (at96 n h) = 0#32 ∨ T1 (at96 n h) = 1#32 ∨ T1 (at96 n h) = 2#32) (j : Fin 96) (r : Fin 512) (d : Fin 2048) :
    live T1 (ix3 j r d) = 1#1 ↔ r.val < 256 * (T1 (at96 j.val j.isLt)).toNat := by
  rw [live_apply, at96_eq]
  have hr := r.isLt
  have hb : (BitVec.ofNat 32 r.val).toInt = r.val := by
    have : (BitVec.ofNat 32 r.val).toNat = r.val := by simp only [BitVec.toNat_ofNat]; omega
    rw [BitVec.toInt_eq_toNat_cond, this, if_pos (by omega)]
  have h2 := hns j.val j.isLt
  generalize T1 (at96 j.val j.isLt) = v at h2
  refine IntOp.cmpi_slt.trans ?_
  rw [hb]
  rcases h2 with rfl | rfl | rfl
  · show (r.val : Int) < 0 ↔ r.val < 256 * 0; omega
  · show (r.val : Int) < 256 ↔ r.val < 256 * 1; omega
  · show (r.val : Int) < 512 ↔ r.val < 256 * 2; omega

/-- The reference's result at an index. -/
theorem result_apply (hns : ∀ n h, T1 (at96 n h) = 0#32 ∨ T1 (at96 n h) = 1#32 ∨ T1 (at96 n h) = 2#32) (i0 : Fin 49152) (d : Fin 2048) :
    result T0 T1 X W1 W2 b1 b2 (ix2 i0 d) = outRow T0 T1 hbe X W1 W2 b1 b2 i0 d := by
  have e : result T0 T1 X W1 W2 b1 b2 (ix2 i0 d) = Scalar.select (live T1 (ix3 ⟨i0.val / 512, by omega⟩ ⟨i0.val % 512, by omega⟩ d))
      (down T0 W2 b2 (act (gu T0 X W1 b1)) (ix3 ⟨i0.val / 512, by omega⟩ ⟨i0.val % 512, by omega⟩ d)) (bias T0 b2 (ix3 ⟨i0.val / 512, by omega⟩ ⟨i0.val % 512, by omega⟩ d)) := by
    unfold result
    pointwise
  rw [e, bias_apply T0 b2 hbe, down_apply T0 X W1 W2 b1 b2 hbe]
  have el := live_iff T1 hns ⟨i0.val / 512, by omega⟩ ⟨i0.val % 512, by omega⟩ d
  have er : (⟨512 * (i0.val / 512) + i0.val % 512, by omega⟩ : Fin 49152) = i0 := Fin.ext (by show 512 * (i0.val / 512) + i0.val % 512 = i0.val; omega)
  unfold outRow
  by_cases h : i0.val % 512 < 256 * (T1 (at96 (i0.val / 512) (by omega))).toNat
  · refine (if_pos (el.2 h)).trans ?_
    rw [if_pos h, add_comm]
    exact congrArg (fun q => _ + downRow X W1 W2 b1 _ q d) er
  · refine (if_neg (fun x => h (el.1 x))).trans ?_
    rw [if_neg h, add_zero]

end Reads

end Cert.ReferenceIdeal.Experts

end
-- ==== Proof.InProj.Payload.lean ====
/- What the stored values of the input projection's body are at one index, over the extended reals: the normed and modulated
   row, its products with the weights, the gated convolution and its norm. -/
module

public import proofs.«01_k».proof.Proof.Gen.Kernel2Ideal.Skeleton
public import Idealize.ShloMosaic.Lib.Pointwise

@[expose] public section

set_option maxRecDepth 16384

noncomputable section

namespace Cert.Kernel2Ideal.InProj

open Cert.Kernel2Ideal Cert.Kernel2Ideal.Gen Idealize.ShloMosaic

/-- One over the root of a sum of squares over `N` (given as its word), the small constant added. -/
def scaleOf (N : BitVec 32) (s : EReal) : EReal := Ideal.rsqrt (Ideal.div s (Ideal.ofBits FTy.f32 N) + Ideal.ofBits FTy.f32 0x358637BD#32)

/-- The normed and modulated row at one column. -/
def hidden (x : Fin 2048 → EReal) (g sc sh : EReal) (k : Fin 2048) : EReal :=
  x k * scaleOf 0x45000000#32 (∑ l, x l * x l) * g * (1 + sc) + sh

theorem pay4_apply (x : Vec Ideal S512x2048 .f32) (g : Vec Ideal S1x2048 .f32) (sc sh : Vec Ideal S1x1x2048 .f32) (j : S512x2048.Idx) :
    k0_pay4 (F := Ideal) x g sc sh j
      = hidden (fun l => x (ix2 (j 0) l)) (g (ix2 0 (j 1))) (sc (ix3 0 0 (j 1))) (sh (ix3 0 0 (j 1))) (j 1) := by
  unfold k0_pay4 hidden scaleOf
  pointwise

theorem pay5_apply (j : S8x1024.Idx) : k0_pay5 (F := Ideal) j = 0 := by
  unfold k0_pay5
  pointwise

theorem pay6_apply (h : FVec Ideal S512x2048 .bf16) (w : Vec Ideal S2048x3072 .bf16) (j : S512x3072.Idx) :
    k0_pay6 (F := Ideal) h w j = ∑ x : Fin 2048, h (ix2 (j 0) x) * w (ix2 x (j 1)) := by
  unfold k0_pay6
  pointwise

theorem pay7_apply (h : FVec Ideal S512x2048 .bf16) (w : Vec Ideal S2048x3072 .bf16) (j : S512x1024.Idx) :
    k0_pay7 (F := Ideal) h w j
      = (∑ x : Fin 2048, h (ix2 (j 0) x) * w (ix2 x ⟨1024 + (j 1).val, by have := (j 1).isLt; simp at this; omega⟩))
        * ∑ x : Fin 2048, h (ix2 (j 0) x) * w (ix2 x ⟨2048 + (j 1).val, by have := (j 1).isLt; simp at this; omega⟩) := by
  unfold k0_pay7 k0_pay6
  pointwise

theorem pay8_apply (h : FVec Ideal S512x2048 .bf16) (w : Vec Ideal S2048x3072 .bf16) (j : S512x1024.Idx) :
    k0_pay8 (F := Ideal) h w j = k0_pay7 (F := Ideal) h w j := by
  unfold k0_pay8
  generalize k0_pay7 (F := Ideal) h w = p
  pointwise

theorem pay9_apply (h : FVec Ideal S512x2048 .bf16) (w : Vec Ideal S2048x3072 .bf16) (v1 v2 : Vec Ideal S512x1024 .f32) (c0 c1 c2 : Vec Ideal S1x1024 .f32)
    (j : S512x1024.Idx) :
    k0_pay9 (F := Ideal) h w v1 v2 c0 c1 c2 j
      = (∑ x : Fin 2048, h (ix2 (j 0) x) * w (ix2 x ⟨(j 1).val, by have := (j 1).isLt; simp at this; omega⟩))
        * (c0 (ix2 0 (j 1)) * v2 j + c1 (ix2 0 (j 1)) * v1 j + c2 (ix2 0 (j 1)) * k0_pay7 (F := Ideal) h w j) := by
  unfold k0_pay9
  generalize k0_pay7 (F := Ideal) h w = q
  unfold k0_pay6
  pointwise

theorem pay11_apply (h : FVec Ideal S512x2048 .bf16) (w : Vec Ideal S2048x3072 .bf16) (v1 v2 : Vec Ideal S512x1024 .f32) (c0 c1 c2 : Vec Ideal S1x1024 .f32)
    (g : Vec Ideal S1x1024 .f32) (j : S512x1024.Idx) :
    k0_pay13 (F := Ideal) (k0_pay9 (F := Ideal) h w v1 v2 c0 c1 c2) (k0_pay10 (F := Ideal) g) (k0_pay11 (F := Ideal) h w v1 v2 c0 c1 c2) (k0_pay12 (F := Ideal)) j
      = k0_pay9 (F := Ideal) h w v1 v2 c0 c1 c2 j
        * scaleOf 0x44800000#32 (∑ l : Fin 1024, k0_pay9 (F := Ideal) h w v1 v2 c0 c1 c2 (ix2 (j 0) l) * k0_pay9 (F := Ideal) h w v1 v2 c0 c1 c2 (ix2 (j 0) l))
        * g (ix2 0 (j 1)) := by
  unfold k0_pay13 k0_pay11 k0_pay12 k0_pay10 scaleOf
  generalize k0_pay9 (F := Ideal) h w v1 v2 c0 c1 c2 = p
  pointwise

theorem pay14_apply (v : Vec Ideal S8x1024 .f32) (j : S8x1024.Idx) : k0_pay14 (F := Ideal) v j = v j := by
  unfold k0_pay14
  pointwise

theorem pay46_apply (h : FVec Ideal S512x2048 .bf16) (w : Vec Ideal S2048x256 .bf16) (j : S512x256.Idx) :
    k0_pay46 (F := Ideal) h w j = ∑ x : Fin 2048, h (ix2 (j 0) x) * w (ix2 x (j 1)) := by
  unfold k0_pay46
  pointwise

theorem pay3_apply (h : FVec Ideal S512x2048 .bf16) (w : Vec Ideal S2048x256 .bf16) (j : S512x128.Idx) :
    k0_pay3 (F := Ideal) h w j = ∑ x : Fin 2048, h (ix2 (j 0) x) * w (ix2 x ⟨128 + (j 1).val, by have := (j 1).isLt; simp at this; omega⟩) := by
  unfold k0_pay3 k0_pay1
  pointwise

end Cert.Kernel2Ideal.InProj

end
-- ==== Proof.InProj.Rotary.lean ====
/- The rotary tables and the rotated heads of the input projection's body at one index, over the extended reals: a head's lane
   times the cosine table, plus its two rotations times the two sine tables. -/
module

public import proofs.«01_k».proof.Proof.InProj.Payload

@[expose] public section

set_option maxRecDepth 16384

noncomputable section

namespace Cert.Kernel2Ideal.InProj

open Cert.Kernel2Ideal Cert.Kernel2Ideal.Gen Idealize.ShloMosaic

/-- A head's lane with its two rotations, by `s` and `s'` lanes, each times its table. -/
def rotSum (s s' : ℕ) (p c a b : Fin 128 → EReal) (l : Fin 128) : EReal :=
  p l * c l + p ⟨(l.val + 128 - s) % 128, Nat.mod_lt _ (by omega)⟩ * a l + p ⟨(l.val + 128 - s') % 128, Nat.mod_lt _ (by omega)⟩ * b l

theorem lt_word {m v : BitVec 32} {n : ℕ} (h : ∀ l : Fin 128, IntOp.cmpi CmpIPredicate.slt (IntOp.andi (BitVec.ofNat 32 l.val) m) v = if l.val % n < v.toNat then 1#1 else 0#1)
    (l : Fin 128) (x y : EReal) :
    Scalar.select (IntOp.cmpi CmpIPredicate.slt (IntOp.andi (BitVec.ofNat 32 l.val) m) v) x y = if l.val % n < v.toNat then x else y := by
  rw [h]
  split <;> rfl

theorem q_lt32 : ∀ l : Fin 128, IntOp.cmpi CmpIPredicate.slt (IntOp.andi (BitVec.ofNat 32 l.val) 127#32) 32#32 = if l.val % 128 < 32 then 1#1 else 0#1 := by decide
theorem q_lt16 : ∀ l : Fin 128, IntOp.cmpi CmpIPredicate.slt (IntOp.andi (BitVec.ofNat 32 l.val) 127#32) 16#32 = if l.val % 128 < 16 then 1#1 else 0#1 := by decide
theorem q_mid : ∀ l : Fin 128, IntOp.andi (IntOp.cmpi CmpIPredicate.sge (IntOp.andi (BitVec.ofNat 32 l.val) 127#32) 16#32)
    (IntOp.cmpi CmpIPredicate.slt (IntOp.andi (BitVec.ofNat 32 l.val) 127#32) 32#32) = if 16 ≤ l.val % 128 ∧ l.val % 128 < 32 then 1#1 else 0#1 := by decide
theorem i_lt16 : ∀ l : Fin 128, IntOp.cmpi CmpIPredicate.slt (IntOp.andi (BitVec.ofNat 32 l.val) 63#32) 16#32 = if l.val % 64 < 16 then 1#1 else 0#1 := by decide
theorem i_lt8 : ∀ l : Fin 128, IntOp.cmpi CmpIPredicate.slt (IntOp.andi (BitVec.ofNat 32 l.val) 63#32) 8#32 = if l.val % 64 < 8 then 1#1 else 0#1 := by decide
theorem i_mid : ∀ l : Fin 128, IntOp.andi (IntOp.cmpi CmpIPredicate.sge (IntOp.andi (BitVec.ofNat 32 l.val) 63#32) 8#32)
    (IntOp.cmpi CmpIPredicate.slt (IntOp.andi (BitVec.ofNat 32 l.val) 63#32) 16#32) = if 8 ≤ l.val % 64 ∧ l.val % 64 < 16 then 1#1 else 0#1 := by decide

theorem select_ite (P : Prop) [Decidable P] (x y : EReal) : Scalar.select (if P then 1#1 else 0#1) x y = if P then x else y := by
  split <;> rfl

/-- The angle of a row at one lane: its position times the lane's frequency. -/
def angle (pos : BitVec 32) (f : EReal) : EReal := FloatOps.sitofp (F := Ideal) FTy.f32 pos * f

theorem qcos_apply (pos : Vec Ideal S512x1 .i32) (f : Vec Ideal S1x128 .f32) (j : S512x128.Idx) :
    k0_pay19 (F := Ideal) pos f j = if (j 1).val % 128 < 32 then Ideal.cos (angle (pos (ix2 (j 0) 0)) (f (ix2 0 (j 1)))) else 1 := by
  idx_vars j
  unfold k0_pay19 k0_pay17 k0_pay16 k0_pay15 angle
  pointwise
  rw [q_lt32 j1, select_ite]
  rfl

theorem qsin_apply (pos : Vec Ideal S512x1 .i32) (f : Vec Ideal S1x128 .f32) (j : S512x128.Idx) :
    k0_pay20 (F := Ideal) pos f j = if 16 ≤ (j 1).val % 128 ∧ (j 1).val % 128 < 32 then Ideal.sin (angle (pos (ix2 (j 0) 0)) (f (ix2 0 (j 1)))) else 0 := by
  idx_vars j
  unfold k0_pay20 k0_pay18 k0_pay17 k0_pay16 k0_pay15 angle
  pointwise
  rw [q_mid j1, select_ite]
  rfl

theorem qmsin_apply (pos : Vec Ideal S512x1 .i32) (f : Vec Ideal S1x128 .f32) (j : S512x128.Idx) :
    k0_pay23 (F := Ideal) k0_pay21 (k0_pay22 (F := Ideal) pos f) j = if (j 1).val % 128 < 16 then 0 - Ideal.sin (angle (pos (ix2 (j 0) 0)) (f (ix2 0 (j 1)))) else 0 := by
  idx_vars j
  unfold k0_pay23 k0_pay22 k0_pay21 k0_pay18 k0_pay17 k0_pay16 k0_pay15 angle
  pointwise
  rw [q_lt16 j1, select_ite]
  rfl

theorem icos_apply (pos : Vec Ideal S512x1 .i32) (f : Vec Ideal S1x128 .f32) (j : S512x128.Idx) :
    k0_pay27 (F := Ideal) (k0_pay15 (F := Ideal) pos) f j = if (j 1).val % 64 < 16 then Ideal.cos (angle (pos (ix2 (j 0) 0)) (f (ix2 0 (j 1)))) else 1 := by
  idx_vars j
  unfold k0_pay27 k0_pay25 k0_pay24 k0_pay15 angle
  pointwise
  rw [i_lt16 j1, select_ite]
  rfl

theorem isin_apply (pos : Vec Ideal S512x1 .i32) (f : Vec Ideal S1x128 .f32) (j : S512x128.Idx) :
    k0_pay28 (F := Ideal) (k0_pay15 (F := Ideal) pos) f j = if 8 ≤ (j 1).val % 64 ∧ (j 1).val % 64 < 16 then Ideal.sin (angle (pos (ix2 (j 0) 0)) (f (ix2 0 (j 1)))) else 0 := by
  idx_vars j
  unfold k0_pay28 k0_pay26 k0_pay25 k0_pay24 k0_pay15 angle
  pointwise
  rw [i_mid j1, select_ite]
  rfl

theorem imsin_apply (pos : Vec Ideal S512x1 .i32) (f : Vec Ideal S1x128 .f32) (j : S512x128.Idx) :
    k0_pay29 (F := Ideal) (k0_pay15 (F := Ideal) pos) f j = if (j 1).val % 64 < 8 then 0 - Ideal.sin (angle (pos (ix2 (j 0) 0)) (f (ix2 0 (j 1)))) else 0 := by
  idx_vars j
  unfold k0_pay29 k0_pay26 k0_pay25 k0_pay24 k0_pay15 angle
  pointwise
  rw [i_lt8 j1, select_ite]
  rfl

theorem pay30_apply (h : FVec Ideal S512x2048 .bf16) (w : Vec Ideal S2048x1024 .bf16) (j : S512x1024.Idx) :
    k0_pay30 (F := Ideal) h w j = ∑ x : Fin 2048, h (ix2 (j 0) x) * w (ix2 x (j 1)) := by
  unfold k0_pay30
  pointwise

theorem pay47_apply (h : FVec Ideal S512x2048 .bf16) (w : Vec Ideal S2048x1024 .bf16) (j : S512x1024.Idx) :
    k0_pay47 (F := Ideal) h w j = ∑ x : Fin 2048, h (ix2 (j 0) x) * w (ix2 x (j 1)) := by
  unfold k0_pay47
  pointwise

theorem pay43_apply (h : FVec Ideal S512x2048 .bf16) (w : Vec Ideal S2048x256 .bf16) (j : S512x256.Idx) :
    k0_pay43 (F := Ideal) h w j = ∑ x : Fin 2048, h (ix2 (j 0) x) * w (ix2 x (j 1)) := by
  unfold k0_pay43
  pointwise

theorem pay1_apply (h : FVec Ideal S512x2048 .bf16) (w : Vec Ideal S2048x256 .bf16) (j : S512x256.Idx) :
    k0_pay1 (F := Ideal) h w j = ∑ x : Fin 2048, h (ix2 (j 0) x) * w (ix2 x (j 1)) := by
  unfold k0_pay1
  pointwise

theorem q0_apply (h : FVec Ideal S512x2048 .bf16) (w : Vec Ideal S2048x1024 .bf16) (c a : FVec Ideal S512x128 .f32) (u : IVec S512x128 1) (v : FVec Ideal S512x128 .f32) (j : S512x128.Idx) :
    k0_pay32 (F := Ideal) (k0_pay31 (F := Ideal) h c a u v w) j
      = rotSum 16 112 (fun l => k0_pay30 (F := Ideal) h w (ix2 (j 0) ⟨l.val, by have := l.isLt; omega⟩)) (fun l => c (ix2 (j 0) l)) (fun l => a (ix2 (j 0) l)) (fun l => k0_pay23 (F := Ideal) u v (ix2 (j 0) l)) (j 1) * Ideal.ofBits FTy.f32 0x3DB504F3#32 := by
  unfold k0_pay32 k0_pay31 rotSum
  generalize k0_pay30 (F := Ideal) h w = p
  generalize k0_pay23 (F := Ideal) u v = b
  pointwise

theorem q1_apply (p : FVec Ideal S512x1024 .f32) (c a b : FVec Ideal S512x128 .f32) (j : S512x128.Idx) :
    k0_pay33 (F := Ideal) c a b p j = rotSum 16 112 (fun l => p (ix2 (j 0) ⟨128 + l.val, by have := l.isLt; omega⟩)) (fun l => c (ix2 (j 0) l)) (fun l => a (ix2 (j 0) l)) (fun l => b (ix2 (j 0) l)) (j 1) * Ideal.ofBits FTy.f32 0x3DB504F3#32 := by
  unfold k0_pay33 rotSum
  pointwise

theorem q2_apply (p : FVec Ideal S512x1024 .f32) (c a b : FVec Ideal S512x128 .f32) (j : S512x128.Idx) :
    k0_pay34 (F := Ideal) c a b p j = rotSum 16 112 (fun l => p (ix2 (j 0) ⟨256 + l.val, by have := l.isLt; omega⟩)) (fun l => c (ix2 (j 0) l)) (fun l => a (ix2 (j 0) l)) (fun l => b (ix2 (j 0) l)) (j 1) * Ideal.ofBits FTy.f32 0x3DB504F3#32 := by
  unfold k0_pay34 rotSum
  pointwise

theorem q3_apply (p : FVec Ideal S512x1024 .f32) (c a b : FVec Ideal S512x128 .f32) (j : S512x128.Idx) :
    k0_pay35 (F := Ideal) c a b p j = rotSum 16 112 (fun l => p (ix2 (j 0) ⟨384 + l.val, by have := l.isLt; omega⟩)) (fun l => c (ix2 (j 0) l)) (fun l => a (ix2 (j 0) l)) (fun l => b (ix2 (j 0) l)) (j 1) * Ideal.ofBits FTy.f32 0x3DB504F3#32 := by
  unfold k0_pay35 rotSum
  pointwise

theorem q4_apply (p : FVec Ideal S512x1024 .f32) (c a b : FVec Ideal S512x128 .f32) (j : S512x128.Idx) :
    k0_pay37 (F := Ideal) c a b (k0_pay36 (F := Ideal) p) j = rotSum 16 112 (fun l => p (ix2 (j 0) ⟨512 + l.val, by have := l.isLt; omega⟩)) (fun l => c (ix2 (j 0) l)) (fun l => a (ix2 (j 0) l)) (fun l => b (ix2 (j 0) l)) (j 1) * Ideal.ofBits FTy.f32 0x3DB504F3#32 := by
  unfold k0_pay37 k0_pay36 rotSum
  pointwise

theorem q5_apply (p : FVec Ideal S512x1024 .f32) (c a b : FVec Ideal S512x128 .f32) (j : S512x128.Idx) :
    k0_pay38 (F := Ideal) c a b p j = rotSum 16 112 (fun l => p (ix2 (j 0) ⟨640 + l.val, by have := l.isLt; omega⟩)) (fun l => c (ix2 (j 0) l)) (fun l => a (ix2 (j 0) l)) (fun l => b (ix2 (j 0) l)) (j 1) * Ideal.ofBits FTy.f32 0x3DB504F3#32 := by
  unfold k0_pay38 rotSum
  pointwise

theorem q6_apply (p : FVec Ideal S512x1024 .f32) (c a b : FVec Ideal S512x128 .f32) (j : S512x128.Idx) :
    k0_pay39 (F := Ideal) c a b p j = rotSum 16 112 (fun l => p (ix2 (j 0) ⟨768 + l.val, by have := l.isLt; omega⟩)) (fun l => c (ix2 (j 0) l)) (fun l => a (ix2 (j 0) l)) (fun l => b (ix2 (j 0) l)) (j 1) * Ideal.ofBits FTy.f32 0x3DB504F3#32 := by
  unfold k0_pay39 rotSum
  pointwise

theorem q7_apply (p : FVec Ideal S512x1024 .f32) (c a b : FVec Ideal S512x128 .f32) (j : S512x128.Idx) :
    k0_pay42 (F := Ideal) b (k0_pay40 (F := Ideal) p) (k0_pay41 (F := Ideal) c a p) 112#32 j = rotSum 16 112 (fun l => p (ix2 (j 0) ⟨896 + l.val, by have := l.isLt; omega⟩)) (fun l => c (ix2 (j 0) l)) (fun l => a (ix2 (j 0) l)) (fun l => b (ix2 (j 0) l)) (j 1) * Ideal.ofBits FTy.f32 0x3DB504F3#32 := by
  unfold k0_pay42 k0_pay41 k0_pay40 rotSum
  pointwise

theorem k0_apply (h : FVec Ideal S512x2048 .bf16) (w : Vec Ideal S2048x256 .bf16) (c a b : FVec Ideal S512x128 .f32) (j : S512x128.Idx) :
    k0_pay44 (F := Ideal) h c a b w j = rotSum 16 112 (fun l => k0_pay43 (F := Ideal) h w (ix2 (j 0) ⟨l.val, by have := l.isLt; omega⟩)) (fun l => c (ix2 (j 0) l)) (fun l => a (ix2 (j 0) l)) (fun l => b (ix2 (j 0) l)) (j 1) := by
  unfold k0_pay44 rotSum
  generalize k0_pay43 (F := Ideal) h w = p
  pointwise

theorem k1_apply (h : FVec Ideal S512x2048 .bf16) (w : Vec Ideal S2048x256 .bf16) (c a b : FVec Ideal S512x128 .f32) (j : S512x128.Idx) :
    k0_pay45 (F := Ideal) h c a b w j = rotSum 16 112 (fun l => k0_pay43 (F := Ideal) h w (ix2 (j 0) ⟨128 + l.val, by have := l.isLt; omega⟩)) (fun l => c (ix2 (j 0) l)) (fun l => a (ix2 (j 0) l)) (fun l => b (ix2 (j 0) l)) (j 1) := by
  unfold k0_pay45 rotSum
  generalize k0_pay43 (F := Ideal) h w = p
  pointwise

theorem i0_apply (h : FVec Ideal S512x2048 .bf16) (w : Vec Ideal S2048x1024 .bf16) (c a b : FVec Ideal S512x128 .f32) (j : S512x128.Idx) :
    k0_pay48 (F := Ideal) h c a b w j = rotSum 8 120 (fun l => k0_pay47 (F := Ideal) h w (ix2 (j 0) ⟨l.val, by have := l.isLt; omega⟩)) (fun l => c (ix2 (j 0) l)) (fun l => a (ix2 (j 0) l)) (fun l => b (ix2 (j 0) l)) (j 1) := by
  unfold k0_pay48 rotSum
  generalize k0_pay47 (F := Ideal) h w = p
  pointwise

theorem i1_apply (h : FVec Ideal S512x2048 .bf16) (w : Vec Ideal S2048x1024 .bf16) (c a b : FVec Ideal S512x128 .f32) (j : S512x128.Idx) :
    k0_pay49 (F := Ideal) h c a b w j = rotSum 8 120 (fun l => k0_pay47 (F := Ideal) h w (ix2 (j 0) ⟨128 + l.val, by have := l.isLt; omega⟩)) (fun l => c (ix2 (j 0) l)) (fun l => a (ix2 (j 0) l)) (fun l => b (ix2 (j 0) l)) (j 1) := by
  unfold k0_pay49 rotSum
  generalize k0_pay47 (F := Ideal) h w = p
  pointwise

theorem i2_apply (h : FVec Ideal S512x2048 .bf16) (w : Vec Ideal S2048x1024 .bf16) (c a b : FVec Ideal S512x128 .f32) (j : S512x128.Idx) :
    k0_pay50 (F := Ideal) h c a b w j = rotSum 8 120 (fun l => k0_pay47 (F := Ideal) h w (ix2 (j 0) ⟨256 + l.val, by have := l.isLt; omega⟩)) (fun l => c (ix2 (j 0) l)) (fun l => a (ix2 (j 0) l)) (fun l => b (ix2 (j 0) l)) (j 1) := by
  unfold k0_pay50 rotSum
  generalize k0_pay47 (F := Ideal) h w = p
  pointwise

theorem i3_apply (h : FVec Ideal S512x2048 .bf16) (w : Vec Ideal S2048x1024 .bf16) (c a b : FVec Ideal S512x128 .f32) (j : S512x128.Idx) :
    k0_pay51 (F := Ideal) h c a b w j = rotSum 8 120 (fun l => k0_pay47 (F := Ideal) h w (ix2 (j 0) ⟨384 + l.val, by have := l.isLt; omega⟩)) (fun l => c (ix2 (j 0) l)) (fun l => a (ix2 (j 0) l)) (fun l => b (ix2 (j 0) l)) (j 1) := by
  unfold k0_pay51 rotSum
  generalize k0_pay47 (F := Ideal) h w = p
  pointwise

theorem i4_apply (p : FVec Ideal S512x1024 .f32) (c a b : FVec Ideal S512x128 .f32) (j : S512x128.Idx) :
    k0_pay52 (F := Ideal) c a b p j = rotSum 8 120 (fun l => p (ix2 (j 0) ⟨512 + l.val, by have := l.isLt; omega⟩)) (fun l => c (ix2 (j 0) l)) (fun l => a (ix2 (j 0) l)) (fun l => b (ix2 (j 0) l)) (j 1) := by
  unfold k0_pay52 rotSum
  pointwise

theorem i5_apply (p : FVec Ideal S512x1024 .f32) (c a b : FVec Ideal S512x128 .f32) (j : S512x128.Idx) :
    k0_pay53 (F := Ideal) c a b p j = rotSum 8 120 (fun l => p (ix2 (j 0) ⟨640 + l.val, by have := l.isLt; omega⟩)) (fun l => c (ix2 (j 0) l)) (fun l => a (ix2 (j 0) l)) (fun l => b (ix2 (j 0) l)) (j 1) := by
  unfold k0_pay53 rotSum
  pointwise

theorem i6_apply (p : FVec Ideal S512x1024 .f32) (c a b : FVec Ideal S512x128 .f32) (j : S512x128.Idx) :
    k0_pay54 (F := Ideal) c a b p j = rotSum 8 120 (fun l => p (ix2 (j 0) ⟨768 + l.val, by have := l.isLt; omega⟩)) (fun l => c (ix2 (j 0) l)) (fun l => a (ix2 (j 0) l)) (fun l => b (ix2 (j 0) l)) (j 1) := by
  unfold k0_pay54 rotSum
  pointwise

theorem i7_apply (p : FVec Ideal S512x1024 .f32) (c a b : FVec Ideal S512x128 .f32) (j : S512x128.Idx) :
    k0_pay55 (F := Ideal) c a b p j = rotSum 8 120 (fun l => p (ix2 (j 0) ⟨896 + l.val, by have := l.isLt; omega⟩)) (fun l => c (ix2 (j 0) l)) (fun l => a (ix2 (j 0) l)) (fun l => b (ix2 (j 0) l)) (j 1) := by
  unfold k0_pay55 rotSum
  pointwise

theorem ki_apply (h : FVec Ideal S512x2048 .bf16) (w : Vec Ideal S2048x256 .bf16) (c a b : FVec Ideal S512x128 .f32) (j : S512x128.Idx) :
    k0_pay2 (F := Ideal) h c a b w j = rotSum 8 120 (fun l => k0_pay1 (F := Ideal) h w (ix2 (j 0) ⟨l.val, by have := l.isLt; omega⟩)) (fun l => c (ix2 (j 0) l)) (fun l => a (ix2 (j 0) l)) (fun l => b (ix2 (j 0) l)) (j 1) := by
  unfold k0_pay2 rotSum
  generalize k0_pay1 (F := Ideal) h w = p
  pointwise

end Cert.Kernel2Ideal.InProj

end
-- ==== Proof.InProj.Spec.lean ====
/- What the input projection computes, row by row of the flattened batch and sequence: the normed and modulated row, its
   projection, the gated convolution over the row and the two before it in its batch, and the norm of the convolved row. -/
module

public import proofs.«01_k».proof.Proof.InProj.Rotary

@[expose] public section

noncomputable section

namespace Cert.Kernel2Ideal.InProj

open Cert.Kernel2Ideal Idealize.ShloMosaic

/-- The batch of a flattened row. -/
def batOf (r : Fin 8192) : Fin 2 := ⟨r.val / 4096, by omega⟩

/-- The place of a flattened row in its batch. -/
def posOf (r : Fin 8192) : Fin 4096 := ⟨r.val % 4096, by omega⟩

/-- The normed and modulated row. -/
def hidRow (x : S2x4096x2048.Idx → EReal) (ada : S2x6x2048.Idx → EReal) (g : S2048.Idx → EReal) (r : Fin 8192) (k : Fin 2048) : EReal :=
  hidden (fun l => x (ix3 (batOf r) (posOf r) l)) (g (ix1 k)) (ada (ix3 (batOf r) 1 k)) (ada (ix3 (batOf r) 0 k)) k

/-- The row's product with one column of the weights. -/
def projRow (h : Fin 8192 → Fin 2048 → EReal) (w : S2048x5712.Idx → EReal) (r : Fin 8192) (j : Fin 5712) : EReal :=
  ∑ k, h r k * w (ix2 k j)

/-- The gated value: the product of two columns of the projection. -/
def gated (p : Fin 8192 → Fin 5712 → EReal) (r : Fin 8192) (c : Fin 1024) : EReal :=
  p r ⟨1024 + c.val, by omega⟩ * p r ⟨2048 + c.val, by omega⟩

/-- The gated value `d` rows before, zero before the batch's first row. -/
def gatedBack (p : Fin 8192 → Fin 5712 → EReal) (d : ℕ) (r : Fin 8192) (c : Fin 1024) : EReal :=
  if d ≤ r.val % 4096 then gated p ⟨r.val - d, by omega⟩ c else 0

/-- The convolved row. -/
def convRow (p : Fin 8192 → Fin 5712 → EReal) (cw : S3x1x1024.Idx → EReal) (r : Fin 8192) (c : Fin 1024) : EReal :=
  p r ⟨c.val, by omega⟩ * (cw (ix3 0 0 c) * gatedBack p 2 r c + cw (ix3 1 0 c) * gatedBack p 1 r c + cw (ix3 2 0 c) * gated p r c)

/-- The norm of the convolved row. -/
def convOut (p : Fin 8192 → Fin 5712 → EReal) (cw : S3x1x1024.Idx → EReal) (gc : S1024.Idx → EReal) (r : Fin 8192) (c : Fin 1024) : EReal :=
  convRow p cw r c * scaleOf 0x44800000#32 (∑ l, convRow p cw r l * convRow p cw r l) * gc (ix1 c)

/-- The values of the attention. -/
def valOut (p : Fin 8192 → Fin 5712 → EReal) (r : Fin 8192) (c : Fin 256) : EReal := p r ⟨4352 + c.val, by omega⟩

/-- The weights of the indexer's heads, zero on the lanes past the sixteenth. -/
def wiOut (p : Fin 8192 → Fin 5712 → EReal) (r : Fin 8192) (c : Fin 128) : EReal := if h : c.val < 16 then p r ⟨5696 + c.val, by omega⟩ else 0

/-- The frequency of a rotary lane: the base to the power of minus the lane's number over the number of lanes. -/
def freqOf (N : BitVec 32) (x : Ideal FTy.f32) : Ideal FTy.f32 :=
  FloatOps.hostPowf (FloatOps.ofBits FTy.f32 0x48F42400#32) (FloatOps.hostDivf (FloatOps.hostNegf x) (FloatOps.ofBits FTy.f32 N))

/-- The angle of a row's position at rotary lane `n`. -/
def angOf (N : BitVec 32) (pos : BitVec 32) (n : ℕ) : EReal := angle pos (freqOf N (FloatOps.sitofp FTy.f32 (BitVec.ofNat 32 n)))

/-- A lane of a head of `D` lanes rotated: the first `half` lanes with the next `half`, the rest left. -/
def ropeLane (D half : ℕ) (ang : ℕ → EReal) (p : Fin 128 → EReal) (l : Fin 128) : EReal :=
  if l.val % D < half then p l * Ideal.cos (ang (l.val % half)) - p ⟨(l.val + half) % 128, Nat.mod_lt _ (by omega)⟩ * Ideal.sin (ang (l.val % half))
  else if l.val % D < 2 * half then p l * Ideal.cos (ang (l.val % half)) + p ⟨(l.val + 128 - half) % 128, Nat.mod_lt _ (by omega)⟩ * Ideal.sin (ang (l.val % half))
  else p l

/-- The position of a flattened row. -/
def rowPos (ps : S2x4096.Idx → BitVec 32) (r : Fin 8192) : BitVec 32 := ps (ix2 (batOf r) (posOf r))

/-- The rotated and scaled queries. -/
def qOut (ps : S2x4096.Idx → BitVec 32) (p : Fin 8192 → Fin 5712 → EReal) (r : Fin 8192) (c : Fin 1024) : EReal :=
  ropeLane 128 16 (angOf 0x41800000#32 (rowPos ps r)) (fun l => p r ⟨3072 + (c.val / 128 * 128 + l.val), by omega⟩) ⟨c.val % 128, by omega⟩ * Ideal.ofBits FTy.f32 0x3DB504F3#32

/-- The rotated keys. -/
def kOut (ps : S2x4096.Idx → BitVec 32) (p : Fin 8192 → Fin 5712 → EReal) (r : Fin 8192) (c : Fin 256) : EReal :=
  ropeLane 128 16 (angOf 0x41800000#32 (rowPos ps r)) (fun l => p r ⟨4096 + (c.val / 128 * 128 + l.val), by omega⟩) ⟨c.val % 128, by omega⟩

/-- The indexer's rotated queries. -/
def qiOut (ps : S2x4096.Idx → BitVec 32) (p : Fin 8192 → Fin 5712 → EReal) (r : Fin 8192) (c : Fin 1024) : EReal :=
  ropeLane 64 8 (angOf 0x41000000#32 (rowPos ps r)) (fun l => p r ⟨4608 + (c.val / 128 * 128 + l.val), by omega⟩) ⟨c.val % 128, by omega⟩

/-- The indexer's rotated keys, twice. -/
def kiOut (ps : S2x4096.Idx → BitVec 32) (p : Fin 8192 → Fin 5712 → EReal) (r : Fin 8192) (c : Fin 128) : EReal :=
  ropeLane 64 8 (angOf 0x41000000#32 (rowPos ps r)) (fun l => p r ⟨5632 + l.val % 64, by omega⟩) c

/-- The sum a head's lane takes from the two rotations is its rotation, the tables being zero or one off the lanes they serve. -/
theorem rotSum_q (ang : ℕ → EReal) (p : Fin 128 → EReal) (l : Fin 128) :
    rotSum 16 112 p (fun l => if l.val % 128 < 32 then Ideal.cos (ang (l.val % 16)) else 1)
      (fun l => if 16 ≤ l.val % 128 ∧ l.val % 128 < 32 then Ideal.sin (ang (l.val % 16)) else 0)
      (fun l => if l.val % 128 < 16 then 0 - Ideal.sin (ang (l.val % 16)) else 0) l = ropeLane 128 16 ang p l := by
  unfold rotSum ropeLane
  have e : (⟨(l.val + 128 - 112) % 128, Nat.mod_lt _ (by omega)⟩ : Fin 128) = ⟨(l.val + 16) % 128, Nat.mod_lt _ (by omega)⟩ := Fin.ext (by show (l.val + 128 - 112) % 128 = (l.val + 16) % 128; omega)
  rw [e]
  beta_reduce
  by_cases h1 : l.val % 128 < 16
  · rw [if_pos (show l.val % 128 < 32 by omega), if_neg (show ¬ (16 ≤ l.val % 128 ∧ l.val % 128 < 32) by omega), if_pos h1, if_pos h1, mul_zero, add_zero, zero_sub, mul_neg, sub_eq_add_neg]
  · by_cases h2 : l.val % 128 < 32
    · rw [if_pos h2, if_pos (show 16 ≤ l.val % 128 ∧ l.val % 128 < 32 by omega), if_neg h1, if_neg h1, if_pos (show l.val % 128 < 2 * 16 by omega), mul_zero, add_zero]
    · rw [if_neg h2, if_neg (show ¬ (16 ≤ l.val % 128 ∧ l.val % 128 < 32) by omega), if_neg h1, if_neg h1, if_neg (show ¬ l.val % 128 < 2 * 16 by omega), mul_zero, add_zero, mul_zero, add_zero, mul_one]

theorem rotSum_i (ang : ℕ → EReal) (p : Fin 128 → EReal) (l : Fin 128) :
    rotSum 8 120 p (fun l => if l.val % 64 < 16 then Ideal.cos (ang (l.val % 8)) else 1)
      (fun l => if 8 ≤ l.val % 64 ∧ l.val % 64 < 16 then Ideal.sin (ang (l.val % 8)) else 0)
      (fun l => if l.val % 64 < 8 then 0 - Ideal.sin (ang (l.val % 8)) else 0) l = ropeLane 64 8 ang p l := by
  unfold rotSum ropeLane
  have e : (⟨(l.val + 128 - 120) % 128, Nat.mod_lt _ (by omega)⟩ : Fin 128) = ⟨(l.val + 8) % 128, Nat.mod_lt _ (by omega)⟩ := Fin.ext (by show (l.val + 128 - 120) % 128 = (l.val + 8) % 128; omega)
  rw [e]
  beta_reduce
  by_cases h1 : l.val % 64 < 8
  · rw [if_pos (show l.val % 64 < 16 by omega), if_neg (show ¬ (8 ≤ l.val % 64 ∧ l.val % 64 < 16) by omega), if_pos h1, if_pos h1, mul_zero, add_zero, zero_sub, mul_neg, sub_eq_add_neg]
  · by_cases h2 : l.val % 64 < 16
    · rw [if_pos h2, if_pos (show 8 ≤ l.val % 64 ∧ l.val % 64 < 16 by omega), if_neg h1, if_neg h1, if_pos (show l.val % 64 < 2 * 8 by omega), mul_zero, add_zero]
    · rw [if_neg h2, if_neg (show ¬ (8 ≤ l.val % 64 ∧ l.val % 64 < 16) by omega), if_neg h1, if_neg h1, if_neg (show ¬ l.val % 64 < 2 * 8 by omega), mul_zero, add_zero, mul_zero, add_zero, mul_one]

/-- The table of lane numbers holds each lane's number. -/
theorem lane_word : ∀ n : Fin 16, Ideal.ofBits FTy.f32 (lit0 ⟨n.val, by omega⟩) = FloatOps.sitofp (F := Ideal) FTy.f32 (BitVec.ofNat 32 n.val) := by
  intro n
  have h : ∀ k : ℕ, k < 16 → FloatOps.sitofp (F := Ideal) FTy.f32 (BitVec.ofNat 32 k) = ((k : ℝ) : EReal) := by
    intro k hk
    show (((BitVec.ofNat 32 k).toInt : ℝ) : EReal) = _
    rw [show (BitVec.ofNat 32 k).toInt = (k : ℤ) by interval_cases k <;> rfl]
    simp
  rw [h n.val n.isLt]
  fin_cases n <;> simp [lit0, Ideal.ofBits, Ideal.ieee, -EReal.coe_mul] <;> norm_num

theorem lit0_mod : ∀ l : Fin 128, lit0 l = lit0 ⟨l.val % 16, by omega⟩ := by decide
theorem lit1_mod : ∀ l : Fin 128, lit1 l = lit0 ⟨l.val % 8, by omega⟩ := by decide

end Cert.Kernel2Ideal.InProj

end
-- ==== Proof.InProj.Arrays.lean ====
/- The arrays the input projection's call is launched on, and its blocks at one grid point, read at one index. -/
module

public import proofs.«01_k».proof.Proof.InProj.Spec
public import proofs.«01_k».proof.Proof.Gen.Kernel2Ideal.Frame.Runs
public import Idealize.ShloMosaic.Lib.Pipeline.Value
public import Idealize.ShloMosaic.Lib.StableHlo.Run

@[expose] public section

set_option maxRecDepth 16384

noncomputable section

namespace Cert.Kernel2Ideal.InProj

open Cert.Kernel2Ideal Cert.Kernel2Ideal.Gen Idealize.ShloMosaic Idealize.ShloMosaic.TcCoe Idealize.ShloMosaic.StableHlo

variable (m : (ℓ : Loc nD τ sig) → Buf (Elt Ideal) ℓ) (c : Dev nD)

/-- The input rows. -/
abbrev aX : S2x4096x2048.Idx → EReal := m ((c : Thread nD τ).loc main_arg0)
/-- The modulation. -/
abbrev aAda : S2x6x2048.Idx → EReal := m ((c : Thread nD τ).loc main_arg1)
/-- The gain of the first norm. -/
abbrev aG : S2048.Idx → EReal := m ((c : Thread nD τ).loc main_arg2)
/-- The weights. -/
abbrev aW : S2048x5712.Idx → EReal := m ((c : Thread nD τ).loc main_arg4)
/-- The convolution's taps. -/
abbrev aCw : S3x1x1024.Idx → EReal := m ((c : Thread nD τ).loc main_arg5)
/-- The gain of the second norm. -/
abbrev aGc : S1024.Idx → EReal := m ((c : Thread nD τ).loc main_arg6)

theorem V_v1 : (V m c main_v1 : S8192x2048.Idx → EReal) = shapeCast S8192x2048 (aX m c) shapeCasts_S2x4096x2048_S8192x2048 := by
  show after hostOps0 _ (Proc.devRef .tc main_v1) = _
  after_results
  rfl

theorem V_v2 : (V m c main_v2 : S1x2048.Idx → EReal) = shapeCast S1x2048 (aG m c) shapeCasts_S2048_S1x2048 := by
  show after hostOps0 _ (Proc.devRef .tc main_v2) = _
  after_results
  rfl

theorem V_v8 : (V m c main_v8 : S3x1024.Idx → EReal) = shapeCast S3x1024 (aCw m c) shapeCasts_S3x1x1024_S3x1024 := by
  show after hostOps0 _ (Proc.devRef .tc main_v8) = _
  after_results
  rfl

theorem V_v9 : (V m c main_v9 : S1x1024.Idx → EReal) = shapeCast S1x1024 (aGc m c) shapeCasts_S1024_S1x1024 := by
  show after hostOps0 _ (Proc.devRef .tc main_v9) = _
  after_results
  rfl

theorem V_v0 : (V m c main_v0 : S2048x5712.Idx → EReal) = aW m c := by
  have h : (V m c main_v0 : S2048x5712.Idx → EReal) = (truncf .bf16 (aW m c : FVec Ideal S2048x5712 .f32) bitsLt_bf16_f32 : FVec Ideal S2048x5712 .bf16) := by
    show after hostOps0 _ (Proc.devRef .tc main_v0) = _
    after_results
  exact h

theorem V_v7 : (V m c main_v7 : S2048x256.Idx → EReal) = concatenate S2048x256 1
    [⟨S2048x64, extractStridedSlice S2048x64 ![0, 5632] (aW m c) slices_S2048x5712_S2048x64_0_5632⟩,
     ⟨S2048x64, extractStridedSlice S2048x64 ![0, 5632] (aW m c) slices_S2048x5712_S2048x64_0_5632⟩,
     ⟨S2048x16, extractStridedSlice S2048x16 ![0, 5696] (aW m c) slices_S2048x5712_S2048x16_0_5696⟩,
     ⟨S2048x112, broadcastInDim S2048x112 ![] bcast_S_S2048x112 (constant (F := Ideal) S_ .bf16 0x0000#16)⟩] concatenates_S2048x64_S2048x64_S2048x16_S2048x112_S2048x256_d1 := by
  show after hostOps0 _ (Proc.devRef .tc main_v7) = _
  after_results
  rfl

/-- The rows' positions. -/
abbrev aPs : S2x4096.Idx → BitVec 32 := m ((c : Thread nD τ).loc main_arg3)

theorem V_v3 : (V m c main_v3 : S8192x1.Idx → BitVec 32) = shapeCast S8192x1 (aPs m c) shapeCasts_S2x4096_S8192x1 := by
  show after hostOps0 _ (Proc.devRef .tc main_v3) = _
  after_results
  rfl

theorem V_v20 : (V m c main_v20 : S1x128.Idx → EReal) = shapeCast S1x128 (fun i : S128.Idx => freqOf 0x41800000#32 (FloatOps.ofBits FTy.f32 (lit0 (S128.rowMajor i)))) shapeCasts_S128_S1x128 := by
  show after hostOps0 _ (Proc.devRef .tc main_v20) = _
  after_results
  rfl

theorem V_v21 : (V m c main_v21 : S1x128.Idx → EReal) = shapeCast S1x128 (fun i : S128.Idx => freqOf 0x41000000#32 (FloatOps.ofBits FTy.f32 (lit1 (S128.rowMajor i)))) shapeCasts_S128_S1x128 := by
  show after hostOps0 _ (Proc.devRef .tc main_v21) = _
  after_results
  rfl

theorem point_lt (t : Fin cfg0.N) : t.val < 16 := t.isLt.trans_eq (by decide)

/-- The row of the flattened input that is row `a` of grid point `t`'s block. -/
def rowAt (t : Fin cfg0.N) (a : Fin 512) : Fin 8192 := ⟨512 * t.val + a.val, by have := point_lt t; omega⟩

theorem index0 : ∀ t : Fin cfg0.N, (cfg0.win 0).index t = ![t.val, 0] := by decide +kernel
theorem index1 : ∀ t : Fin cfg0.N, (cfg0.win 1).index t = ![t.val / 8, 0, 0] := by decide +kernel
theorem index2 : ∀ t : Fin cfg0.N, (cfg0.win 2).index t = ![0, 0] := by decide +kernel
theorem index3 : ∀ t : Fin cfg0.N, (cfg0.win 3).index t = ![t.val, 0] := by decide +kernel
theorem index4 : ∀ t : Fin cfg0.N, (cfg0.win 4).index t = ![0, 0] := by decide +kernel
theorem index5 : ∀ t : Fin cfg0.N, (cfg0.win 5).index t = ![0, 0] := by decide +kernel
theorem index6 : ∀ t : Fin cfg0.N, (cfg0.win 6).index t = ![0, 0] := by decide +kernel
theorem index7 : ∀ t : Fin cfg0.N, (cfg0.win 7).index t = ![0, 0] := by decide +kernel
theorem index8 : ∀ t : Fin cfg0.N, (cfg0.win 8).index t = ![0, 0] := by decide +kernel
theorem index9 : ∀ t : Fin cfg0.N, (cfg0.win 9).index t = ![0, 0] := by decide +kernel

theorem blk0 (t : Fin cfg0.N) (a : Fin 512) (l : Fin 2048) : iblk m c 0 t (ix2 a l) = aX m c (ix3 (batOf (rowAt t a)) (posOf (rowAt t a)) l) := by
  have h : iblk m c 0 t (ix2 a l) = (V m c main_v1 : S8192x2048.Idx → EReal) (ix2 (rowAt t a) l) :=
    congrArg (V m c main_v1 : S8192x2048.Idx → EReal) (funext fun x => Fin.ext (by
      show (cfg0.win 0).index t x * S512x2048.size x + 1 * ((ix2 a l) x).val = _
      rw [index0 t]
      match x with
      | ⟨0, _⟩ => show t.val * 512 + 1 * a.val = 512 * t.val + a.val; omega
      | ⟨1, _⟩ => show 0 * 2048 + 1 * l.val = l.val; omega))
  rw [h, V_v1]
  refine shapeCast_apply _ _ _ _ ?_
  rw [Shape.rowMajor_val_two, Shape.rowMajor_val_three]
  show ((rowAt t a).val / 4096 * 4096 + (rowAt t a).val % 4096) * 2048 + l.val = (rowAt t a).val * 2048 + l.val
  omega

theorem blk1 (t : Fin cfg0.N) (a : Fin 512) (k : Fin 6) (l : Fin 2048) : iblk m c 1 t (ix3 0 k l) = aAda m c (ix3 (batOf (rowAt t a)) k l) := by
  have ht := point_lt t
  have h : iblk m c 1 t (ix3 0 k l) = (V m c main_arg1 : S2x6x2048.Idx → EReal) (ix3 (batOf (rowAt t a)) k l) :=
    congrArg (V m c main_arg1 : S2x6x2048.Idx → EReal) (funext fun x => Fin.ext (by
      show (cfg0.win 1).index t x * S1x6x2048.size x + 1 * ((ix3 (0 : Fin 1) k l) x).val = _
      rw [index1 t]
      match x with
      | ⟨0, _⟩ => show t.val / 8 * 1 + 1 * 0 = (512 * t.val + a.val) / 4096; omega
      | ⟨1, _⟩ => show 0 * 6 + 1 * k.val = k.val; omega
      | ⟨2, _⟩ => show 0 * 2048 + 1 * l.val = l.val; omega))
  rw [h]
  rfl

theorem blk2 (t : Fin cfg0.N) (l : Fin 2048) : iblk m c 2 t (ix2 0 l) = aG m c (ix1 l) := by
  have h : iblk m c 2 t (ix2 0 l) = (V m c main_v2 : S1x2048.Idx → EReal) (ix2 0 l) :=
    congrArg (V m c main_v2 : S1x2048.Idx → EReal) (funext fun x => Fin.ext (by
      show (cfg0.win 2).index t x * S1x2048.size x + 1 * ((ix2 (0 : Fin 1) l) x).val = _
      rw [index2 t]
      match x with
      | ⟨0, _⟩ => rfl
      | ⟨1, _⟩ => show 0 * 2048 + 1 * l.val = l.val; omega))
  rw [h, V_v2]
  refine shapeCast_apply _ _ _ _ ?_
  rw [Shape.rowMajor_val_two, Shape.rowMajor_val_one]
  show l.val = 0 * 2048 + l.val
  omega

theorem blk3 (t : Fin cfg0.N) (a : Fin 512) : iblk m c 3 t (ix2 a 0) = rowPos (aPs m c) (rowAt t a) := by
  have h : iblk m c 3 t (ix2 a 0) = (V m c main_v3 : S8192x1.Idx → BitVec 32) (ix2 (rowAt t a) 0) :=
    congrArg (V m c main_v3 : S8192x1.Idx → BitVec 32) (funext fun x => Fin.ext (by
      show (cfg0.win 3).index t x * S512x1.size x + 1 * ((ix2 a (0 : Fin 1)) x).val = _
      rw [index3 t]
      match x with
      | ⟨0, _⟩ => show t.val * 512 + 1 * a.val = 512 * t.val + a.val; omega
      | ⟨1, _⟩ => rfl))
  rw [h, V_v3]
  refine shapeCast_apply _ _ _ _ ?_
  rw [Shape.rowMajor_val_two, Shape.rowMajor_val_two]
  show (rowAt t a).val / 4096 * 4096 + (rowAt t a).val % 4096 = (rowAt t a).val * 1 + 0
  omega

theorem blk4 (t : Fin cfg0.N) (k : Fin 2048) (j : Fin 5632) : X0_4 m c t (ix2 k j) = aW m c (ix2 k ⟨j.val, by omega⟩) := by
  unfold X0_4 Pipeline.Window.fill
  rw [dif_pos (moved0_4 t _), ← V_v0]
  exact congrArg (V m c main_v0 : S2048x5712.Idx → EReal) (funext fun x => Fin.ext (by
      show (cfg0.win 4).index t x * S2048x5632.size x + 1 * ((ix2 k j) x).val = _
      rw [index4 t]
      match x with
      | ⟨0, _⟩ => show 0 * 2048 + 1 * k.val = k.val; omega
      | ⟨1, _⟩ => show 0 * 5632 + 1 * j.val = j.val; omega))

theorem blk5 (t : Fin cfg0.N) (k : Fin 2048) (j : Fin 256) : iblk m c 5 t (ix2 k j) = (V m c main_v7 : S2048x256.Idx → EReal) (ix2 k j) :=
    congrArg (V m c main_v7 : S2048x256.Idx → EReal) (funext fun x => Fin.ext (by
      show (cfg0.win 5).index t x * S2048x256.size x + 1 * ((ix2 k j) x).val = _
      rw [index5 t]
      match x with
      | ⟨0, _⟩ => show 0 * 2048 + 1 * k.val = k.val; omega
      | ⟨1, _⟩ => show 0 * 256 + 1 * j.val = j.val; omega))

/-- The tail's first lanes are the indexer's keys' columns, twice. -/
theorem tail_ki (k : Fin 2048) (j : Fin 256) (h : j.val < 128) : (V m c main_v7 : S2048x256.Idx → EReal) (ix2 k j) = aW m c (ix2 k ⟨5632 + j.val % 64, by omega⟩) := by
  rw [V_v7]
  by_cases h1 : j.val < 64
  · refine (concatenate_apply_piece (t := S2048x256) 1 _ _ (ix2 k j) 0 (by show 0 < 4; omega) S2048x64 _ rfl rfl 0 (by rfl) (ix2 k (⟨j.val, h1⟩ : Fin 64)) ?_ ?_).trans ?_
    · intro b hb
      match b with
      | ⟨0, _⟩ => rfl
      | ⟨1, _⟩ => exact absurd rfl hb
    · show 0 + j.val = j.val; omega
    · refine congrArg (aW m c) (funext fun x => Fin.ext ?_)
      match x with
      | ⟨0, _⟩ => show 0 + k.val = k.val; omega
      | ⟨1, _⟩ => show 5632 + j.val = 5632 + j.val % 64; omega
  · refine (concatenate_apply_piece (t := S2048x256) 1 _ _ (ix2 k j) 1 (by show 1 < 4; omega) S2048x64 _ rfl rfl 64 (by rfl) (ix2 k (⟨j.val - 64, by omega⟩ : Fin 64)) ?_ ?_).trans ?_
    · intro b hb
      match b with
      | ⟨0, _⟩ => rfl
      | ⟨1, _⟩ => exact absurd rfl hb
    · show 64 + (j.val - 64) = j.val; omega
    · refine congrArg (aW m c) (funext fun x => Fin.ext ?_)
      match x with
      | ⟨0, _⟩ => show 0 + k.val = k.val; omega
      | ⟨1, _⟩ => show 5632 + (j.val - 64) = 5632 + j.val % 64; omega

/-- Then the indexer's weights' columns, -/
theorem tail_wi (k : Fin 2048) (j : Fin 256) (l : Fin 16) (h : j.val = 128 + l.val) : (V m c main_v7 : S2048x256.Idx → EReal) (ix2 k j) = aW m c (ix2 k ⟨5696 + l.val, by omega⟩) := by
  rw [V_v7]
  refine (concatenate_apply_piece (t := S2048x256) 1 _ _ (ix2 k j) 2 (by show 2 < 4; omega) S2048x16 _ rfl rfl 128 (by rfl) (ix2 k l) ?_ ?_).trans ?_
  · intro b hb
    match b with
    | ⟨0, _⟩ => rfl
    | ⟨1, _⟩ => exact absurd rfl hb
  · exact h.symm
  · refine congrArg (aW m c) (funext fun x => Fin.ext ?_)
    match x with
    | ⟨0, _⟩ => show 0 + k.val = k.val; omega
    | ⟨1, _⟩ => rfl

/-- then zeros. -/
theorem tail_zero (k : Fin 2048) (j : Fin 256) (l : Fin 112) (h : j.val = 144 + l.val) : ((V m c main_v7 : S2048x256.Idx → EReal) (ix2 k j) : EReal) = (0 : EReal) := by
  rw [V_v7]
  refine (concatenate_apply_piece (t := S2048x256) 1 _ _ (ix2 k j) 3 (by show 3 < 4; omega) S2048x112 _ rfl rfl 144 (by rfl) (ix2 k l) ?_ ?_).trans ?_
  · intro b hb
    match b with
    | ⟨0, _⟩ => rfl
    | ⟨1, _⟩ => exact absurd rfl hb
  · exact h.symm
  · show Ideal.ofBits FTy.bf16 0x0000#16 = 0
    simp [Ideal.ofBits, Ideal.ieee]

theorem blk6 (t : Fin cfg0.N) (d : Fin 3) (l : Fin 1024) : iblk m c 6 t (ix2 d l) = aCw m c (ix3 d 0 l) := by
  have h : iblk m c 6 t (ix2 d l) = (V m c main_v8 : S3x1024.Idx → EReal) (ix2 d l) :=
    congrArg (V m c main_v8 : S3x1024.Idx → EReal) (funext fun x => Fin.ext (by
      show (cfg0.win 6).index t x * S3x1024.size x + 1 * ((ix2 d l) x).val = _
      rw [index6 t]
      match x with
      | ⟨0, _⟩ => show 0 * 3 + 1 * d.val = d.val; omega
      | ⟨1, _⟩ => show 0 * 1024 + 1 * l.val = l.val; omega))
  rw [h, V_v8]
  refine shapeCast_apply _ _ _ _ ?_
  rw [Shape.rowMajor_val_two, Shape.rowMajor_val_three]
  show (d.val * 1 + 0) * 1024 + l.val = d.val * 1024 + l.val
  omega

theorem blk7 (t : Fin cfg0.N) (l : Fin 1024) : iblk m c 7 t (ix2 0 l) = aGc m c (ix1 l) := by
  have h : iblk m c 7 t (ix2 0 l) = (V m c main_v9 : S1x1024.Idx → EReal) (ix2 0 l) :=
    congrArg (V m c main_v9 : S1x1024.Idx → EReal) (funext fun x => Fin.ext (by
      show (cfg0.win 7).index t x * S1x1024.size x + 1 * ((ix2 (0 : Fin 1) l) x).val = _
      rw [index7 t]
      match x with
      | ⟨0, _⟩ => rfl
      | ⟨1, _⟩ => show 0 * 1024 + 1 * l.val = l.val; omega))
  rw [h, V_v9]
  refine shapeCast_apply _ _ _ _ ?_
  rw [Shape.rowMajor_val_two, Shape.rowMajor_val_one]
  show l.val = 0 * 1024 + l.val
  omega

theorem blk8 (t : Fin cfg0.N) (l : Fin 128) : iblk m c 8 t (ix2 0 l) = freqOf 0x41800000#32 (FloatOps.sitofp FTy.f32 (BitVec.ofNat 32 (l.val % 16))) := by
  have h : iblk m c 8 t (ix2 0 l) = (V m c main_v20 : S1x128.Idx → EReal) (ix2 0 l) :=
    congrArg (V m c main_v20 : S1x128.Idx → EReal) (funext fun x => Fin.ext (by
      show (cfg0.win 8).index t x * S1x128.size x + 1 * ((ix2 (0 : Fin 1) l) x).val = _
      rw [index8 t]
      match x with
      | ⟨0, _⟩ => rfl
      | ⟨1, _⟩ => show 0 * 128 + 1 * l.val = l.val; omega))
  rw [h, V_v20]
  refine (shapeCast_apply _ _ _ (ix1 l) ?_).trans ?_
  · rw [Shape.rowMajor_val_two, Shape.rowMajor_val_one]
    show l.val = 0 * 128 + l.val
    omega
  · have e : S128.rowMajor (ix1 l) = l := Fin.ext (by rw [Shape.rowMajor_val_one]; rfl)
    show freqOf _ (Ideal.ofBits FTy.f32 (lit0 (S128.rowMajor (ix1 l)))) = _
    rw [e, lit0_mod, ← lane_word ⟨l.val % 16, by omega⟩]

theorem blk9 (t : Fin cfg0.N) (l : Fin 128) : iblk m c 9 t (ix2 0 l) = freqOf 0x41000000#32 (FloatOps.sitofp FTy.f32 (BitVec.ofNat 32 (l.val % 8))) := by
  have h : iblk m c 9 t (ix2 0 l) = (V m c main_v21 : S1x128.Idx → EReal) (ix2 0 l) :=
    congrArg (V m c main_v21 : S1x128.Idx → EReal) (funext fun x => Fin.ext (by
      show (cfg0.win 9).index t x * S1x128.size x + 1 * ((ix2 (0 : Fin 1) l) x).val = _
      rw [index9 t]
      match x with
      | ⟨0, _⟩ => rfl
      | ⟨1, _⟩ => show 0 * 128 + 1 * l.val = l.val; omega))
  rw [h, V_v21]
  refine (shapeCast_apply _ _ _ (ix1 l) ?_).trans ?_
  · rw [Shape.rowMajor_val_two, Shape.rowMajor_val_one]
    show l.val = 0 * 128 + l.val
    omega
  · have e : S128.rowMajor (ix1 l) = l := Fin.ext (by rw [Shape.rowMajor_val_one]; rfl)
    show freqOf _ (Ideal.ofBits FTy.f32 (lit1 (S128.rowMajor (ix1 l)))) = _
    rw [e, lit1_mod, ← lane_word ⟨l.val % 8, by omega⟩]

end Cert.Kernel2Ideal.InProj

end
-- ==== Proof.InProj.Blocks.lean ====
/- What one grid point of the input projection leaves in each of its blocks, read at a row and a column. -/
module

public import proofs.«01_k».proof.Proof.InProj.Arrays
public import proofs.«01_k».proof.Proof.Gen.Kernel2Ideal.Frame
public import Idealize.ShloMosaic.Lib.Pipeline.ValueKit.Acc
public import Idealize.ShloMosaic.Lib.Pipeline.Covers
public import Idealize.ShloMosaic.Lib.Pipeline.ReadBack
public import Idealize.ShloMosaic.Lib.Pipeline.ValueKit.Geometry

@[expose] public section

set_option maxRecDepth 16384

noncomputable section

namespace Cert.Kernel2Ideal.InProj

open Cert.Kernel2Ideal Cert.Kernel2Ideal.Gen
open Idealize.ShloMosaic Idealize.ShloMosaic.TcCoe
open Idealize.ShloMosaic.Pipeline (Dat Cfg Window)

section Strips
variable {Val : EltTy → Type} [∀ e, Nonempty (Val e)] {e : EltTy}

theorem canon_hit {R C h w o p : ℕ} (inb : ∀ a, (![o, p] : Fin 2 → ℕ) a + (![h, w] : Fin 2 → ℕ) a ≤ (⟨2, ![R, C]⟩ : Shape).size a)
    (W : (⟨2, ![h, w]⟩ : Shape).Idx → Val e) (L : List (View.Piece Val (⟨2, ![R, C]⟩ : Shape) e)) (a : Fin R) (b : Fin C) (x : Fin h) (y : Fin w)
    (ha : a.val = o + x.val) (hb : b.val = p + y.val) :
    View.canon ((⟨Rect.unit ![o, p] ![h, w] inb, W⟩ : View.Piece Val (⟨2, ![R, C]⟩ : Shape) e) :: L) (ix2 a b) = W (ix2 x y) := by
  have e1 : (ix2 a b : (⟨2, ![R, C]⟩ : Shape).Idx) = (Rect.unit (s := ⟨2, ![R, C]⟩) ![o, p] ![h, w] inb).emb (ix2 x y) := funext fun d => Fin.ext (by
    match d with
    | ⟨0, _⟩ => show a.val = o + 1 * x.val; omega
    | ⟨1, _⟩ => show b.val = p + 1 * y.val; omega)
  rw [e1]
  exact View.canon_cons_emb (Rect.unit (s := ⟨2, ![R, C]⟩) ![o, p] ![h, w] inb) W L _

theorem canon_miss {R C h w o p : ℕ} (inb : ∀ a, (![o, p] : Fin 2 → ℕ) a + (![h, w] : Fin 2 → ℕ) a ≤ (⟨2, ![R, C]⟩ : Shape).size a)
    (W : (⟨2, ![h, w]⟩ : Shape).Idx → Val e) (L : List (View.Piece Val (⟨2, ![R, C]⟩ : Shape) e)) (a : Fin R) (b : Fin C)
    (hm : a.val < o ∨ o + h ≤ a.val ∨ b.val < p ∨ p + w ≤ b.val) :
    View.canon ((⟨Rect.unit ![o, p] ![h, w] inb, W⟩ : View.Piece Val (⟨2, ![R, C]⟩ : Shape) e) :: L) (ix2 a b) = View.canon L (ix2 a b) := by
  refine View.canon_cons_of_not_mem _ _ fun hc => ?_
  have hc' := (Rect.mem_set_unit (s := ⟨2, ![R, C]⟩) (off := ![o, p]) (size := ![h, w]) (inb := inb)).mp hc
  have h0 : o ≤ a.val ∧ a.val < o + h := hc' (0 : Fin 2)
  have h1 : p ≤ b.val ∧ b.val < p + w := hc' (1 : Fin 2)
  omega

/-- Eight strips of columns that are each a strip of `G` leave `G`. -/
theorem canon_eight (G : Fin 512 → Fin 1024 → Val e) (p0 p1 p2 p3 p4 p5 p6 p7 : (⟨2, ![512, 128]⟩ : Shape).Idx → Val e)
    (i0 : ∀ a, (![0, 0] : Fin 2 → ℕ) a + (![512, 128] : Fin 2 → ℕ) a ≤ (⟨2, ![512, 1024]⟩ : Shape).size a)
    (i1 : ∀ a, (![0, 128] : Fin 2 → ℕ) a + (![512, 128] : Fin 2 → ℕ) a ≤ (⟨2, ![512, 1024]⟩ : Shape).size a)
    (i2 : ∀ a, (![0, 256] : Fin 2 → ℕ) a + (![512, 128] : Fin 2 → ℕ) a ≤ (⟨2, ![512, 1024]⟩ : Shape).size a)
    (i3 : ∀ a, (![0, 384] : Fin 2 → ℕ) a + (![512, 128] : Fin 2 → ℕ) a ≤ (⟨2, ![512, 1024]⟩ : Shape).size a)
    (i4 : ∀ a, (![0, 512] : Fin 2 → ℕ) a + (![512, 128] : Fin 2 → ℕ) a ≤ (⟨2, ![512, 1024]⟩ : Shape).size a)
    (i5 : ∀ a, (![0, 640] : Fin 2 → ℕ) a + (![512, 128] : Fin 2 → ℕ) a ≤ (⟨2, ![512, 1024]⟩ : Shape).size a)
    (i6 : ∀ a, (![0, 768] : Fin 2 → ℕ) a + (![512, 128] : Fin 2 → ℕ) a ≤ (⟨2, ![512, 1024]⟩ : Shape).size a)
    (i7 : ∀ a, (![0, 896] : Fin 2 → ℕ) a + (![512, 128] : Fin 2 → ℕ) a ≤ (⟨2, ![512, 1024]⟩ : Shape).size a)
    (h0 : ∀ a (x : Fin 128), p0 (ix2 a x) = G a ⟨x.val, by omega⟩) (h1 : ∀ a (x : Fin 128), p1 (ix2 a x) = G a ⟨128 + x.val, by omega⟩)
    (h2 : ∀ a (x : Fin 128), p2 (ix2 a x) = G a ⟨256 + x.val, by omega⟩) (h3 : ∀ a (x : Fin 128), p3 (ix2 a x) = G a ⟨384 + x.val, by omega⟩)
    (h4 : ∀ a (x : Fin 128), p4 (ix2 a x) = G a ⟨512 + x.val, by omega⟩) (h5 : ∀ a (x : Fin 128), p5 (ix2 a x) = G a ⟨640 + x.val, by omega⟩)
    (h6 : ∀ a (x : Fin 128), p6 (ix2 a x) = G a ⟨768 + x.val, by omega⟩) (h7 : ∀ a (x : Fin 128), p7 (ix2 a x) = G a ⟨896 + x.val, by omega⟩)
    (a : Fin 512) (l : Fin 1024) :
    View.canon ([⟨Rect.unit ![0, 896] ![512, 128] i7, p7⟩, ⟨Rect.unit ![0, 768] ![512, 128] i6, p6⟩, ⟨Rect.unit ![0, 640] ![512, 128] i5, p5⟩,
      ⟨Rect.unit ![0, 512] ![512, 128] i4, p4⟩, ⟨Rect.unit ![0, 384] ![512, 128] i3, p3⟩, ⟨Rect.unit ![0, 256] ![512, 128] i2, p2⟩,
      ⟨Rect.unit ![0, 128] ![512, 128] i1, p1⟩, ⟨Rect.unit ![0, 0] ![512, 128] i0, p0⟩] : List (View.Piece Val (⟨2, ![512, 1024]⟩ : Shape) e)) (ix2 a l) = G a l := by
  have key : ∀ (n : ℕ) (x : Fin 128) (h : n + x.val < 1024), n + x.val = l.val → G a ⟨n + x.val, h⟩ = G a l := fun n x h e => congrArg (G a) (Fin.ext e)
  by_cases c7 : 896 ≤ l.val
  · rw [canon_hit i7 p7 _ a l a ⟨l.val - 896, by omega⟩ (Nat.zero_add _).symm (by show l.val = 896 + (l.val - 896); omega), h7]
    exact key _ ⟨l.val - 896, by omega⟩ _ (by show 896 + (l.val - 896) = l.val; omega)
  rw [canon_miss i7 p7 _ a l (by omega)]
  by_cases c6 : 768 ≤ l.val
  · rw [canon_hit i6 p6 _ a l a ⟨l.val - 768, by omega⟩ (Nat.zero_add _).symm (by show l.val = 768 + (l.val - 768); omega), h6]
    exact key _ ⟨l.val - 768, by omega⟩ _ (by show 768 + (l.val - 768) = l.val; omega)
  rw [canon_miss i6 p6 _ a l (by omega)]
  by_cases c5 : 640 ≤ l.val
  · rw [canon_hit i5 p5 _ a l a ⟨l.val - 640, by omega⟩ (Nat.zero_add _).symm (by show l.val = 640 + (l.val - 640); omega), h5]
    exact key _ ⟨l.val - 640, by omega⟩ _ (by show 640 + (l.val - 640) = l.val; omega)
  rw [canon_miss i5 p5 _ a l (by omega)]
  by_cases c4 : 512 ≤ l.val
  · rw [canon_hit i4 p4 _ a l a ⟨l.val - 512, by omega⟩ (Nat.zero_add _).symm (by show l.val = 512 + (l.val - 512); omega), h4]
    exact key _ ⟨l.val - 512, by omega⟩ _ (by show 512 + (l.val - 512) = l.val; omega)
  rw [canon_miss i4 p4 _ a l (by omega)]
  by_cases c3 : 384 ≤ l.val
  · rw [canon_hit i3 p3 _ a l a ⟨l.val - 384, by omega⟩ (Nat.zero_add _).symm (by show l.val = 384 + (l.val - 384); omega), h3]
    exact key _ ⟨l.val - 384, by omega⟩ _ (by show 384 + (l.val - 384) = l.val; omega)
  rw [canon_miss i3 p3 _ a l (by omega)]
  by_cases c2 : 256 ≤ l.val
  · rw [canon_hit i2 p2 _ a l a ⟨l.val - 256, by omega⟩ (Nat.zero_add _).symm (by show l.val = 256 + (l.val - 256); omega), h2]
    exact key _ ⟨l.val - 256, by omega⟩ _ (by show 256 + (l.val - 256) = l.val; omega)
  rw [canon_miss i2 p2 _ a l (by omega)]
  by_cases c1 : 128 ≤ l.val
  · rw [canon_hit i1 p1 _ a l a ⟨l.val - 128, by omega⟩ (Nat.zero_add _).symm (by show l.val = 128 + (l.val - 128); omega), h1]
    exact key _ ⟨l.val - 128, by omega⟩ _ (by show 128 + (l.val - 128) = l.val; omega)
  rw [canon_miss i1 p1 _ a l (by omega)]
  rw [canon_hit i0 p0 _ a l a ⟨l.val, by omega⟩ (Nat.zero_add _).symm (Nat.zero_add _).symm, h0]

end Strips

variable (m : (ℓ : Loc nD τ sig) → Buf (Elt Ideal) ℓ) (c : Dev nD)

/-- The projected rows. -/
def proj (r : Fin 8192) (j : Fin 5712) : EReal := projRow (hidRow (aX m c) (aAda m c) (aG m c)) (aW m c) r j

/-- The normed and modulated block of a point. -/
abbrev hidB (t : Fin cfg0.N) : FVec Ideal S512x2048 .bf16 :=
  k0_pay4 (F := Ideal) (iblk m c 0 t) (iblk m c 2 t) (View.ld (iblk m c 1 t) (Rect.unit ![0, 1, 0] ![1, 1, 2048] inb_S1x6x2048_S1x1x2048_0_1_0))
    (View.ld (iblk m c 1 t) (Rect.unit ![0, 0, 0] ![1, 1, 2048] inb_S1x6x2048_S1x1x2048_0_0_0))

theorem hidB_apply (t : Fin cfg0.N) (a : Fin 512) (k : Fin 2048) : hidB m c t (ix2 a k) = hidRow (aX m c) (aAda m c) (aG m c) (rowAt t a) k := by
  have h1 : View.ld (iblk m c 1 t) (Rect.unit ![0, 1, 0] ![1, 1, 2048] inb_S1x6x2048_S1x1x2048_0_1_0) (ix3 0 0 k) = aAda m c (ix3 (batOf (rowAt t a)) 1 k) := by
    rw [← blk1 m c t a 1 k]
    exact congrArg (iblk m c 1 t) (funext fun d => Fin.ext (by
      match d with
      | ⟨0, _⟩ => rfl
      | ⟨1, _⟩ => rfl
      | ⟨2, _⟩ => show 0 + 1 * k.val = k.val; omega))
  have h0 : View.ld (iblk m c 1 t) (Rect.unit ![0, 0, 0] ![1, 1, 2048] inb_S1x6x2048_S1x1x2048_0_0_0) (ix3 0 0 k) = aAda m c (ix3 (batOf (rowAt t a)) 0 k) := by
    rw [← blk1 m c t a 0 k]
    exact congrArg (iblk m c 1 t) (funext fun d => Fin.ext (by
      match d with
      | ⟨0, _⟩ => rfl
      | ⟨1, _⟩ => rfl
      | ⟨2, _⟩ => show 0 + 1 * k.val = k.val; omega))
  refine (pay4_apply _ _ _ _ _).trans ?_
  unfold hidRow
  rw [← h1, ← h0, ← blk2 m c t k, ← funext fun l => blk0 m c t a l]
  rfl

theorem ldW {o n : ℕ} (inb : ∀ a, (![0, o] : Fin 2 → ℕ) a + (![2048, n] : Fin 2 → ℕ) a ≤ S2048x5632.size a) (t : Fin cfg0.N) (k : Fin 2048) (j : Fin n) (h : o + j.val < 5632) :
    View.ld (X0_4 m c t) (Rect.unit ![0, o] ![2048, n] inb) (ix2 k j) = aW m c (ix2 k ⟨o + j.val, by omega⟩) := by
  rw [← blk4 m c t k ⟨o + j.val, h⟩]
  exact congrArg (X0_4 m c t) (funext fun d => Fin.ext (by
      match d with
      | ⟨0, _⟩ => show 0 + 1 * k.val = k.val; omega
      | ⟨1, _⟩ => show o + 1 * j.val = o + j.val; omega))

theorem dotW {o n : ℕ} (inb : ∀ a, (![0, o] : Fin 2 → ℕ) a + (![2048, n] : Fin 2 → ℕ) a ≤ S2048x5632.size a) (t : Fin cfg0.N) (a : Fin 512) (j : Fin n) (h : o + j.val < 5632) :
    (∑ x : Fin 2048, hidB m c t (ix2 a x) * View.ld (X0_4 m c t) (Rect.unit ![0, o] ![2048, n] inb) (ix2 x j) : EReal) = proj m c (rowAt t a) ⟨o + j.val, by omega⟩ := by
  unfold proj projRow
  exact Finset.sum_congr rfl fun x _ => congrArg₂ (fun u v : EReal => u * v) (hidB_apply m c t a x) (ldW m c inb t x j h)

/-- The values' block. -/
theorem blkV (t : Fin cfg0.N) (a : Fin 512) (l : Fin 256) : (outsAt0 m c t.val t.isLt).2.2.2.1 (ix2 a l) = valOut (proj m c) (rowAt t a) l := by
  have key : k0_pay46 (F := Ideal) (hidB m c t) (View.ld (X0_4 m c t) (Rect.unit ![0, 4352] ![2048, 256] inb_S2048x5632_S2048x256_0_4352)) (ix2 a l) = valOut (proj m c) (rowAt t a) l :=
    (pay46_apply _ _ _).trans (dotW m c inb_S2048x5632_S2048x256_0_4352 t a l (by omega))
  by_cases h : t.val % 8 = 0
  · rw [outsAt0_A m c t h]
    dsimp only
    frame_open
    simp (disch := decide) only [↓ View.readCov_skip, ↓ View.readCov_cons_toLoadRect, ↓ View.readCov_fill]
    frame_out
    exact key
  · rw [outsAt0_B m c t h]
    dsimp only
    frame_open
    simp (disch := decide) only [↓ View.readCov_skip, ↓ View.readCov_cons_toLoadRect, ↓ View.readCov_fill]
    frame_out
    exact key

/-- The block of the indexer's weights. -/
theorem blkWi (t : Fin cfg0.N) (a : Fin 512) (l : Fin 128) : (outsAt0 m c t.val t.isLt).2.2.2.2.2.2.1 (ix2 a l) = wiOut (proj m c) (rowAt t a) l := by
  have key : k0_pay3 (F := Ideal) (hidB m c t) (iblk m c 5 t) (ix2 a l) = wiOut (proj m c) (rowAt t a) l := by
    refine (pay3_apply _ _ _).trans ?_
    unfold wiOut
    by_cases h : l.val < 16
    · rw [dif_pos h]
      unfold proj projRow
      exact Finset.sum_congr rfl fun x _ => congrArg₂ (fun u v : EReal => u * v) (hidB_apply m c t a x) ((blk5 m c t x _).trans (tail_wi m c x ⟨128 + l.val, by omega⟩ ⟨l.val, h⟩ rfl))
    · rw [dif_neg h]
      refine Finset.sum_eq_zero fun x _ => ?_
      rw [blk5]
      refine (congrArg (hidB m c t (ix2 a x) * ·) (tail_zero m c x _ ⟨l.val - 16, by omega⟩ (by show 128 + l.val = 144 + (l.val - 16); omega))).trans (mul_zero _)
  by_cases h : t.val % 8 = 0
  · rw [outsAt0_A m c t h]
    dsimp only
    frame_open
    simp (disch := decide) only [↓ View.readCov_skip, ↓ View.readCov_cons_toLoadRect, ↓ View.readCov_fill]
    frame_out
    exact key
  · rw [outsAt0_B m c t h]
    dsimp only
    frame_open
    simp (disch := decide) only [↓ View.readCov_skip, ↓ View.readCov_cons_toLoadRect, ↓ View.readCov_fill]
    frame_out
    exact key

/-- The two tables of the rotation, at a row. -/
theorem cosQ (t : Fin cfg0.N) (a : Fin 512) : (fun l : Fin 128 => k0_pay19 (F := Ideal) (iblk m c 3 t) (iblk m c 8 t) (ix2 a l))
    = fun l => if l.val % 128 < 32 then Ideal.cos (angOf 0x41800000#32 (rowPos (aPs m c) (rowAt t a)) (l.val % 16)) else 1 := funext fun l => by
  unfold angOf
  rw [← blk3 m c t a, ← blk8 m c t l]
  exact qcos_apply _ _ _
theorem sinQ (t : Fin cfg0.N) (a : Fin 512) : (fun l : Fin 128 => k0_pay20 (F := Ideal) (iblk m c 3 t) (iblk m c 8 t) (ix2 a l))
    = fun l => if 16 ≤ l.val % 128 ∧ l.val % 128 < 32 then Ideal.sin (angOf 0x41800000#32 (rowPos (aPs m c) (rowAt t a)) (l.val % 16)) else 0 := funext fun l => by
  unfold angOf
  rw [← blk3 m c t a, ← blk8 m c t l]
  exact qsin_apply _ _ _
theorem msinQ (t : Fin cfg0.N) (a : Fin 512) : (fun l : Fin 128 => k0_pay23 (F := Ideal) k0_pay21 (k0_pay22 (F := Ideal) (iblk m c 3 t) (iblk m c 8 t)) (ix2 a l))
    = fun l => if l.val % 128 < 16 then 0 - Ideal.sin (angOf 0x41800000#32 (rowPos (aPs m c) (rowAt t a)) (l.val % 16)) else 0 := funext fun l => by
  unfold angOf
  rw [← blk3 m c t a, ← blk8 m c t l]
  exact qmsin_apply _ _ _
theorem cosI (t : Fin cfg0.N) (a : Fin 512) : (fun l : Fin 128 => k0_pay27 (F := Ideal) (k0_pay15 (F := Ideal) (iblk m c 3 t)) (iblk m c 9 t) (ix2 a l))
    = fun l => if l.val % 64 < 16 then Ideal.cos (angOf 0x41000000#32 (rowPos (aPs m c) (rowAt t a)) (l.val % 8)) else 1 := funext fun l => by
  unfold angOf
  rw [← blk3 m c t a, ← blk9 m c t l]
  exact icos_apply _ _ _
theorem sinI (t : Fin cfg0.N) (a : Fin 512) : (fun l : Fin 128 => k0_pay28 (F := Ideal) (k0_pay15 (F := Ideal) (iblk m c 3 t)) (iblk m c 9 t) (ix2 a l))
    = fun l => if 8 ≤ l.val % 64 ∧ l.val % 64 < 16 then Ideal.sin (angOf 0x41000000#32 (rowPos (aPs m c) (rowAt t a)) (l.val % 8)) else 0 := funext fun l => by
  unfold angOf
  rw [← blk3 m c t a, ← blk9 m c t l]
  exact isin_apply _ _ _
theorem msinI (t : Fin cfg0.N) (a : Fin 512) : (fun l : Fin 128 => k0_pay29 (F := Ideal) (k0_pay15 (F := Ideal) (iblk m c 3 t)) (iblk m c 9 t) (ix2 a l))
    = fun l => if l.val % 64 < 8 then 0 - Ideal.sin (angOf 0x41000000#32 (rowPos (aPs m c) (rowAt t a)) (l.val % 8)) else 0 := funext fun l => by
  unfold angOf
  rw [← blk3 m c t a, ← blk9 m c t l]
  exact imsin_apply _ _ _

/-- A head's lane of the queries or keys, rotated. -/
theorem ropeQ (t : Fin cfg0.N) (a : Fin 512) (p p' : Fin 128 → EReal) (hp : p = p') (l : Fin 128) :
    rotSum 16 112 p (fun l => k0_pay19 (F := Ideal) (iblk m c 3 t) (iblk m c 8 t) (ix2 a l)) (fun l => k0_pay20 (F := Ideal) (iblk m c 3 t) (iblk m c 8 t) (ix2 a l))
        (fun l => k0_pay23 (F := Ideal) k0_pay21 (k0_pay22 (F := Ideal) (iblk m c 3 t) (iblk m c 8 t)) (ix2 a l)) l
      = ropeLane 128 16 (angOf 0x41800000#32 (rowPos (aPs m c) (rowAt t a))) p' l := by
  subst hp
  rw [cosQ, sinQ, msinQ]
  exact rotSum_q _ _ _

/-- A head's lane of the indexer's queries or keys, rotated. -/
theorem ropeI (t : Fin cfg0.N) (a : Fin 512) (p p' : Fin 128 → EReal) (hp : p = p') (l : Fin 128) :
    rotSum 8 120 p (fun l => k0_pay27 (F := Ideal) (k0_pay15 (F := Ideal) (iblk m c 3 t)) (iblk m c 9 t) (ix2 a l))
        (fun l => k0_pay28 (F := Ideal) (k0_pay15 (F := Ideal) (iblk m c 3 t)) (iblk m c 9 t) (ix2 a l))
        (fun l => k0_pay29 (F := Ideal) (k0_pay15 (F := Ideal) (iblk m c 3 t)) (iblk m c 9 t) (ix2 a l)) l
      = ropeLane 64 8 (angOf 0x41000000#32 (rowPos (aPs m c) (rowAt t a))) p' l := by
  subst hp
  rw [cosI, sinI, msinI]
  exact rotSum_i _ _ _

/-- The columns of a head. -/
theorem colsOf (t : Fin cfg0.N) (a : Fin 512) {o n : ℕ} (inb : ∀ a, (![0, o] : Fin 2 → ℕ) a + (![2048, n] : Fin 2 → ℕ) a ≤ S2048x5632.size a) (P : FVec Ideal ⟨2, ![512, n]⟩ .f32)
    (hP : ∀ j : Fin n, P (ix2 a j) = ∑ x : Fin 2048, hidB m c t (ix2 a x) * View.ld (X0_4 m c t) (Rect.unit ![0, o] ![2048, n] inb) (ix2 x j))
    (hn : o + n ≤ 5632) (f : Fin 128 → Fin n) (g : Fin 128 → Fin 5712) (h : ∀ l, (g l).val = o + (f l).val) :
    (fun l : Fin 128 => P (ix2 a (f l))) = fun l => proj m c (rowAt t a) (g l) := funext fun l => by
  refine (hP (f l)).trans ((dotW m c inb t a (f l) (by have := (f l).isLt; omega)).trans ?_)
  exact congrArg (proj m c (rowAt t a)) (Fin.ext (h l).symm)

/-- A lane of the head in strip `s` of the queries. -/
theorem laneQ (t : Fin cfg0.N) (a : Fin 512) (s : ℕ) (hs : s < 8) (x : Fin 128) (y : EReal) (p : Fin 128 → EReal)
    (hp : p = fun l : Fin 128 => k0_pay30 (F := Ideal) (hidB m c t) (View.ld (X0_4 m c t) (Rect.unit ![0, 3072] ![2048, 1024] inb_S2048x5632_S2048x1024_0_3072)) (ix2 a ⟨128 * s + l.val, by omega⟩))
    (hy : y = rotSum 16 112 p (fun l => k0_pay19 (F := Ideal) (iblk m c 3 t) (iblk m c 8 t) (ix2 a l)) (fun l => k0_pay20 (F := Ideal) (iblk m c 3 t) (iblk m c 8 t) (ix2 a l))
        (fun l => k0_pay23 (F := Ideal) k0_pay21 (k0_pay22 (F := Ideal) (iblk m c 3 t) (iblk m c 8 t)) (ix2 a l)) x * Ideal.ofBits FTy.f32 0x3DB504F3#32)
    (z : Fin 1024) (hz : z.val = 128 * s + x.val) :
    y = qOut (aPs m c) (proj m c) (rowAt t a) z := by
  have hx : (⟨z.val % 128, Nat.mod_lt _ (by omega)⟩ : Fin 128) = x := Fin.ext (by show z.val % 128 = x.val; omega)
  unfold qOut
  rw [hy, hx]
  refine congrArg (· * _) (ropeQ m c t a _ _ (hp.trans (colsOf m c t a inb_S2048x5632_S2048x1024_0_3072 _ (fun j => pay30_apply _ _ _) (by omega) (fun l => ⟨128 * s + l.val, by omega⟩) _ ?_)) x)
  intro l
  show 3072 + (z.val / 128 * 128 + l.val) = 3072 + (128 * s + l.val)
  omega

/-- A lane of the head in strip `s` of the keys. -/
theorem laneK (t : Fin cfg0.N) (a : Fin 512) (s : ℕ) (hs : s < 2) (x : Fin 128) (y : EReal) (p : Fin 128 → EReal)
    (hp : p = fun l : Fin 128 => k0_pay43 (F := Ideal) (hidB m c t) (View.ld (X0_4 m c t) (Rect.unit ![0, 4096] ![2048, 256] inb_S2048x5632_S2048x256_0_4096)) (ix2 a ⟨128 * s + l.val, by omega⟩))
    (hy : y = rotSum 16 112 p (fun l => k0_pay19 (F := Ideal) (iblk m c 3 t) (iblk m c 8 t) (ix2 a l)) (fun l => k0_pay20 (F := Ideal) (iblk m c 3 t) (iblk m c 8 t) (ix2 a l))
        (fun l => k0_pay23 (F := Ideal) k0_pay21 (k0_pay22 (F := Ideal) (iblk m c 3 t) (iblk m c 8 t)) (ix2 a l)) x)
    (z : Fin 256) (hz : z.val = 128 * s + x.val) :
    y = kOut (aPs m c) (proj m c) (rowAt t a) z := by
  have hx : (⟨z.val % 128, Nat.mod_lt _ (by omega)⟩ : Fin 128) = x := Fin.ext (by show z.val % 128 = x.val; omega)
  unfold kOut
  rw [hy, hx]
  refine ropeQ m c t a _ _ (hp.trans (colsOf m c t a inb_S2048x5632_S2048x256_0_4096 _ (fun j => pay43_apply _ _ _) (by omega) (fun l => ⟨128 * s + l.val, by omega⟩) _ ?_)) x
  intro l
  show 4096 + (z.val / 128 * 128 + l.val) = 4096 + (128 * s + l.val)
  omega

/-- A lane of the heads in strip `s` of the indexer's queries. -/
theorem laneI (t : Fin cfg0.N) (a : Fin 512) (s : ℕ) (hs : s < 8) (x : Fin 128) (y : EReal) (p : Fin 128 → EReal)
    (hp : p = fun l : Fin 128 => k0_pay47 (F := Ideal) (hidB m c t) (View.ld (X0_4 m c t) (Rect.unit ![0, 4608] ![2048, 1024] inb_S2048x5632_S2048x1024_0_4608)) (ix2 a ⟨128 * s + l.val, by omega⟩))
    (hy : y = rotSum 8 120 p (fun l => k0_pay27 (F := Ideal) (k0_pay15 (F := Ideal) (iblk m c 3 t)) (iblk m c 9 t) (ix2 a l))
        (fun l => k0_pay28 (F := Ideal) (k0_pay15 (F := Ideal) (iblk m c 3 t)) (iblk m c 9 t) (ix2 a l))
        (fun l => k0_pay29 (F := Ideal) (k0_pay15 (F := Ideal) (iblk m c 3 t)) (iblk m c 9 t) (ix2 a l)) x)
    (z : Fin 1024) (hz : z.val = 128 * s + x.val) :
    y = qiOut (aPs m c) (proj m c) (rowAt t a) z := by
  have hx : (⟨z.val % 128, Nat.mod_lt _ (by omega)⟩ : Fin 128) = x := Fin.ext (by show z.val % 128 = x.val; omega)
  unfold qiOut
  rw [hy, hx]
  refine ropeI m c t a _ _ (hp.trans (colsOf m c t a inb_S2048x5632_S2048x1024_0_4608 _ (fun j => pay47_apply _ _ _) (by omega) (fun l => ⟨128 * s + l.val, by omega⟩) _ ?_)) x
  intro l
  show 4608 + (z.val / 128 * 128 + l.val) = 4608 + (128 * s + l.val)
  omega

/-! The strips of the rotated blocks, one head or pair of heads each. -/

theorem stripQ0 (t : Fin cfg0.N) (a : Fin 512) (x : Fin 128) : k0_pay32 (F := Ideal) (k0_pay31 (F := Ideal) (hidB m c t) (k0_pay19 (F := Ideal) (iblk m c 3 t) (iblk m c 8 t)) (k0_pay20 (F := Ideal) (iblk m c 3 t) (iblk m c 8 t)) k0_pay21 (k0_pay22 (F := Ideal) (iblk m c 3 t) (iblk m c 8 t)) (View.ld (X0_4 m c t) (Rect.unit ![0, 3072] ![2048, 1024] inb_S2048x5632_S2048x1024_0_3072))) (ix2 a x) = qOut (aPs m c) (proj m c) (rowAt t a) ⟨x.val, by omega⟩ :=
  laneQ m c t a 0 (by omega) x _ (fun l : Fin 128 => (k0_pay30 (F := Ideal) (hidB m c t) (View.ld (X0_4 m c t) (Rect.unit ![0, 3072] ![2048, 1024] inb_S2048x5632_S2048x1024_0_3072))) (ix2 a ⟨l.val, by omega⟩)) (funext fun l => congrArg (k0_pay30 (F := Ideal) (hidB m c t) (View.ld (X0_4 m c t) (Rect.unit ![0, 3072] ![2048, 1024] inb_S2048x5632_S2048x1024_0_3072))) (congrArg (ix2 a) (Fin.ext (Nat.zero_add l.val).symm))) (q0_apply (hidB m c t) (View.ld (X0_4 m c t) (Rect.unit ![0, 3072] ![2048, 1024] inb_S2048x5632_S2048x1024_0_3072)) (k0_pay19 (F := Ideal) (iblk m c 3 t) (iblk m c 8 t)) (k0_pay20 (F := Ideal) (iblk m c 3 t) (iblk m c 8 t)) k0_pay21 (k0_pay22 (F := Ideal) (iblk m c 3 t) (iblk m c 8 t)) (ix2 a x)) _ (Nat.zero_add x.val).symm
theorem stripQ1 (t : Fin cfg0.N) (a : Fin 512) (x : Fin 128) : k0_pay33 (F := Ideal) (k0_pay19 (F := Ideal) (iblk m c 3 t) (iblk m c 8 t)) (k0_pay20 (F := Ideal) (iblk m c 3 t) (iblk m c 8 t)) (k0_pay23 (F := Ideal) k0_pay21 (k0_pay22 (F := Ideal) (iblk m c 3 t) (iblk m c 8 t))) (k0_pay30 (F := Ideal) (hidB m c t) (View.ld (X0_4 m c t) (Rect.unit ![0, 3072] ![2048, 1024] inb_S2048x5632_S2048x1024_0_3072))) (ix2 a x) = qOut (aPs m c) (proj m c) (rowAt t a) ⟨128 + x.val, by omega⟩ :=
  laneQ m c t a 1 (by omega) x _ (fun l : Fin 128 => (k0_pay30 (F := Ideal) (hidB m c t) (View.ld (X0_4 m c t) (Rect.unit ![0, 3072] ![2048, 1024] inb_S2048x5632_S2048x1024_0_3072))) (ix2 a ⟨128 + l.val, by omega⟩)) rfl (q1_apply (k0_pay30 (F := Ideal) (hidB m c t) (View.ld (X0_4 m c t) (Rect.unit ![0, 3072] ![2048, 1024] inb_S2048x5632_S2048x1024_0_3072))) (k0_pay19 (F := Ideal) (iblk m c 3 t) (iblk m c 8 t)) (k0_pay20 (F := Ideal) (iblk m c 3 t) (iblk m c 8 t)) (k0_pay23 (F := Ideal) k0_pay21 (k0_pay22 (F := Ideal) (iblk m c 3 t) (iblk m c 8 t))) (ix2 a x)) _ rfl
theorem stripQ2 (t : Fin cfg0.N) (a : Fin 512) (x : Fin 128) : k0_pay34 (F := Ideal) (k0_pay19 (F := Ideal) (iblk m c 3 t) (iblk m c 8 t)) (k0_pay20 (F := Ideal) (iblk m c 3 t) (iblk m c 8 t)) (k0_pay23 (F := Ideal) k0_pay21 (k0_pay22 (F := Ideal) (iblk m c 3 t) (iblk m c 8 t))) (k0_pay30 (F := Ideal) (hidB m c t) (View.ld (X0_4 m c t) (Rect.unit ![0, 3072] ![2048, 1024] inb_S2048x5632_S2048x1024_0_3072))) (ix2 a x) = qOut (aPs m c) (proj m c) (rowAt t a) ⟨256 + x.val, by omega⟩ :=
  laneQ m c t a 2 (by omega) x _ (fun l : Fin 128 => (k0_pay30 (F := Ideal) (hidB m c t) (View.ld (X0_4 m c t) (Rect.unit ![0, 3072] ![2048, 1024] inb_S2048x5632_S2048x1024_0_3072))) (ix2 a ⟨256 + l.val, by omega⟩)) rfl (q2_apply (k0_pay30 (F := Ideal) (hidB m c t) (View.ld (X0_4 m c t) (Rect.unit ![0, 3072] ![2048, 1024] inb_S2048x5632_S2048x1024_0_3072))) (k0_pay19 (F := Ideal) (iblk m c 3 t) (iblk m c 8 t)) (k0_pay20 (F := Ideal) (iblk m c 3 t) (iblk m c 8 t)) (k0_pay23 (F := Ideal) k0_pay21 (k0_pay22 (F := Ideal) (iblk m c 3 t) (iblk m c 8 t))) (ix2 a x)) _ rfl
theorem stripQ3 (t : Fin cfg0.N) (a : Fin 512) (x : Fin 128) : k0_pay35 (F := Ideal) (k0_pay19 (F := Ideal) (iblk m c 3 t) (iblk m c 8 t)) (k0_pay20 (F := Ideal) (iblk m c 3 t) (iblk m c 8 t)) (k0_pay23 (F := Ideal) k0_pay21 (k0_pay22 (F := Ideal) (iblk m c 3 t) (iblk m c 8 t))) (k0_pay30 (F := Ideal) (hidB m c t) (View.ld (X0_4 m c t) (Rect.unit ![0, 3072] ![2048, 1024] inb_S2048x5632_S2048x1024_0_3072))) (ix2 a x) = qOut (aPs m c) (proj m c) (rowAt t a) ⟨384 + x.val, by omega⟩ :=
  laneQ m c t a 3 (by omega) x _ (fun l : Fin 128 => (k0_pay30 (F := Ideal) (hidB m c t) (View.ld (X0_4 m c t) (Rect.unit ![0, 3072] ![2048, 1024] inb_S2048x5632_S2048x1024_0_3072))) (ix2 a ⟨384 + l.val, by omega⟩)) rfl (q3_apply (k0_pay30 (F := Ideal) (hidB m c t) (View.ld (X0_4 m c t) (Rect.unit ![0, 3072] ![2048, 1024] inb_S2048x5632_S2048x1024_0_3072))) (k0_pay19 (F := Ideal) (iblk m c 3 t) (iblk m c 8 t)) (k0_pay20 (F := Ideal) (iblk m c 3 t) (iblk m c 8 t)) (k0_pay23 (F := Ideal) k0_pay21 (k0_pay22 (F := Ideal) (iblk m c 3 t) (iblk m c 8 t))) (ix2 a x)) _ rfl
theorem stripQ4 (t : Fin cfg0.N) (a : Fin 512) (x : Fin 128) : k0_pay37 (F := Ideal) (k0_pay19 (F := Ideal) (iblk m c 3 t) (iblk m c 8 t)) (k0_pay20 (F := Ideal) (iblk m c 3 t) (iblk m c 8 t)) (k0_pay23 (F := Ideal) k0_pay21 (k0_pay22 (F := Ideal) (iblk m c 3 t) (iblk m c 8 t))) (k0_pay36 (F := Ideal) (k0_pay30 (F := Ideal) (hidB m c t) (View.ld (X0_4 m c t) (Rect.unit ![0, 3072] ![2048, 1024] inb_S2048x5632_S2048x1024_0_3072)))) (ix2 a x) = qOut (aPs m c) (proj m c) (rowAt t a) ⟨512 + x.val, by omega⟩ :=
  laneQ m c t a 4 (by omega) x _ (fun l : Fin 128 => (k0_pay30 (F := Ideal) (hidB m c t) (View.ld (X0_4 m c t) (Rect.unit ![0, 3072] ![2048, 1024] inb_S2048x5632_S2048x1024_0_3072))) (ix2 a ⟨512 + l.val, by omega⟩)) rfl (q4_apply (k0_pay30 (F := Ideal) (hidB m c t) (View.ld (X0_4 m c t) (Rect.unit ![0, 3072] ![2048, 1024] inb_S2048x5632_S2048x1024_0_3072))) (k0_pay19 (F := Ideal) (iblk m c 3 t) (iblk m c 8 t)) (k0_pay20 (F := Ideal) (iblk m c 3 t) (iblk m c 8 t)) (k0_pay23 (F := Ideal) k0_pay21 (k0_pay22 (F := Ideal) (iblk m c 3 t) (iblk m c 8 t))) (ix2 a x)) _ rfl
theorem stripQ5 (t : Fin cfg0.N) (a : Fin 512) (x : Fin 128) : k0_pay38 (F := Ideal) (k0_pay19 (F := Ideal) (iblk m c 3 t) (iblk m c 8 t)) (k0_pay20 (F := Ideal) (iblk m c 3 t) (iblk m c 8 t)) (k0_pay23 (F := Ideal) k0_pay21 (k0_pay22 (F := Ideal) (iblk m c 3 t) (iblk m c 8 t))) (k0_pay30 (F := Ideal) (hidB m c t) (View.ld (X0_4 m c t) (Rect.unit ![0, 3072] ![2048, 1024] inb_S2048x5632_S2048x1024_0_3072))) (ix2 a x) = qOut (aPs m c) (proj m c) (rowAt t a) ⟨640 + x.val, by omega⟩ :=
  laneQ m c t a 5 (by omega) x _ (fun l : Fin 128 => (k0_pay30 (F := Ideal) (hidB m c t) (View.ld (X0_4 m c t) (Rect.unit ![0, 3072] ![2048, 1024] inb_S2048x5632_S2048x1024_0_3072))) (ix2 a ⟨640 + l.val, by omega⟩)) rfl (q5_apply (k0_pay30 (F := Ideal) (hidB m c t) (View.ld (X0_4 m c t) (Rect.unit ![0, 3072] ![2048, 1024] inb_S2048x5632_S2048x1024_0_3072))) (k0_pay19 (F := Ideal) (iblk m c 3 t) (iblk m c 8 t)) (k0_pay20 (F := Ideal) (iblk m c 3 t) (iblk m c 8 t)) (k0_pay23 (F := Ideal) k0_pay21 (k0_pay22 (F := Ideal) (iblk m c 3 t) (iblk m c 8 t))) (ix2 a x)) _ rfl
theorem stripQ6 (t : Fin cfg0.N) (a : Fin 512) (x : Fin 128) : k0_pay39 (F := Ideal) (k0_pay19 (F := Ideal) (iblk m c 3 t) (iblk m c 8 t)) (k0_pay20 (F := Ideal) (iblk m c 3 t) (iblk m c 8 t)) (k0_pay23 (F := Ideal) k0_pay21 (k0_pay22 (F := Ideal) (iblk m c 3 t) (iblk m c 8 t))) (k0_pay30 (F := Ideal) (hidB m c t) (View.ld (X0_4 m c t) (Rect.unit ![0, 3072] ![2048, 1024] inb_S2048x5632_S2048x1024_0_3072))) (ix2 a x) = qOut (aPs m c) (proj m c) (rowAt t a) ⟨768 + x.val, by omega⟩ :=
  laneQ m c t a 6 (by omega) x _ (fun l : Fin 128 => (k0_pay30 (F := Ideal) (hidB m c t) (View.ld (X0_4 m c t) (Rect.unit ![0, 3072] ![2048, 1024] inb_S2048x5632_S2048x1024_0_3072))) (ix2 a ⟨768 + l.val, by omega⟩)) rfl (q6_apply (k0_pay30 (F := Ideal) (hidB m c t) (View.ld (X0_4 m c t) (Rect.unit ![0, 3072] ![2048, 1024] inb_S2048x5632_S2048x1024_0_3072))) (k0_pay19 (F := Ideal) (iblk m c 3 t) (iblk m c 8 t)) (k0_pay20 (F := Ideal) (iblk m c 3 t) (iblk m c 8 t)) (k0_pay23 (F := Ideal) k0_pay21 (k0_pay22 (F := Ideal) (iblk m c 3 t) (iblk m c 8 t))) (ix2 a x)) _ rfl
theorem stripQ7 (t : Fin cfg0.N) (a : Fin 512) (x : Fin 128) : k0_pay42 (F := Ideal) (k0_pay23 (F := Ideal) k0_pay21 (k0_pay22 (F := Ideal) (iblk m c 3 t) (iblk m c 8 t))) (k0_pay40 (F := Ideal) (k0_pay30 (F := Ideal) (hidB m c t) (View.ld (X0_4 m c t) (Rect.unit ![0, 3072] ![2048, 1024] inb_S2048x5632_S2048x1024_0_3072)))) (k0_pay41 (F := Ideal) (k0_pay19 (F := Ideal) (iblk m c 3 t) (iblk m c 8 t)) (k0_pay20 (F := Ideal) (iblk m c 3 t) (iblk m c 8 t)) (k0_pay30 (F := Ideal) (hidB m c t) (View.ld (X0_4 m c t) (Rect.unit ![0, 3072] ![2048, 1024] inb_S2048x5632_S2048x1024_0_3072)))) 112#32 (ix2 a x) = qOut (aPs m c) (proj m c) (rowAt t a) ⟨896 + x.val, by omega⟩ :=
  laneQ m c t a 7 (by omega) x _ (fun l : Fin 128 => (k0_pay30 (F := Ideal) (hidB m c t) (View.ld (X0_4 m c t) (Rect.unit ![0, 3072] ![2048, 1024] inb_S2048x5632_S2048x1024_0_3072))) (ix2 a ⟨896 + l.val, by omega⟩)) rfl (q7_apply (k0_pay30 (F := Ideal) (hidB m c t) (View.ld (X0_4 m c t) (Rect.unit ![0, 3072] ![2048, 1024] inb_S2048x5632_S2048x1024_0_3072))) (k0_pay19 (F := Ideal) (iblk m c 3 t) (iblk m c 8 t)) (k0_pay20 (F := Ideal) (iblk m c 3 t) (iblk m c 8 t)) (k0_pay23 (F := Ideal) k0_pay21 (k0_pay22 (F := Ideal) (iblk m c 3 t) (iblk m c 8 t))) (ix2 a x)) _ rfl
theorem stripK0 (t : Fin cfg0.N) (a : Fin 512) (x : Fin 128) : k0_pay44 (F := Ideal) (hidB m c t) (k0_pay19 (F := Ideal) (iblk m c 3 t) (iblk m c 8 t)) (k0_pay20 (F := Ideal) (iblk m c 3 t) (iblk m c 8 t)) (k0_pay23 (F := Ideal) k0_pay21 (k0_pay22 (F := Ideal) (iblk m c 3 t) (iblk m c 8 t))) (View.ld (X0_4 m c t) (Rect.unit ![0, 4096] ![2048, 256] inb_S2048x5632_S2048x256_0_4096)) (ix2 a x) = kOut (aPs m c) (proj m c) (rowAt t a) ⟨x.val, by omega⟩ :=
  laneK m c t a 0 (by omega) x _ (fun l : Fin 128 => (k0_pay43 (F := Ideal) (hidB m c t) (View.ld (X0_4 m c t) (Rect.unit ![0, 4096] ![2048, 256] inb_S2048x5632_S2048x256_0_4096))) (ix2 a ⟨l.val, by omega⟩)) (funext fun l => congrArg (k0_pay43 (F := Ideal) (hidB m c t) (View.ld (X0_4 m c t) (Rect.unit ![0, 4096] ![2048, 256] inb_S2048x5632_S2048x256_0_4096))) (congrArg (ix2 a) (Fin.ext (Nat.zero_add l.val).symm))) (k0_apply (hidB m c t) (View.ld (X0_4 m c t) (Rect.unit ![0, 4096] ![2048, 256] inb_S2048x5632_S2048x256_0_4096)) (k0_pay19 (F := Ideal) (iblk m c 3 t) (iblk m c 8 t)) (k0_pay20 (F := Ideal) (iblk m c 3 t) (iblk m c 8 t)) (k0_pay23 (F := Ideal) k0_pay21 (k0_pay22 (F := Ideal) (iblk m c 3 t) (iblk m c 8 t))) (ix2 a x)) _ (Nat.zero_add x.val).symm
theorem stripK1 (t : Fin cfg0.N) (a : Fin 512) (x : Fin 128) : k0_pay45 (F := Ideal) (hidB m c t) (k0_pay19 (F := Ideal) (iblk m c 3 t) (iblk m c 8 t)) (k0_pay20 (F := Ideal) (iblk m c 3 t) (iblk m c 8 t)) (k0_pay23 (F := Ideal) k0_pay21 (k0_pay22 (F := Ideal) (iblk m c 3 t) (iblk m c 8 t))) (View.ld (X0_4 m c t) (Rect.unit ![0, 4096] ![2048, 256] inb_S2048x5632_S2048x256_0_4096)) (ix2 a x) = kOut (aPs m c) (proj m c) (rowAt t a) ⟨128 + x.val, by omega⟩ :=
  laneK m c t a 1 (by omega) x _ (fun l : Fin 128 => (k0_pay43 (F := Ideal) (hidB m c t) (View.ld (X0_4 m c t) (Rect.unit ![0, 4096] ![2048, 256] inb_S2048x5632_S2048x256_0_4096))) (ix2 a ⟨128 + l.val, by omega⟩)) rfl (k1_apply (hidB m c t) (View.ld (X0_4 m c t) (Rect.unit ![0, 4096] ![2048, 256] inb_S2048x5632_S2048x256_0_4096)) (k0_pay19 (F := Ideal) (iblk m c 3 t) (iblk m c 8 t)) (k0_pay20 (F := Ideal) (iblk m c 3 t) (iblk m c 8 t)) (k0_pay23 (F := Ideal) k0_pay21 (k0_pay22 (F := Ideal) (iblk m c 3 t) (iblk m c 8 t))) (ix2 a x)) _ rfl
theorem stripI0 (t : Fin cfg0.N) (a : Fin 512) (x : Fin 128) : k0_pay48 (F := Ideal) (hidB m c t) (k0_pay27 (F := Ideal) (k0_pay15 (F := Ideal) (iblk m c 3 t)) (iblk m c 9 t)) (k0_pay28 (F := Ideal) (k0_pay15 (F := Ideal) (iblk m c 3 t)) (iblk m c 9 t)) (k0_pay29 (F := Ideal) (k0_pay15 (F := Ideal) (iblk m c 3 t)) (iblk m c 9 t)) (View.ld (X0_4 m c t) (Rect.unit ![0, 4608] ![2048, 1024] inb_S2048x5632_S2048x1024_0_4608)) (ix2 a x) = qiOut (aPs m c) (proj m c) (rowAt t a) ⟨x.val, by omega⟩ :=
  laneI m c t a 0 (by omega) x _ (fun l : Fin 128 => (k0_pay47 (F := Ideal) (hidB m c t) (View.ld (X0_4 m c t) (Rect.unit ![0, 4608] ![2048, 1024] inb_S2048x5632_S2048x1024_0_4608))) (ix2 a ⟨l.val, by omega⟩)) (funext fun l => congrArg (k0_pay47 (F := Ideal) (hidB m c t) (View.ld (X0_4 m c t) (Rect.unit ![0, 4608] ![2048, 1024] inb_S2048x5632_S2048x1024_0_4608))) (congrArg (ix2 a) (Fin.ext (Nat.zero_add l.val).symm))) (i0_apply (hidB m c t) (View.ld (X0_4 m c t) (Rect.unit ![0, 4608] ![2048, 1024] inb_S2048x5632_S2048x1024_0_4608)) (k0_pay27 (F := Ideal) (k0_pay15 (F := Ideal) (iblk m c 3 t)) (iblk m c 9 t)) (k0_pay28 (F := Ideal) (k0_pay15 (F := Ideal) (iblk m c 3 t)) (iblk m c 9 t)) (k0_pay29 (F := Ideal) (k0_pay15 (F := Ideal) (iblk m c 3 t)) (iblk m c 9 t)) (ix2 a x)) _ (Nat.zero_add x.val).symm
theorem stripI1 (t : Fin cfg0.N) (a : Fin 512) (x : Fin 128) : k0_pay49 (F := Ideal) (hidB m c t) (k0_pay27 (F := Ideal) (k0_pay15 (F := Ideal) (iblk m c 3 t)) (iblk m c 9 t)) (k0_pay28 (F := Ideal) (k0_pay15 (F := Ideal) (iblk m c 3 t)) (iblk m c 9 t)) (k0_pay29 (F := Ideal) (k0_pay15 (F := Ideal) (iblk m c 3 t)) (iblk m c 9 t)) (View.ld (X0_4 m c t) (Rect.unit ![0, 4608] ![2048, 1024] inb_S2048x5632_S2048x1024_0_4608)) (ix2 a x) = qiOut (aPs m c) (proj m c) (rowAt t a) ⟨128 + x.val, by omega⟩ :=
  laneI m c t a 1 (by omega) x _ (fun l : Fin 128 => (k0_pay47 (F := Ideal) (hidB m c t) (View.ld (X0_4 m c t) (Rect.unit ![0, 4608] ![2048, 1024] inb_S2048x5632_S2048x1024_0_4608))) (ix2 a ⟨128 + l.val, by omega⟩)) rfl (i1_apply (hidB m c t) (View.ld (X0_4 m c t) (Rect.unit ![0, 4608] ![2048, 1024] inb_S2048x5632_S2048x1024_0_4608)) (k0_pay27 (F := Ideal) (k0_pay15 (F := Ideal) (iblk m c 3 t)) (iblk m c 9 t)) (k0_pay28 (F := Ideal) (k0_pay15 (F := Ideal) (iblk m c 3 t)) (iblk m c 9 t)) (k0_pay29 (F := Ideal) (k0_pay15 (F := Ideal) (iblk m c 3 t)) (iblk m c 9 t)) (ix2 a x)) _ rfl
theorem stripI2 (t : Fin cfg0.N) (a : Fin 512) (x : Fin 128) : k0_pay50 (F := Ideal) (hidB m c t) (k0_pay27 (F := Ideal) (k0_pay15 (F := Ideal) (iblk m c 3 t)) (iblk m c 9 t)) (k0_pay28 (F := Ideal) (k0_pay15 (F := Ideal) (iblk m c 3 t)) (iblk m c 9 t)) (k0_pay29 (F := Ideal) (k0_pay15 (F := Ideal) (iblk m c 3 t)) (iblk m c 9 t)) (View.ld (X0_4 m c t) (Rect.unit ![0, 4608] ![2048, 1024] inb_S2048x5632_S2048x1024_0_4608)) (ix2 a x) = qiOut (aPs m c) (proj m c) (rowAt t a) ⟨256 + x.val, by omega⟩ :=
  laneI m c t a 2 (by omega) x _ (fun l : Fin 128 => (k0_pay47 (F := Ideal) (hidB m c t) (View.ld (X0_4 m c t) (Rect.unit ![0, 4608] ![2048, 1024] inb_S2048x5632_S2048x1024_0_4608))) (ix2 a ⟨256 + l.val, by omega⟩)) rfl (i2_apply (hidB m c t) (View.ld (X0_4 m c t) (Rect.unit ![0, 4608] ![2048, 1024] inb_S2048x5632_S2048x1024_0_4608)) (k0_pay27 (F := Ideal) (k0_pay15 (F := Ideal) (iblk m c 3 t)) (iblk m c 9 t)) (k0_pay28 (F := Ideal) (k0_pay15 (F := Ideal) (iblk m c 3 t)) (iblk m c 9 t)) (k0_pay29 (F := Ideal) (k0_pay15 (F := Ideal) (iblk m c 3 t)) (iblk m c 9 t)) (ix2 a x)) _ rfl
theorem stripI3 (t : Fin cfg0.N) (a : Fin 512) (x : Fin 128) : k0_pay51 (F := Ideal) (hidB m c t) (k0_pay27 (F := Ideal) (k0_pay15 (F := Ideal) (iblk m c 3 t)) (iblk m c 9 t)) (k0_pay28 (F := Ideal) (k0_pay15 (F := Ideal) (iblk m c 3 t)) (iblk m c 9 t)) (k0_pay29 (F := Ideal) (k0_pay15 (F := Ideal) (iblk m c 3 t)) (iblk m c 9 t)) (View.ld (X0_4 m c t) (Rect.unit ![0, 4608] ![2048, 1024] inb_S2048x5632_S2048x1024_0_4608)) (ix2 a x) = qiOut (aPs m c) (proj m c) (rowAt t a) ⟨384 + x.val, by omega⟩ :=
  laneI m c t a 3 (by omega) x _ (fun l : Fin 128 => (k0_pay47 (F := Ideal) (hidB m c t) (View.ld (X0_4 m c t) (Rect.unit ![0, 4608] ![2048, 1024] inb_S2048x5632_S2048x1024_0_4608))) (ix2 a ⟨384 + l.val, by omega⟩)) rfl (i3_apply (hidB m c t) (View.ld (X0_4 m c t) (Rect.unit ![0, 4608] ![2048, 1024] inb_S2048x5632_S2048x1024_0_4608)) (k0_pay27 (F := Ideal) (k0_pay15 (F := Ideal) (iblk m c 3 t)) (iblk m c 9 t)) (k0_pay28 (F := Ideal) (k0_pay15 (F := Ideal) (iblk m c 3 t)) (iblk m c 9 t)) (k0_pay29 (F := Ideal) (k0_pay15 (F := Ideal) (iblk m c 3 t)) (iblk m c 9 t)) (ix2 a x)) _ rfl
theorem stripI4 (t : Fin cfg0.N) (a : Fin 512) (x : Fin 128) : k0_pay52 (F := Ideal) (k0_pay27 (F := Ideal) (k0_pay15 (F := Ideal) (iblk m c 3 t)) (iblk m c 9 t)) (k0_pay28 (F := Ideal) (k0_pay15 (F := Ideal) (iblk m c 3 t)) (iblk m c 9 t)) (k0_pay29 (F := Ideal) (k0_pay15 (F := Ideal) (iblk m c 3 t)) (iblk m c 9 t)) (k0_pay47 (F := Ideal) (hidB m c t) (View.ld (X0_4 m c t) (Rect.unit ![0, 4608] ![2048, 1024] inb_S2048x5632_S2048x1024_0_4608))) (ix2 a x) = qiOut (aPs m c) (proj m c) (rowAt t a) ⟨512 + x.val, by omega⟩ :=
  laneI m c t a 4 (by omega) x _ (fun l : Fin 128 => (k0_pay47 (F := Ideal) (hidB m c t) (View.ld (X0_4 m c t) (Rect.unit ![0, 4608] ![2048, 1024] inb_S2048x5632_S2048x1024_0_4608))) (ix2 a ⟨512 + l.val, by omega⟩)) rfl (i4_apply (k0_pay47 (F := Ideal) (hidB m c t) (View.ld (X0_4 m c t) (Rect.unit ![0, 4608] ![2048, 1024] inb_S2048x5632_S2048x1024_0_4608))) (k0_pay27 (F := Ideal) (k0_pay15 (F := Ideal) (iblk m c 3 t)) (iblk m c 9 t)) (k0_pay28 (F := Ideal) (k0_pay15 (F := Ideal) (iblk m c 3 t)) (iblk m c 9 t)) (k0_pay29 (F := Ideal) (k0_pay15 (F := Ideal) (iblk m c 3 t)) (iblk m c 9 t)) (ix2 a x)) _ rfl
theorem stripI5 (t : Fin cfg0.N) (a : Fin 512) (x : Fin 128) : k0_pay53 (F := Ideal) (k0_pay27 (F := Ideal) (k0_pay15 (F := Ideal) (iblk m c 3 t)) (iblk m c 9 t)) (k0_pay28 (F := Ideal) (k0_pay15 (F := Ideal) (iblk m c 3 t)) (iblk m c 9 t)) (k0_pay29 (F := Ideal) (k0_pay15 (F := Ideal) (iblk m c 3 t)) (iblk m c 9 t)) (k0_pay47 (F := Ideal) (hidB m c t) (View.ld (X0_4 m c t) (Rect.unit ![0, 4608] ![2048, 1024] inb_S2048x5632_S2048x1024_0_4608))) (ix2 a x) = qiOut (aPs m c) (proj m c) (rowAt t a) ⟨640 + x.val, by omega⟩ :=
  laneI m c t a 5 (by omega) x _ (fun l : Fin 128 => (k0_pay47 (F := Ideal) (hidB m c t) (View.ld (X0_4 m c t) (Rect.unit ![0, 4608] ![2048, 1024] inb_S2048x5632_S2048x1024_0_4608))) (ix2 a ⟨640 + l.val, by omega⟩)) rfl (i5_apply (k0_pay47 (F := Ideal) (hidB m c t) (View.ld (X0_4 m c t) (Rect.unit ![0, 4608] ![2048, 1024] inb_S2048x5632_S2048x1024_0_4608))) (k0_pay27 (F := Ideal) (k0_pay15 (F := Ideal) (iblk m c 3 t)) (iblk m c 9 t)) (k0_pay28 (F := Ideal) (k0_pay15 (F := Ideal) (iblk m c 3 t)) (iblk m c 9 t)) (k0_pay29 (F := Ideal) (k0_pay15 (F := Ideal) (iblk m c 3 t)) (iblk m c 9 t)) (ix2 a x)) _ rfl
theorem stripI6 (t : Fin cfg0.N) (a : Fin 512) (x : Fin 128) : k0_pay54 (F := Ideal) (k0_pay27 (F := Ideal) (k0_pay15 (F := Ideal) (iblk m c 3 t)) (iblk m c 9 t)) (k0_pay28 (F := Ideal) (k0_pay15 (F := Ideal) (iblk m c 3 t)) (iblk m c 9 t)) (k0_pay29 (F := Ideal) (k0_pay15 (F := Ideal) (iblk m c 3 t)) (iblk m c 9 t)) (k0_pay47 (F := Ideal) (hidB m c t) (View.ld (X0_4 m c t) (Rect.unit ![0, 4608] ![2048, 1024] inb_S2048x5632_S2048x1024_0_4608))) (ix2 a x) = qiOut (aPs m c) (proj m c) (rowAt t a) ⟨768 + x.val, by omega⟩ :=
  laneI m c t a 6 (by omega) x _ (fun l : Fin 128 => (k0_pay47 (F := Ideal) (hidB m c t) (View.ld (X0_4 m c t) (Rect.unit ![0, 4608] ![2048, 1024] inb_S2048x5632_S2048x1024_0_4608))) (ix2 a ⟨768 + l.val, by omega⟩)) rfl (i6_apply (k0_pay47 (F := Ideal) (hidB m c t) (View.ld (X0_4 m c t) (Rect.unit ![0, 4608] ![2048, 1024] inb_S2048x5632_S2048x1024_0_4608))) (k0_pay27 (F := Ideal) (k0_pay15 (F := Ideal) (iblk m c 3 t)) (iblk m c 9 t)) (k0_pay28 (F := Ideal) (k0_pay15 (F := Ideal) (iblk m c 3 t)) (iblk m c 9 t)) (k0_pay29 (F := Ideal) (k0_pay15 (F := Ideal) (iblk m c 3 t)) (iblk m c 9 t)) (ix2 a x)) _ rfl
theorem stripI7 (t : Fin cfg0.N) (a : Fin 512) (x : Fin 128) : k0_pay55 (F := Ideal) (k0_pay27 (F := Ideal) (k0_pay15 (F := Ideal) (iblk m c 3 t)) (iblk m c 9 t)) (k0_pay28 (F := Ideal) (k0_pay15 (F := Ideal) (iblk m c 3 t)) (iblk m c 9 t)) (k0_pay29 (F := Ideal) (k0_pay15 (F := Ideal) (iblk m c 3 t)) (iblk m c 9 t)) (k0_pay47 (F := Ideal) (hidB m c t) (View.ld (X0_4 m c t) (Rect.unit ![0, 4608] ![2048, 1024] inb_S2048x5632_S2048x1024_0_4608))) (ix2 a x) = qiOut (aPs m c) (proj m c) (rowAt t a) ⟨896 + x.val, by omega⟩ :=
  laneI m c t a 7 (by omega) x _ (fun l : Fin 128 => (k0_pay47 (F := Ideal) (hidB m c t) (View.ld (X0_4 m c t) (Rect.unit ![0, 4608] ![2048, 1024] inb_S2048x5632_S2048x1024_0_4608))) (ix2 a ⟨896 + l.val, by omega⟩)) rfl (i7_apply (k0_pay47 (F := Ideal) (hidB m c t) (View.ld (X0_4 m c t) (Rect.unit ![0, 4608] ![2048, 1024] inb_S2048x5632_S2048x1024_0_4608))) (k0_pay27 (F := Ideal) (k0_pay15 (F := Ideal) (iblk m c 3 t)) (iblk m c 9 t)) (k0_pay28 (F := Ideal) (k0_pay15 (F := Ideal) (iblk m c 3 t)) (iblk m c 9 t)) (k0_pay29 (F := Ideal) (k0_pay15 (F := Ideal) (iblk m c 3 t)) (iblk m c 9 t)) (ix2 a x)) _ rfl

/-- The queries' block. -/
theorem blkQ (t : Fin cfg0.N) (a : Fin 512) (l : Fin 1024) : (outsAt0 m c t.val t.isLt).2.1 (ix2 a l) = qOut (aPs m c) (proj m c) (rowAt t a) l := by
  by_cases h : t.val % 8 = 0
  · rw [outsAt0_A m c t h]
    dsimp only
    frame_open
    simp (disch := decide) only [↓ View.readCov_skip, ↓ View.readCov_cons_toLoadRect, ↓ View.readCov_fill]
    frame_out
    exact canon_eight (Val := Elt Ideal) (e := EltTy.bf16) (fun a l => qOut (aPs m c) (proj m c) (rowAt t a) l) _ _ _ _ _ _ _ _ _ _ _ _ _ _ _ _ (stripQ0 m c t) (stripQ1 m c t) (stripQ2 m c t) (stripQ3 m c t) (stripQ4 m c t) (stripQ5 m c t) (stripQ6 m c t) (stripQ7 m c t) a l
  · rw [outsAt0_B m c t h]
    dsimp only
    frame_open
    simp (disch := decide) only [↓ View.readCov_skip, ↓ View.readCov_cons_toLoadRect, ↓ View.readCov_fill]
    frame_out
    exact canon_eight (Val := Elt Ideal) (e := EltTy.bf16) (fun a l => qOut (aPs m c) (proj m c) (rowAt t a) l) _ _ _ _ _ _ _ _ _ _ _ _ _ _ _ _ (stripQ0 m c t) (stripQ1 m c t) (stripQ2 m c t) (stripQ3 m c t) (stripQ4 m c t) (stripQ5 m c t) (stripQ6 m c t) (stripQ7 m c t) a l

/-- The keys' block. -/
theorem blkK (t : Fin cfg0.N) (a : Fin 512) (l : Fin 256) : (outsAt0 m c t.val t.isLt).2.2.1 (ix2 a l) = kOut (aPs m c) (proj m c) (rowAt t a) l := by
  by_cases h : t.val % 8 = 0
  · rw [outsAt0_A m c t h]
    dsimp only
    frame_open
    simp (disch := decide) only [↓ View.readCov_skip, ↓ View.readCov_cons_toLoadRect, ↓ View.readCov_fill]
    frame_out
    by_cases hl : 128 ≤ l.val
    · refine (canon_hit inb_S512x256_S512x128_0_128 _ _ a l a ⟨l.val - 128, by omega⟩ (Nat.zero_add _).symm (by show l.val = 128 + (l.val - 128); omega)).trans ?_
      refine (stripK1 m c t a ⟨l.val - 128, by omega⟩).trans (congrArg (kOut (aPs m c) (proj m c) (rowAt t a)) (Fin.ext ?_))
      show 128 + (l.val - 128) = l.val
      omega
    · refine (canon_miss inb_S512x256_S512x128_0_128 _ _ a l (by omega)).trans ?_
      refine (canon_hit inb_S512x256_S512x128_0_0 _ _ a l a ⟨l.val, by omega⟩ (Nat.zero_add _).symm (Nat.zero_add _).symm).trans ?_
      exact stripK0 m c t a ⟨l.val, by omega⟩
  · rw [outsAt0_B m c t h]
    dsimp only
    frame_open
    simp (disch := decide) only [↓ View.readCov_skip, ↓ View.readCov_cons_toLoadRect, ↓ View.readCov_fill]
    frame_out
    by_cases hl : 128 ≤ l.val
    · refine (canon_hit inb_S512x256_S512x128_0_128 _ _ a l a ⟨l.val - 128, by omega⟩ (Nat.zero_add _).symm (by show l.val = 128 + (l.val - 128); omega)).trans ?_
      refine (stripK1 m c t a ⟨l.val - 128, by omega⟩).trans (congrArg (kOut (aPs m c) (proj m c) (rowAt t a)) (Fin.ext ?_))
      show 128 + (l.val - 128) = l.val
      omega
    · refine (canon_miss inb_S512x256_S512x128_0_128 _ _ a l (by omega)).trans ?_
      refine (canon_hit inb_S512x256_S512x128_0_0 _ _ a l a ⟨l.val, by omega⟩ (Nat.zero_add _).symm (Nat.zero_add _).symm).trans ?_
      exact stripK0 m c t a ⟨l.val, by omega⟩

/-- The block of the indexer's queries. -/
theorem blkQi (t : Fin cfg0.N) (a : Fin 512) (l : Fin 1024) : (outsAt0 m c t.val t.isLt).2.2.2.2.1 (ix2 a l) = qiOut (aPs m c) (proj m c) (rowAt t a) l := by
  by_cases h : t.val % 8 = 0
  · rw [outsAt0_A m c t h]
    dsimp only
    frame_open
    simp (disch := decide) only [↓ View.readCov_skip, ↓ View.readCov_cons_toLoadRect, ↓ View.readCov_fill]
    frame_out
    exact canon_eight (Val := Elt Ideal) (e := EltTy.bf16) (fun a l => qiOut (aPs m c) (proj m c) (rowAt t a) l) _ _ _ _ _ _ _ _ _ _ _ _ _ _ _ _ (stripI0 m c t) (stripI1 m c t) (stripI2 m c t) (stripI3 m c t) (stripI4 m c t) (stripI5 m c t) (stripI6 m c t) (stripI7 m c t) a l
  · rw [outsAt0_B m c t h]
    dsimp only
    frame_open
    simp (disch := decide) only [↓ View.readCov_skip, ↓ View.readCov_cons_toLoadRect, ↓ View.readCov_fill]
    frame_out
    exact canon_eight (Val := Elt Ideal) (e := EltTy.bf16) (fun a l => qiOut (aPs m c) (proj m c) (rowAt t a) l) _ _ _ _ _ _ _ _ _ _ _ _ _ _ _ _ (stripI0 m c t) (stripI1 m c t) (stripI2 m c t) (stripI3 m c t) (stripI4 m c t) (stripI5 m c t) (stripI6 m c t) (stripI7 m c t) a l

/-- The block of the indexer's keys. -/
theorem blkKi (t : Fin cfg0.N) (a : Fin 512) (l : Fin 128) : (outsAt0 m c t.val t.isLt).2.2.2.2.2.1 (ix2 a l) = kiOut (aPs m c) (proj m c) (rowAt t a) l := by
  have hp : (fun l : Fin 128 => k0_pay1 (F := Ideal) (hidB m c t) (iblk m c 5 t) (ix2 a ⟨l.val, by omega⟩)) = fun l => proj m c (rowAt t a) ⟨5632 + l.val % 64, by omega⟩ := funext fun l => by
    refine (pay1_apply _ _ _).trans ?_
    unfold proj projRow
    exact Finset.sum_congr rfl fun x _ => congrArg₂ (fun u v : EReal => u * v) (hidB_apply m c t a x) ((blk5 m c t x _).trans (tail_ki m c x ⟨l.val, by omega⟩ l.isLt))
  by_cases h : t.val % 8 = 0
  · rw [outsAt0_A m c t h]
    dsimp only
    frame_open
    simp (disch := decide) only [↓ View.readCov_skip, ↓ View.readCov_cons_toLoadRect, ↓ View.readCov_fill]
    frame_out
    exact (ki_apply _ _ _ _ _ _).trans (ropeI m c t a _ _ hp l)
  · rw [outsAt0_B m c t h]
    dsimp only
    frame_open
    simp (disch := decide) only [↓ View.readCov_skip, ↓ View.readCov_cons_toLoadRect, ↓ View.readCov_fill]
    frame_out
    exact (ki_apply _ _ _ _ _ _).trans (ropeI m c t a _ _ hp l)

end Cert.Kernel2Ideal.InProj

end
-- ==== Proof.InProj.Conv.lean ====
/- The convolved block of one grid point, and the two gated rows it carries to the next point in its scratch. -/
module

public import proofs.«01_k».proof.Proof.InProj.Blocks
public import Idealize.ShloMosaic.Lib.WritesUnit

@[expose] public section

set_option maxRecDepth 16384

noncomputable section

namespace Cert.Kernel2Ideal.InProj

open Cert.Kernel2Ideal Cert.Kernel2Ideal.Gen
open Idealize.ShloMosaic Idealize.ShloMosaic.TcCoe
open Idealize.ShloMosaic.Pipeline (Dat Cfg Window)

variable (m : (ℓ : Loc nD τ sig) → Buf (Elt Ideal) ℓ) (c : Dev nD)

/-- The first three parts of the weights. -/
abbrev w3 (t : Fin cfg0.N) : Vec Ideal S2048x3072 .bf16 := View.ld (X0_4 m c t) (Rect.unit ![0, 0] ![2048, 3072] inb_S2048x5632_S2048x3072_0_0)

theorem dot3 (t : Fin cfg0.N) (a : Fin 512) (j : Fin 3072) (z : Fin 5712) (hz : z.val = j.val) :
    (∑ x : Fin 2048, hidB m c t (ix2 a x) * w3 m c t (ix2 x j) : EReal) = proj m c (rowAt t a) z :=
  (dotW m c inb_S2048x5632_S2048x3072_0_0 t a j (by omega)).trans (congrArg (proj m c (rowAt t a)) (Fin.ext (by show 0 + j.val = z.val; omega)))

theorem gate7 (t : Fin cfg0.N) (a : Fin 512) (l : Fin 1024) :
    k0_pay7 (F := Ideal) (hidB m c t) (w3 m c t) (ix2 a l) = gated (proj m c) (rowAt t a) l := by
  refine (pay7_apply (hidB m c t) (w3 m c t) (ix2 a l)).trans ?_
  unfold gated
  exact congrArg₂ (fun u v : EReal => u * v) (dot3 m c t a ⟨1024 + l.val, by omega⟩ _ rfl) (dot3 m c t a ⟨2048 + l.val, by omega⟩ _ rfl)

theorem gate8 (t : Fin cfg0.N) (a : Fin 512) (l : Fin 1024) :
    k0_pay8 (F := Ideal) (hidB m c t) (w3 m c t) (ix2 a l) = gated (proj m c) (rowAt t a) l :=
  (pay8_apply (hidB m c t) (w3 m c t) (ix2 a l)).trans (gate7 m c t a l)

/-- The last eight rows of the gated block, read back from the scratch. -/
theorem tailRead (t : Fin cfg0.N) (L : List (View.Piece (Elt Ideal) S520x1024 .f32)) (b : Fin 8) (l : Fin 1024) :
    (View.whole cc0_scratch0).readCov ((⟨Rect.unit (s := S520x1024) ![8, 0] ![512, 1024] inb_S520x1024_S512x1024_8_0, k0_pay8 (F := Ideal) (hidB m c t) (w3 m c t)⟩ : View.Piece (Elt Ideal) S520x1024 .f32) :: L) (Rect.unit (s := S520x1024) ![512, 0] ![8, 1024] inb_S520x1024_S8x1024_512_0).toLoadRect (ix2 b l)
      = gated (proj m c) (rowAt t ⟨504 + b.val, by omega⟩) l := by
  rw [View.readCov_eq_canon']
  have e : (Rect.unit (s := S520x1024) ![512, 0] ![8, 1024] inb_S520x1024_S8x1024_512_0).toLoadRect.idx (ix2 b l) = ix2 ⟨512 + b.val, by omega⟩ l := funext fun d => Fin.ext (by
    match d with
    | ⟨0, _⟩ => show 512 + 1 * b.val = 512 + b.val; omega
    | ⟨1, _⟩ => show 0 + 1 * l.val = l.val; omega)
  refine (congrArg (View.canon ((⟨Rect.unit (s := S520x1024) ![8, 0] ![512, 1024] inb_S520x1024_S512x1024_8_0, k0_pay8 (F := Ideal) (hidB m c t) (w3 m c t)⟩ : View.Piece (Elt Ideal) S520x1024 .f32) :: L)) e).trans ?_
  refine (canon_hit (Val := Elt Ideal) (e := EltTy.f32) inb_S520x1024_S512x1024_8_0 (k0_pay8 (F := Ideal) (hidB m c t) (w3 m c t)) L ⟨512 + b.val, by omega⟩ l ⟨504 + b.val, by omega⟩ l
    (by show 512 + b.val = 8 + (504 + b.val); omega) (Nat.zero_add _).symm).trans ?_
  exact gate8 m c t ⟨504 + b.val, by omega⟩ l

/-- The rows a point leaves for the next one. -/
theorem carry (t : Fin cfg0.N) (b : Fin 8) (l : Fin 1024) : (outsAt0 m c t.val t.isLt).2.2.2.2.2.2.2 (ix2 ⟨b.val, by omega⟩ l) = gated (proj m c) (rowAt t ⟨504 + b.val, by omega⟩) l := by
  by_cases h : t.val % 8 = 0
  · rw [outsAt0_A m c t h]
    dsimp only
    frame_open
    simp (disch := decide) only [↓ View.readCov_skip, ↓ View.readCov_cons_toLoadRect, ↓ View.readCov_fill]
    frame_out
    refine (canon_hit (Val := Elt Ideal) (e := EltTy.f32) inb_S520x1024_S8x1024_0_0 _ _ ⟨b.val, by omega⟩ l b l (Nat.zero_add _).symm (Nat.zero_add _).symm).trans ?_
    exact (pay14_apply _ _).trans (tailRead m c t [⟨Rect.unit (s := S520x1024) ![0, 0] ![8, 1024] inb_S520x1024_S8x1024_0_0, k0_pay5 (F := Ideal)⟩] b l)
  · rw [outsAt0_B m c t h]
    dsimp only
    frame_open
    simp (disch := decide) only [↓ View.readCov_skip, ↓ View.readCov_cons_toLoadRect, ↓ View.readCov_fill]
    frame_out
    refine (canon_hit (Val := Elt Ideal) (e := EltTy.f32) inb_S520x1024_S8x1024_0_0 _ _ ⟨b.val, by omega⟩ l b l (Nat.zero_add _).symm (Nat.zero_add _).symm).trans ?_
    exact (pay14_apply _ _).trans (tailRead m c t [] b l)

/-- The gated rows some rows before, at a batch's first block: the rows before the first are zero. -/
theorem backA (t : Fin cfg0.N) (h : t.val % 8 = 0) (o : ℕ) (ho : o ≤ 8) (ho' : 0 < o) (inb : ∀ a, (![o, 0] : Fin 2 → ℕ) a + (![512, 1024] : Fin 2 → ℕ) a ≤ S520x1024.size a)
    (a : Fin 512) (l : Fin 1024) :
    (View.whole cc0_scratch0).readCov [(⟨Rect.unit (s := S520x1024) ![8, 0] ![512, 1024] inb_S520x1024_S512x1024_8_0, k0_pay8 (F := Ideal) (hidB m c t) (w3 m c t)⟩ : View.Piece (Elt Ideal) S520x1024 .f32), ⟨Rect.unit (s := S520x1024) ![0, 0] ![8, 1024] inb_S520x1024_S8x1024_0_0, k0_pay5 (F := Ideal)⟩]
        (Rect.unit (s := S520x1024) ![o, 0] ![512, 1024] inb).toLoadRect (ix2 a l)
      = gatedBack (proj m c) (8 - o) (rowAt t a) l := by
  have hr : (rowAt t a).val = 512 * t.val + a.val := rfl
  rw [View.readCov_eq_canon']
  have e : (Rect.unit (s := S520x1024) ![o, 0] ![512, 1024] inb).toLoadRect.idx (ix2 a l) = ix2 ⟨o + a.val, by omega⟩ l := funext fun d => Fin.ext (by
    match d with
    | ⟨0, _⟩ => show o + 1 * a.val = o + a.val; omega
    | ⟨1, _⟩ => show 0 + 1 * l.val = l.val; omega)
  refine (congrArg (View.canon _) e).trans ?_
  unfold gatedBack
  by_cases hc : 8 ≤ o + a.val
  · rw [if_pos (by omega)]
    refine (canon_hit (Val := Elt Ideal) (e := EltTy.f32) inb_S520x1024_S512x1024_8_0 (k0_pay8 (F := Ideal) (hidB m c t) (w3 m c t)) _ ⟨o + a.val, by omega⟩ l ⟨o + a.val - 8, by omega⟩ l
      (by show o + a.val = 8 + (o + a.val - 8); omega) (Nat.zero_add _).symm).trans ?_
    refine (gate8 m c t ⟨o + a.val - 8, by omega⟩ l).trans (congrArg (fun r => gated (proj m c) r l) (Fin.ext ?_))
    show 512 * t.val + (o + a.val - 8) = 512 * t.val + a.val - (8 - o)
    omega
  · rw [if_neg (by omega)]
    refine (canon_miss (Val := Elt Ideal) (e := EltTy.f32) inb_S520x1024_S512x1024_8_0 _ _ ⟨o + a.val, by omega⟩ l (by show o + a.val < 8 ∨ _; omega)).trans ?_
    refine (canon_hit (Val := Elt Ideal) (e := EltTy.f32) inb_S520x1024_S8x1024_0_0 _ _ ⟨o + a.val, by omega⟩ l ⟨o + a.val, by omega⟩ l (Nat.zero_add _).symm (Nat.zero_add _).symm).trans ?_
    exact pay5_apply _

/-- The gated rows some rows before, at a later block of a batch: the rows before the block are those the point before left. -/
theorem backB (t : Fin cfg0.N) (h : ¬ t.val % 8 = 0) (o : ℕ) (ho : o ≤ 8) (ho' : 0 < o) (inb : ∀ a, (![o, 0] : Fin 2 → ℕ) a + (![512, 1024] : Fin 2 → ℕ) a ≤ S520x1024.size a)
    (a : Fin 512) (l : Fin 1024) : ∀ f, (∀ (b : Fin 8) (l : Fin 1024) (r : Fin 8192), r.val + 8 = 512 * t.val + b.val → (View.whole cc0_scratch0).read (Elt Ideal) f (ix2 ⟨b.val, by omega⟩ l) = gated (proj m c) r l) →
    View.ld (View.read (Elt Ideal) (View.whole cc0_scratch0) ((View.whole cc0_scratch0).writes (Elt Ideal) f [(⟨Rect.unit (s := S520x1024) ![8, 0] ![512, 1024] inb_S520x1024_S512x1024_8_0, k0_pay8 (F := Ideal) (hidB m c t) (w3 m c t)⟩ : View.Piece (Elt Ideal) S520x1024 .f32)]))
        (Rect.unit (s := S520x1024) ![o, 0] ![512, 1024] inb) (ix2 a l)
      = gatedBack (proj m c) (8 - o) (rowAt t a) l := by
  intro f hf
  have hr : (rowAt t a).val = 512 * t.val + a.val := rfl
  have ht := point_lt t
  have e : View.ld (View.read (Elt Ideal) (View.whole cc0_scratch0) ((View.whole cc0_scratch0).writes (Elt Ideal) f [(⟨Rect.unit (s := S520x1024) ![8, 0] ![512, 1024] inb_S520x1024_S512x1024_8_0, k0_pay8 (F := Ideal) (hidB m c t) (w3 m c t)⟩ : View.Piece (Elt Ideal) S520x1024 .f32)]))
        (Rect.unit (s := S520x1024) ![o, 0] ![512, 1024] inb) (ix2 a l)
      = View.read (Elt Ideal) (View.whole cc0_scratch0) ((View.whole cc0_scratch0).writes (Elt Ideal) f [(⟨Rect.unit (s := S520x1024) ![8, 0] ![512, 1024] inb_S520x1024_S512x1024_8_0, k0_pay8 (F := Ideal) (hidB m c t) (w3 m c t)⟩ : View.Piece (Elt Ideal) S520x1024 .f32)]) (ix2 ⟨o + a.val, by omega⟩ l) :=
    congrArg (View.read (Elt Ideal) (View.whole cc0_scratch0) ((View.whole cc0_scratch0).writes (Elt Ideal) f [(⟨Rect.unit (s := S520x1024) ![8, 0] ![512, 1024] inb_S520x1024_S512x1024_8_0, k0_pay8 (F := Ideal) (hidB m c t) (w3 m c t)⟩ : View.Piece (Elt Ideal) S520x1024 .f32)])) (funext fun d => Fin.ext (by
      match d with
      | ⟨0, _⟩ => show o + 1 * a.val = o + a.val; omega
      | ⟨1, _⟩ => show 0 + 1 * l.val = l.val; omega))
  refine e.trans ?_
  unfold gatedBack
  rw [if_pos (by omega)]
  by_cases hc : 8 ≤ o + a.val
  · refine (View.read_writes_cons_rows_of_mem (View.whole cc0_scratch0) f inb_S520x1024_S512x1024_8_0 (k0_pay8 (F := Ideal) (hidB m c t) (w3 m c t)) [] (ix2 ⟨o + a.val, by omega⟩ l)
      (ix2 ⟨o + a.val - 8, by omega⟩ l) rfl (by show o + a.val = 8 + (o + a.val - 8); omega) rfl).trans ?_
    refine (gate8 m c t ⟨o + a.val - 8, by omega⟩ l).trans (congrArg (fun r => gated (proj m c) r l) (Fin.ext ?_))
    show 512 * t.val + (o + a.val - 8) = 512 * t.val + a.val - (8 - o)
    omega
  · refine (View.read_writes_cons_rows_of_not_mem (View.whole cc0_scratch0) f inb_S520x1024_S512x1024_8_0 (k0_pay8 (F := Ideal) (hidB m c t) (w3 m c t)) [] (ix2 ⟨o + a.val, by omega⟩ l)
      rfl rfl (by show o + a.val < 8 ∨ _; omega)).trans ?_
    exact hf ⟨o + a.val, by omega⟩ l _ (by show 512 * t.val + a.val - (8 - o) + 8 = 512 * t.val + (o + a.val); omega)

theorem tap (t : Fin cfg0.N) (d : ℕ) (e : Fin 3) (he : e.val = d) (inb : ∀ a, (![d, 0] : Fin 2 → ℕ) a + (![1, 1024] : Fin 2 → ℕ) a ≤ S3x1024.size a) (l : Fin 1024) :
    View.ld (iblk m c 6 t) (Rect.unit ![d, 0] ![1, 1024] inb) (ix2 0 l) = aCw m c (ix3 e 0 l) := by
  rw [← blk6 m c t e l]
  exact congrArg (iblk m c 6 t) (funext fun x => Fin.ext (by
      match x with
      | ⟨0, _⟩ => show d + 1 * 0 = e.val; omega
      | ⟨1, _⟩ => show 0 + 1 * l.val = l.val; omega))

/-- The taps of the convolution at a point. -/
abbrev tap0 (t : Fin cfg0.N) : Vec Ideal S1x1024 .f32 := View.ld (iblk m c 6 t) (Rect.unit ![0, 0] ![1, 1024] inb_S3x1024_S1x1024_0_0)
abbrev tap1 (t : Fin cfg0.N) : Vec Ideal S1x1024 .f32 := View.ld (iblk m c 6 t) (Rect.unit ![1, 0] ![1, 1024] inb_S3x1024_S1x1024_1_0)
abbrev tap2 (t : Fin cfg0.N) : Vec Ideal S1x1024 .f32 := View.ld (iblk m c 6 t) (Rect.unit ![2, 0] ![1, 1024] inb_S3x1024_S1x1024_2_0)

/-- The convolved rows from the gated rows one and two before. -/
theorem conv9 (t : Fin cfg0.N) (v1 v2 : Vec Ideal S512x1024 .f32) (h1 : ∀ a l, v1 (ix2 a l) = gatedBack (proj m c) 1 (rowAt t a) l)
    (h2 : ∀ a l, v2 (ix2 a l) = gatedBack (proj m c) 2 (rowAt t a) l) (a : Fin 512) (l : Fin 1024) :
    k0_pay9 (F := Ideal) (hidB m c t) (w3 m c t) v1 v2 (tap0 m c t) (tap1 m c t) (tap2 m c t) (ix2 a l) = convRow (proj m c) (aCw m c) (rowAt t a) l := by
  refine (pay9_apply (hidB m c t) (w3 m c t) v1 v2 (tap0 m c t) (tap1 m c t) (tap2 m c t) (ix2 a l)).trans ?_
  have e0 := tap m c t 0 0 rfl inb_S3x1024_S1x1024_0_0 l
  have e1 := tap m c t 1 1 rfl inb_S3x1024_S1x1024_1_0 l
  have e2 := tap m c t 2 2 rfl inb_S3x1024_S1x1024_2_0 l
  unfold convRow
  refine congrArg₂ (fun u v : EReal => u * v) (dot3 m c t a ⟨l.val, by omega⟩ _ rfl) ?_
  exact congrArg₂ (fun u v : EReal => u + v) (congrArg₂ (fun u v : EReal => u + v) (congrArg₂ (fun u v : EReal => u * v) e0 (h2 a l)) (congrArg₂ (fun u v : EReal => u * v) e1 (h1 a l)))
    (congrArg₂ (fun u v : EReal => u * v) e2 (gate7 m c t a l))

theorem convBlk (t : Fin cfg0.N) (v1 v2 : Vec Ideal S512x1024 .f32) (h1 : ∀ a l, v1 (ix2 a l) = gatedBack (proj m c) 1 (rowAt t a) l)
    (h2 : ∀ a l, v2 (ix2 a l) = gatedBack (proj m c) 2 (rowAt t a) l) (a : Fin 512) (l : Fin 1024) :
    k0_pay13 (F := Ideal) (k0_pay9 (F := Ideal) (hidB m c t) (w3 m c t) v1 v2 (tap0 m c t) (tap1 m c t) (tap2 m c t)) (k0_pay10 (F := Ideal) (iblk m c 7 t))
        (k0_pay11 (F := Ideal) (hidB m c t) (w3 m c t) v1 v2 (tap0 m c t) (tap1 m c t) (tap2 m c t)) (k0_pay12 (F := Ideal)) (ix2 a l)
      = convOut (proj m c) (aCw m c) (aGc m c) (rowAt t a) l := by
  refine (pay11_apply (hidB m c t) (w3 m c t) v1 v2 (tap0 m c t) (tap1 m c t) (tap2 m c t) (iblk m c 7 t) (ix2 a l)).trans ?_
  have hk := conv9 m c t v1 v2 h1 h2 a
  generalize k0_pay9 (F := Ideal) (hidB m c t) (w3 m c t) v1 v2 (tap0 m c t) (tap1 m c t) (tap2 m c t) = p at hk ⊢
  unfold convOut
  exact congrArg₂ (fun u v : EReal => u * v) (congrArg₂ (fun u v : EReal => u * v) (hk l) (congrArg (scaleOf 0x44800000#32)
    (Finset.sum_congr rfl fun x _ => congrArg₂ (fun u v : EReal => u * v) (hk x) (hk x)))) (blk7 m c t l)

/-- The block of the convolved and normed rows. -/
theorem blkY (t : Fin cfg0.N) (a : Fin 512) (l : Fin 1024) : (outsAt0 m c t.val t.isLt).1 (ix2 a l) = convOut (proj m c) (aCw m c) (aGc m c) (rowAt t a) l := by
  by_cases h : t.val % 8 = 0
  · rw [outsAt0_A m c t h]
    dsimp only
    frame_open
    simp (disch := decide) only [↓ View.readCov_skip, ↓ View.readCov_cons_toLoadRect, ↓ View.readCov_fill]
    frame_out
    exact convBlk m c t _ _ (backA m c t h 7 (by omega) (by omega) inb_S520x1024_S512x1024_7_0) (backA m c t h 6 (by omega) (by omega) inb_S520x1024_S512x1024_6_0) a l
  · have hc : ∀ (hp : t.val - 1 < cfg0.N) (b : Fin 8) (l : Fin 1024) (r : Fin 8192), r.val + 8 = 512 * t.val + b.val → (outsAt0 m c (t.val - 1) hp).2.2.2.2.2.2.2 (ix2 ⟨b.val, by omega⟩ l) = gated (proj m c) r l :=
      fun hp b l r hr => (carry m c ⟨t.val - 1, hp⟩ b l).trans (congrArg (fun r => gated (proj m c) r l) (Fin.ext (by
        show 512 * (t.val - 1) + (504 + b.val) = r.val
        omega)))
    rw [outsAt0_B m c t h]
    dsimp only
    frame_open
    simp (disch := decide) only [↓ View.readCov_skip, ↓ View.readCov_cons_toLoadRect, ↓ View.readCov_fill]
    frame_out
    exact convBlk m c t _ _
      (fun a l => backB m c t h 7 (by omega) (by omega) inb_S520x1024_S512x1024_7_0 a l _ fun b l r hr => (congrFun (Memref.IsWhole.read_unread _ _) _).trans (hc _ b l r hr))
      (fun a l => backB m c t h 6 (by omega) (by omega) inb_S520x1024_S512x1024_6_0 a l _ fun b l r hr => (congrFun (Memref.IsWhole.read_unread _ _) _).trans (hc _ b l r hr)) a l

end Cert.Kernel2Ideal.InProj

end
-- ==== Proof.InProj.Whole.lean ====
/- The seven arrays the input projection's launch leaves, each as what is computed at a row and a column. -/
module

public import proofs.«01_k».proof.Proof.InProj.Conv

@[expose] public section

set_option maxRecDepth 16384

noncomputable section

namespace Cert.Kernel2Ideal.InProj

open Cert.Kernel2Ideal Cert.Kernel2Ideal.Gen
open Idealize.ShloMosaic Idealize.ShloMosaic.TcCoe
open Idealize.ShloMosaic.Pipeline (Dat Cfg Window)

variable (m : (ℓ : Loc nD τ sig) → Buf (Elt Ideal) ℓ) (c : Dev nD)

theorem index10 : ∀ t : Fin cfg0.N, (cfg0.win 10).index t = ![t.val, 0] := by decide +kernel

theorem wholeY : (dats m 0 c).arrAt 10 cfg0.N = fun i : S8192x1024.Idx => convOut (proj m c) (aCw m c) (aGc m c) (i 0) (i 1) := by
  refine (dats m 0 c).arrAt_eq_of_covers 10 _ ?_ fun t hf y => ?_
  · refine (cfg0.win 10).covers_of_indexMap_surj rfl ?_ ?_
    · intro a
      match a with
      | ⟨0, _⟩ => exact (by decide : 0 < 512)
      | ⟨1, _⟩ => exact (by decide : 0 < 1024)
    · intro β
      have hβ0 : (β (0 : Fin 2)).val < 16 := (β (0 : Fin 2)).isLt.trans_eq (show (8192 + 512 - 1) / 512 = 16 by decide)
      have hβ1 : (β (1 : Fin 2)).val < 1 := (β (1 : Fin 2)).isLt.trans_eq (show (1024 + 1024 - 1) / 1024 = 1 by decide)
      have e := index10 ⟨(β (0 : Fin 2)).val, hβ0.trans_eq (by decide)⟩
      refine ⟨grid0.coords ⟨(β (0 : Fin 2)).val, hβ0.trans_eq (by decide)⟩, fun a => (congrFun e a).trans ?_⟩
      match a with
      | ⟨0, _⟩ => rfl
      | ⟨1, _⟩ => show 0 = (β (1 : Fin 2)).val; omega
  · have e := index10 t
    have hy0 : (y (0 : Fin 2)).val < 512 := (y (0 : Fin 2)).isLt
    have hy1 : (y (1 : Fin 2)).val < 1024 := (y (1 : Fin 2)).isLt
    refine (congrFun (after0_10 m c t) y).trans (Eq.trans ?_ ((blkY m c t ⟨(y (0 : Fin 2)).val, hy0⟩ ⟨(y (1 : Fin 2)).val, hy1⟩).trans ?_))
    · refine congrArg _ (funext fun a => Fin.ext ?_)
      match a with
      | ⟨0, _⟩ => rfl
      | ⟨1, _⟩ => rfl
    · have e0 : 512 * t.val + (y (0 : Fin 2)).val = ((((cfg0.win 10).blk t).view.emb y) (0 : Fin 2)).val := by
        show _ = (cfg0.win 10).index t (0 : Fin 2) * 512 + 1 * (y (0 : Fin 2)).val
        rw [e]
        show _ = t.val * 512 + 1 * (y (0 : Fin 2)).val
        omega
      have e1 : (y (1 : Fin 2)).val = ((((cfg0.win 10).blk t).view.emb y) (1 : Fin 2)).val := by
        show _ = (cfg0.win 10).index t (1 : Fin 2) * 1024 + 1 * (y (1 : Fin 2)).val
        rw [e]
        show _ = 0 * 1024 + 1 * (y (1 : Fin 2)).val
        omega
      exact congrArg₂ (convOut (proj m c) (aCw m c) (aGc m c)) (Fin.ext e0) (Fin.ext e1)

theorem index11 : ∀ t : Fin cfg0.N, (cfg0.win 11).index t = ![t.val, 0] := by decide +kernel

theorem wholeQ : (dats m 0 c).arrAt 11 cfg0.N = fun i : S8192x1024.Idx => qOut (aPs m c) (proj m c) (i 0) (i 1) := by
  refine (dats m 0 c).arrAt_eq_of_covers 11 _ ?_ fun t hf y => ?_
  · refine (cfg0.win 11).covers_of_indexMap_surj rfl ?_ ?_
    · intro a
      match a with
      | ⟨0, _⟩ => exact (by decide : 0 < 512)
      | ⟨1, _⟩ => exact (by decide : 0 < 1024)
    · intro β
      have hβ0 : (β (0 : Fin 2)).val < 16 := (β (0 : Fin 2)).isLt.trans_eq (show (8192 + 512 - 1) / 512 = 16 by decide)
      have hβ1 : (β (1 : Fin 2)).val < 1 := (β (1 : Fin 2)).isLt.trans_eq (show (1024 + 1024 - 1) / 1024 = 1 by decide)
      have e := index11 ⟨(β (0 : Fin 2)).val, hβ0.trans_eq (by decide)⟩
      refine ⟨grid0.coords ⟨(β (0 : Fin 2)).val, hβ0.trans_eq (by decide)⟩, fun a => (congrFun e a).trans ?_⟩
      match a with
      | ⟨0, _⟩ => rfl
      | ⟨1, _⟩ => show 0 = (β (1 : Fin 2)).val; omega
  · have e := index11 t
    have hy0 : (y (0 : Fin 2)).val < 512 := (y (0 : Fin 2)).isLt
    have hy1 : (y (1 : Fin 2)).val < 1024 := (y (1 : Fin 2)).isLt
    refine (congrFun (after0_11 m c t) y).trans (Eq.trans ?_ ((blkQ m c t ⟨(y (0 : Fin 2)).val, hy0⟩ ⟨(y (1 : Fin 2)).val, hy1⟩).trans ?_))
    · refine congrArg _ (funext fun a => Fin.ext ?_)
      match a with
      | ⟨0, _⟩ => rfl
      | ⟨1, _⟩ => rfl
    · have e0 : 512 * t.val + (y (0 : Fin 2)).val = ((((cfg0.win 11).blk t).view.emb y) (0 : Fin 2)).val := by
        show _ = (cfg0.win 11).index t (0 : Fin 2) * 512 + 1 * (y (0 : Fin 2)).val
        rw [e]
        show _ = t.val * 512 + 1 * (y (0 : Fin 2)).val
        omega
      have e1 : (y (1 : Fin 2)).val = ((((cfg0.win 11).blk t).view.emb y) (1 : Fin 2)).val := by
        show _ = (cfg0.win 11).index t (1 : Fin 2) * 1024 + 1 * (y (1 : Fin 2)).val
        rw [e]
        show _ = 0 * 1024 + 1 * (y (1 : Fin 2)).val
        omega
      exact congrArg₂ (qOut (aPs m c) (proj m c)) (Fin.ext e0) (Fin.ext e1)

theorem index12 : ∀ t : Fin cfg0.N, (cfg0.win 12).index t = ![t.val, 0] := by decide +kernel

theorem wholeK : (dats m 0 c).arrAt 12 cfg0.N = fun i : S8192x256.Idx => kOut (aPs m c) (proj m c) (i 0) (i 1) := by
  refine (dats m 0 c).arrAt_eq_of_covers 12 _ ?_ fun t hf y => ?_
  · refine (cfg0.win 12).covers_of_indexMap_surj rfl ?_ ?_
    · intro a
      match a with
      | ⟨0, _⟩ => exact (by decide : 0 < 512)
      | ⟨1, _⟩ => exact (by decide : 0 < 256)
    · intro β
      have hβ0 : (β (0 : Fin 2)).val < 16 := (β (0 : Fin 2)).isLt.trans_eq (show (8192 + 512 - 1) / 512 = 16 by decide)
      have hβ1 : (β (1 : Fin 2)).val < 1 := (β (1 : Fin 2)).isLt.trans_eq (show (256 + 256 - 1) / 256 = 1 by decide)
      have e := index12 ⟨(β (0 : Fin 2)).val, hβ0.trans_eq (by decide)⟩
      refine ⟨grid0.coords ⟨(β (0 : Fin 2)).val, hβ0.trans_eq (by decide)⟩, fun a => (congrFun e a).trans ?_⟩
      match a with
      | ⟨0, _⟩ => rfl
      | ⟨1, _⟩ => show 0 = (β (1 : Fin 2)).val; omega
  · have e := index12 t
    have hy0 : (y (0 : Fin 2)).val < 512 := (y (0 : Fin 2)).isLt
    have hy1 : (y (1 : Fin 2)).val < 256 := (y (1 : Fin 2)).isLt
    refine (congrFun (after0_12 m c t) y).trans (Eq.trans ?_ ((blkK m c t ⟨(y (0 : Fin 2)).val, hy0⟩ ⟨(y (1 : Fin 2)).val, hy1⟩).trans ?_))
    · refine congrArg _ (funext fun a => Fin.ext ?_)
      match a with
      | ⟨0, _⟩ => rfl
      | ⟨1, _⟩ => rfl
    · have e0 : 512 * t.val + (y (0 : Fin 2)).val = ((((cfg0.win 12).blk t).view.emb y) (0 : Fin 2)).val := by
        show _ = (cfg0.win 12).index t (0 : Fin 2) * 512 + 1 * (y (0 : Fin 2)).val
        rw [e]
        show _ = t.val * 512 + 1 * (y (0 : Fin 2)).val
        omega
      have e1 : (y (1 : Fin 2)).val = ((((cfg0.win 12).blk t).view.emb y) (1 : Fin 2)).val := by
        show _ = (cfg0.win 12).index t (1 : Fin 2) * 256 + 1 * (y (1 : Fin 2)).val
        rw [e]
        show _ = 0 * 256 + 1 * (y (1 : Fin 2)).val
        omega
      exact congrArg₂ (kOut (aPs m c) (proj m c)) (Fin.ext e0) (Fin.ext e1)

theorem index13 : ∀ t : Fin cfg0.N, (cfg0.win 13).index t = ![t.val, 0] := by decide +kernel

theorem wholeV : (dats m 0 c).arrAt 13 cfg0.N = fun i : S8192x256.Idx => valOut (proj m c) (i 0) (i 1) := by
  refine (dats m 0 c).arrAt_eq_of_covers 13 _ ?_ fun t hf y => ?_
  · refine (cfg0.win 13).covers_of_indexMap_surj rfl ?_ ?_
    · intro a
      match a with
      | ⟨0, _⟩ => exact (by decide : 0 < 512)
      | ⟨1, _⟩ => exact (by decide : 0 < 256)
    · intro β
      have hβ0 : (β (0 : Fin 2)).val < 16 := (β (0 : Fin 2)).isLt.trans_eq (show (8192 + 512 - 1) / 512 = 16 by decide)
      have hβ1 : (β (1 : Fin 2)).val < 1 := (β (1 : Fin 2)).isLt.trans_eq (show (256 + 256 - 1) / 256 = 1 by decide)
      have e := index13 ⟨(β (0 : Fin 2)).val, hβ0.trans_eq (by decide)⟩
      refine ⟨grid0.coords ⟨(β (0 : Fin 2)).val, hβ0.trans_eq (by decide)⟩, fun a => (congrFun e a).trans ?_⟩
      match a with
      | ⟨0, _⟩ => rfl
      | ⟨1, _⟩ => show 0 = (β (1 : Fin 2)).val; omega
  · have e := index13 t
    have hy0 : (y (0 : Fin 2)).val < 512 := (y (0 : Fin 2)).isLt
    have hy1 : (y (1 : Fin 2)).val < 256 := (y (1 : Fin 2)).isLt
    refine (congrFun (after0_13 m c t) y).trans (Eq.trans ?_ ((blkV m c t ⟨(y (0 : Fin 2)).val, hy0⟩ ⟨(y (1 : Fin 2)).val, hy1⟩).trans ?_))
    · refine congrArg _ (funext fun a => Fin.ext ?_)
      match a with
      | ⟨0, _⟩ => rfl
      | ⟨1, _⟩ => rfl
    · have e0 : 512 * t.val + (y (0 : Fin 2)).val = ((((cfg0.win 13).blk t).view.emb y) (0 : Fin 2)).val := by
        show _ = (cfg0.win 13).index t (0 : Fin 2) * 512 + 1 * (y (0 : Fin 2)).val
        rw [e]
        show _ = t.val * 512 + 1 * (y (0 : Fin 2)).val
        omega
      have e1 : (y (1 : Fin 2)).val = ((((cfg0.win 13).blk t).view.emb y) (1 : Fin 2)).val := by
        show _ = (cfg0.win 13).index t (1 : Fin 2) * 256 + 1 * (y (1 : Fin 2)).val
        rw [e]
        show _ = 0 * 256 + 1 * (y (1 : Fin 2)).val
        omega
      exact congrArg₂ (valOut (proj m c)) (Fin.ext e0) (Fin.ext e1)

theorem index14 : ∀ t : Fin cfg0.N, (cfg0.win 14).index t = ![t.val, 0] := by decide +kernel

theorem wholeQi : (dats m 0 c).arrAt 14 cfg0.N = fun i : S8192x1024.Idx => qiOut (aPs m c) (proj m c) (i 0) (i 1) := by
  refine (dats m 0 c).arrAt_eq_of_covers 14 _ ?_ fun t hf y => ?_
  · refine (cfg0.win 14).covers_of_indexMap_surj rfl ?_ ?_
    · intro a
      match a with
      | ⟨0, _⟩ => exact (by decide : 0 < 512)
      | ⟨1, _⟩ => exact (by decide : 0 < 1024)
    · intro β
      have hβ0 : (β (0 : Fin 2)).val < 16 := (β (0 : Fin 2)).isLt.trans_eq (show (8192 + 512 - 1) / 512 = 16 by decide)
      have hβ1 : (β (1 : Fin 2)).val < 1 := (β (1 : Fin 2)).isLt.trans_eq (show (1024 + 1024 - 1) / 1024 = 1 by decide)
      have e := index14 ⟨(β (0 : Fin 2)).val, hβ0.trans_eq (by decide)⟩
      refine ⟨grid0.coords ⟨(β (0 : Fin 2)).val, hβ0.trans_eq (by decide)⟩, fun a => (congrFun e a).trans ?_⟩
      match a with
      | ⟨0, _⟩ => rfl
      | ⟨1, _⟩ => show 0 = (β (1 : Fin 2)).val; omega
  · have e := index14 t
    have hy0 : (y (0 : Fin 2)).val < 512 := (y (0 : Fin 2)).isLt
    have hy1 : (y (1 : Fin 2)).val < 1024 := (y (1 : Fin 2)).isLt
    refine (congrFun (after0_14 m c t) y).trans (Eq.trans ?_ ((blkQi m c t ⟨(y (0 : Fin 2)).val, hy0⟩ ⟨(y (1 : Fin 2)).val, hy1⟩).trans ?_))
    · refine congrArg _ (funext fun a => Fin.ext ?_)
      match a with
      | ⟨0, _⟩ => rfl
      | ⟨1, _⟩ => rfl
    · have e0 : 512 * t.val + (y (0 : Fin 2)).val = ((((cfg0.win 14).blk t).view.emb y) (0 : Fin 2)).val := by
        show _ = (cfg0.win 14).index t (0 : Fin 2) * 512 + 1 * (y (0 : Fin 2)).val
        rw [e]
        show _ = t.val * 512 + 1 * (y (0 : Fin 2)).val
        omega
      have e1 : (y (1 : Fin 2)).val = ((((cfg0.win 14).blk t).view.emb y) (1 : Fin 2)).val := by
        show _ = (cfg0.win 14).index t (1 : Fin 2) * 1024 + 1 * (y (1 : Fin 2)).val
        rw [e]
        show _ = 0 * 1024 + 1 * (y (1 : Fin 2)).val
        omega
      exact congrArg₂ (qiOut (aPs m c) (proj m c)) (Fin.ext e0) (Fin.ext e1)

theorem index15 : ∀ t : Fin cfg0.N, (cfg0.win 15).index t = ![t.val, 0] := by decide +kernel

theorem wholeKi : (dats m 0 c).arrAt 15 cfg0.N = fun i : S8192x128.Idx => kiOut (aPs m c) (proj m c) (i 0) (i 1) := by
  refine (dats m 0 c).arrAt_eq_of_covers 15 _ ?_ fun t hf y => ?_
  · refine (cfg0.win 15).covers_of_indexMap_surj rfl ?_ ?_
    · intro a
      match a with
      | ⟨0, _⟩ => exact (by decide : 0 < 512)
      | ⟨1, _⟩ => exact (by decide : 0 < 128)
    · intro β
      have hβ0 : (β (0 : Fin 2)).val < 16 := (β (0 : Fin 2)).isLt.trans_eq (show (8192 + 512 - 1) / 512 = 16 by decide)
      have hβ1 : (β (1 : Fin 2)).val < 1 := (β (1 : Fin 2)).isLt.trans_eq (show (128 + 128 - 1) / 128 = 1 by decide)
      have e := index15 ⟨(β (0 : Fin 2)).val, hβ0.trans_eq (by decide)⟩
      refine ⟨grid0.coords ⟨(β (0 : Fin 2)).val, hβ0.trans_eq (by decide)⟩, fun a => (congrFun e a).trans ?_⟩
      match a with
      | ⟨0, _⟩ => rfl
      | ⟨1, _⟩ => show 0 = (β (1 : Fin 2)).val; omega
  · have e := index15 t
    have hy0 : (y (0 : Fin 2)).val < 512 := (y (0 : Fin 2)).isLt
    have hy1 : (y (1 : Fin 2)).val < 128 := (y (1 : Fin 2)).isLt
    refine (congrFun (after0_15 m c t) y).trans (Eq.trans ?_ ((blkKi m c t ⟨(y (0 : Fin 2)).val, hy0⟩ ⟨(y (1 : Fin 2)).val, hy1⟩).trans ?_))
    · refine congrArg _ (funext fun a => Fin.ext ?_)
      match a with
      | ⟨0, _⟩ => rfl
      | ⟨1, _⟩ => rfl
    · have e0 : 512 * t.val + (y (0 : Fin 2)).val = ((((cfg0.win 15).blk t).view.emb y) (0 : Fin 2)).val := by
        show _ = (cfg0.win 15).index t (0 : Fin 2) * 512 + 1 * (y (0 : Fin 2)).val
        rw [e]
        show _ = t.val * 512 + 1 * (y (0 : Fin 2)).val
        omega
      have e1 : (y (1 : Fin 2)).val = ((((cfg0.win 15).blk t).view.emb y) (1 : Fin 2)).val := by
        show _ = (cfg0.win 15).index t (1 : Fin 2) * 128 + 1 * (y (1 : Fin 2)).val
        rw [e]
        show _ = 0 * 128 + 1 * (y (1 : Fin 2)).val
        omega
      exact congrArg₂ (kiOut (aPs m c) (proj m c)) (Fin.ext e0) (Fin.ext e1)

theorem index16 : ∀ t : Fin cfg0.N, (cfg0.win 16).index t = ![t.val, 0] := by decide +kernel

theorem wholeWi : (dats m 0 c).arrAt 16 cfg0.N = fun i : S8192x128.Idx => wiOut (proj m c) (i 0) (i 1) := by
  refine (dats m 0 c).arrAt_eq_of_covers 16 _ ?_ fun t hf y => ?_
  · refine (cfg0.win 16).covers_of_indexMap_surj rfl ?_ ?_
    · intro a
      match a with
      | ⟨0, _⟩ => exact (by decide : 0 < 512)
      | ⟨1, _⟩ => exact (by decide : 0 < 128)
    · intro β
      have hβ0 : (β (0 : Fin 2)).val < 16 := (β (0 : Fin 2)).isLt.trans_eq (show (8192 + 512 - 1) / 512 = 16 by decide)
      have hβ1 : (β (1 : Fin 2)).val < 1 := (β (1 : Fin 2)).isLt.trans_eq (show (128 + 128 - 1) / 128 = 1 by decide)
      have e := index16 ⟨(β (0 : Fin 2)).val, hβ0.trans_eq (by decide)⟩
      refine ⟨grid0.coords ⟨(β (0 : Fin 2)).val, hβ0.trans_eq (by decide)⟩, fun a => (congrFun e a).trans ?_⟩
      match a with
      | ⟨0, _⟩ => rfl
      | ⟨1, _⟩ => show 0 = (β (1 : Fin 2)).val; omega
  · have e := index16 t
    have hy0 : (y (0 : Fin 2)).val < 512 := (y (0 : Fin 2)).isLt
    have hy1 : (y (1 : Fin 2)).val < 128 := (y (1 : Fin 2)).isLt
    refine (congrFun (after0_16 m c t) y).trans (Eq.trans ?_ ((blkWi m c t ⟨(y (0 : Fin 2)).val, hy0⟩ ⟨(y (1 : Fin 2)).val, hy1⟩).trans ?_))
    · refine congrArg _ (funext fun a => Fin.ext ?_)
      match a with
      | ⟨0, _⟩ => rfl
      | ⟨1, _⟩ => rfl
    · have e0 : 512 * t.val + (y (0 : Fin 2)).val = ((((cfg0.win 16).blk t).view.emb y) (0 : Fin 2)).val := by
        show _ = (cfg0.win 16).index t (0 : Fin 2) * 512 + 1 * (y (0 : Fin 2)).val
        rw [e]
        show _ = t.val * 512 + 1 * (y (0 : Fin 2)).val
        omega
      have e1 : (y (1 : Fin 2)).val = ((((cfg0.win 16).blk t).view.emb y) (1 : Fin 2)).val := by
        show _ = (cfg0.win 16).index t (1 : Fin 2) * 128 + 1 * (y (1 : Fin 2)).val
        rw [e]
        show _ = 0 * 128 + 1 * (y (1 : Fin 2)).val
        omega
      exact congrArg₂ (wiOut (proj m c)) (Fin.ext e0) (Fin.ext e1)

end Cert.Kernel2Ideal.InProj

end
-- ==== Proof.InProj.Ref.lean ====
/- The reference's seven results of the input projection, each read at a row and a column. -/
module

public import proofs.«01_k».proof.Proof.InProj.Spec
public import proofs.«01_k».proof.Proof.Gen.Reference2Ideal.Read
public import Idealize.ShloMosaic.Lib.Pointwise
public import Idealize.ShloMosaic.Lib.Pipeline.Value

@[expose] public section

set_option maxRecDepth 16384

noncomputable section

namespace Cert.Reference2Ideal.InProj

open Cert.Reference2Ideal Cert.Reference2Ideal.Gen Cert.Reference2Ideal.Read Idealize.ShloMosaic Idealize.ShloMosaic.TcCoe
open Cert.Kernel2Ideal.InProj

variable (x0 : S2x4096x2048.Idx → EReal) (x1 : S2x6x2048.Idx → EReal) (x2 : S2048.Idx → EReal) (x3 : S2x4096.Idx → BitVec 32) (x4 : S2048x5712.Idx → EReal)
  (x5 : S3x1x1024.Idx → EReal) (x6 : S1024.Idx → EReal)

/-- The projected rows. -/
abbrev refP : Fin 8192 → Fin 5712 → EReal := projRow (hidRow x0 x1 x2) x4

theorem idx3 {a b c : ℕ} (i : (⟨3, ![a, b, c]⟩ : Shape).Idx) (p : Fin a) (q : Fin b) (r : Fin c) (h0 : (i 0).val = p.val) (h1 : (i 1).val = q.val) (h2 : (i 2).val = r.val) :
    i = ix3 p q r := funext fun d => Fin.ext (by
  match d with
  | ⟨0, _⟩ => exact h0
  | ⟨1, _⟩ => exact h1
  | ⟨2, _⟩ => exact h2)

theorem idx2 {a b : ℕ} (i : (⟨2, ![a, b]⟩ : Shape).Idx) (p : Fin a) (q : Fin b) (h0 : (i 0).val = p.val) (h1 : (i 1).val = q.val) : i = ix2 p q := funext fun d => Fin.ext (by
  match d with
  | ⟨0, _⟩ => exact h0
  | ⟨1, _⟩ => exact h1)

theorem idx1 {a : ℕ} (i : (⟨1, ![a]⟩ : Shape).Idx) (p : Fin a) (h0 : (i 0).val = p.val) : i = ix1 p := funext fun d => Fin.ext (by
  match d with
  | ⟨0, _⟩ => exact h0)

theorem zeroWord : (FloatOps.ofBits (F := Ideal) .f32 0x00000000#32 : EReal) = 0 := by pointwise

theorem mulE {a b : Ideal .f32} {u v : EReal} (h : a = u) (k : b = v) : FloatOps.mulf a b = u * v := by subst h k; rfl
theorem addE {a b : Ideal .f32} {u v : EReal} (h : a = u) (k : b = v) : FloatOps.addf a b = u + v := by subst h k; rfl
theorem subE {a b : Ideal .f32} {u v : EReal} (h : a = u) (k : b = v) : FloatOps.subf a b = u - v := by subst h k; rfl
theorem divE {a b : Ideal .f32} {u v : EReal} (h : a = u) (k : b = v) : FloatOps.hostDivf a b = Ideal.div u v := by subst h k; rfl
theorem powE {a b : Ideal .f32} {u v : Ideal .f32} (h : a = u) (k : b = v) : FloatOps.hostPowf a b = FloatOps.hostPowf u v := by subst h k; rfl
theorem hdivE {a b : Ideal .f32} {u v : Ideal .f32} (h : a = u) (k : b = v) : FloatOps.hostDivf a b = FloatOps.hostDivf u v := by subst h k; rfl
theorem cosE {a : Ideal .f32} {u : EReal} (h : a = u) : FloatOps.hostUnary .cos a = Ideal.cos u := by subst h; rfl
theorem sinE {a : Ideal .f32} {u : EReal} (h : a = u) : FloatOps.hostUnary .sin a = Ideal.sin u := by subst h; rfl
theorem rsqrtE {a : Ideal .f32} {u : EReal} (h : a = u) : FloatOps.hostUnary .rsqrt a = Ideal.rsqrt u := by subst h; rfl

theorem refHid (r : Fin 8192) (k : Fin 2048) : val_main_v20 (F := Ideal) x0 x1 x2 (ix3 (batOf r) (posOf r) k) = hidRow x0 x1 x2 r k := by
  unfold hidRow Cert.Kernel2Ideal.InProj.hidden scaleOf
  unfold val_main_v20 val_main_v19 val_main_v18 val_main_v17 val_main_v16 val_main_v15 val_main_v14 val_main_cst_2 val_main_v13
    val_main_v12 val_main_v11 val_main_v10 val_main_v9 val_main_v8 val_main_v7 val_main_v6 val_main_v5 val_main_cst_1 val_main_v4
    val_main_v3 val_main_cst_0 val_main_v2 val_main_v1 val_main_cst val_main_v0
  pointwise

theorem ref21 (i : S2x4096x5712.Idx) (r : Fin 8192) (j : Fin 5712) (h0 : (i 0).val = r.val / 4096) (h1 : (i 1).val = r.val % 4096) (h2 : (i 2).val = j.val) :
    val_main_v21 (F := Ideal) x0 x1 x2 x4 i = refP x0 x1 x2 x4 r j := by
  refine (val_main_v21_apply x0 x1 x2 x4 i).trans ?_
  unfold refP projRow
  refine Finset.sum_congr rfl fun k _ => congrArg₂ (fun u v : EReal => u * v) ?_ (congrArg x4 (idx2 _ k j rfl h2))
  exact (congrArg (val_main_v20 (F := Ideal) x0 x1 x2) (idx3 _ (batOf r) (posOf r) k h0 h1 rfl)).trans (refHid x0 x1 x2 r k)

/-! ## The convolution -/

theorem ref24 (i : S2x4096x1024.Idx) (r : Fin 8192) (c : Fin 1024) (h0 : (i 0).val = r.val / 4096) (h1 : (i 1).val = r.val % 4096) (h2 : (i 2).val = c.val) :
    val_main_v24 (F := Ideal) x0 x1 x2 x4 i = gated (refP x0 x1 x2 x4) r c := by
  refine (val_main_v24_apply (F := Ideal) x0 x1 x2 x4 i).trans ?_
  unfold gated
  exact mulE
    ((val_main_v22_apply (F := Ideal) x0 x1 x2 x4 i).trans (ref21 x0 x1 x2 x4 _ r _ h0 h1 (by show 1024 + (i 2).val = 1024 + c.val; omega)))
    ((val_main_v23_apply (F := Ideal) x0 x1 x2 x4 i).trans (ref21 x0 x1 x2 x4 _ r _ h0 h1 (by show 2048 + (i 2).val = 2048 + c.val; omega)))

theorem ref26 (d : ℕ) (hd : d ≤ 2) (i : S2x4098x1024.Idx) (r : Fin 8192) (c : Fin 1024) (h0 : (i 0).val = r.val / 4096) (h1 : (i 1).val + d = r.val % 4096 + 2) (h2 : (i 2).val = c.val) :
    val_main_v26 (F := Ideal) x0 x1 x2 x4 i = gatedBack (refP x0 x1 x2 x4) d r c := by
  unfold val_main_v26 gatedBack
  by_cases h : d ≤ r.val % 4096
  · rw [if_pos h]
    have hb : (i 1).val - 2 < 4096 := by omega
    refine (concatenate_apply_piece (t := S2x4098x1024) 1 _ _ i 1 (by show 1 < 2; omega) S2x4096x1024 _ rfl rfl 2 (by rfl)
      (ix3 (batOf r) (⟨(i 1).val - 2, hb⟩ : Fin 4096) c) ?_ ?_).trans ?_
    · intro b hb
      match b with
      | ⟨0, _⟩ => exact h0.symm
      | ⟨1, _⟩ => exact absurd rfl hb
      | ⟨2, _⟩ => exact h2.symm
    · show 2 + ((i 1).val - 2) = (i 1).val
      omega
    · exact ref24 x0 x1 x2 x4 _ ⟨r.val - d, by omega⟩ c (by show r.val / 4096 = (r.val - d) / 4096; omega) (by show (i 1).val - 2 = (r.val - d) % 4096; omega) rfl
  · rw [if_neg h]
    have hb : (i 1).val < 2 := by omega
    refine (concatenate_apply_piece (t := S2x4098x1024) 1 _ _ i 0 (by show 0 < 2; omega) S2x2x1024 _ rfl rfl 0 (by rfl)
      (ix3 (batOf r) (⟨(i 1).val, hb⟩ : Fin 2) c) ?_ ?_).trans ?_
    · intro b hb
      match b with
      | ⟨0, _⟩ => exact h0.symm
      | ⟨1, _⟩ => exact absurd rfl hb
      | ⟨2, _⟩ => exact h2.symm
    · show 0 + (i 1).val = (i 1).val
      omega
    · exact (val_main_v25_apply (F := Ideal) _).trans zeroWord

theorem ref47 (i : S2x4096x1024.Idx) (r : Fin 8192) (c : Fin 1024) (h0 : (i 0).val = r.val / 4096) (h1 : (i 1).val = r.val % 4096) (h2 : (i 2).val = c.val) :
    val_main_v47 (F := Ideal) x0 x1 x2 x4 x5 i = convRow (refP x0 x1 x2 x4) x5 r c := by
  have hc := c.isLt
  refine (val_main_v47_apply (F := Ideal) x0 x1 x2 x4 x5 i).trans ?_
  unfold convRow
  refine mulE ((val_main_v46_apply (F := Ideal) x0 x1 x2 x4 i).trans (ref21 x0 x1 x2 x4 _ r _ h0 h1 h2)) ?_
  refine (val_main_v45_apply (F := Ideal) x0 x1 x2 x4 x5 i).trans ?_
  refine addE ?_ ?_
  · refine (val_main_v39_apply (F := Ideal) x0 x1 x2 x4 x5 i).trans ?_
    refine addE ?_ ?_
    · refine (val_main_v32_apply (F := Ideal) x0 x1 x2 x4 x5 i).trans ?_
      refine mulE ?_ ?_
      · refine (val_main_v31_apply (F := Ideal) x5 i).trans ((val_main_v30_apply (F := Ideal) x5 _).trans ((val_main_v28_apply (F := Ideal) x5 _).trans ((val_main_v27_apply (F := Ideal) x5 _).trans (congrArg x5 (idx3 _ 0 0 c rfl rfl ?_)))))
        show (i 2).val % 1024 = c.val
        omega
      · exact (val_main_v29_apply (F := Ideal) x0 x1 x2 x4 i).trans (ref26 x0 x1 x2 x4 2 (by omega) _ r c h0 (by show (i 1).val + 2 = _; omega) h2)
    · refine (val_main_v38_apply (F := Ideal) x0 x1 x2 x4 x5 i).trans ?_
      refine mulE ?_ ?_
      · refine (val_main_v37_apply (F := Ideal) x5 i).trans ((val_main_v36_apply (F := Ideal) x5 _).trans ((val_main_v34_apply (F := Ideal) x5 _).trans ((val_main_v33_apply (F := Ideal) x5 _).trans (congrArg x5 (idx3 _ 1 0 c rfl rfl ?_)))))
        show (i 2).val % 1024 = c.val
        omega
      · exact (val_main_v35_apply (F := Ideal) x0 x1 x2 x4 i).trans (ref26 x0 x1 x2 x4 1 (by omega) _ r c h0 (by show 1 + (i 1).val + 1 = _; omega) h2)
  · refine (val_main_v44_apply (F := Ideal) x0 x1 x2 x4 x5 i).trans ?_
    refine mulE ?_ (ref24 x0 x1 x2 x4 i r c h0 h1 h2)
    refine (val_main_v43_apply (F := Ideal) x5 i).trans ((val_main_v42_apply (F := Ideal) x5 _).trans ((val_main_v41_apply (F := Ideal) x5 _).trans ((val_main_v40_apply (F := Ideal) x5 _).trans (congrArg x5 (idx3 _ 2 0 c rfl rfl ?_)))))
    show (i 2).val % 1024 = c.val
    omega

theorem refSum (i : S2x4096.Idx) (r : Fin 8192) (h0 : (i 0).val = r.val / 4096) (h1 : (i 1).val = r.val % 4096) :
    val_main_v49 (F := Ideal) x0 x1 x2 x4 x5 i = ∑ l, convRow (refP x0 x1 x2 x4) x5 r l * convRow (refP x0 x1 x2 x4) x5 r l := by
  refine (val_main_v49_apply x0 x1 x2 x4 x5 i).trans ?_
  refine (congrArg₂ (fun u v : EReal => u + v) ((val_main_cst_4_apply (F := Ideal) _).trans zeroWord) (Finset.sum_congr rfl fun k _ => ?_)).trans (zero_add _)
  refine (val_main_v48_apply (F := Ideal) x0 x1 x2 x4 x5 _).trans ?_
  have e := ref47 x0 x1 x2 x4 x5 (idx_main_v49 i k) r k h0 h1 rfl
  exact mulE e e

theorem refY (r : Fin 8192) (c : Fin 1024) : val_main_v195 (F := Ideal) x0 x1 x2 x4 x5 x6 (ix2 r c) = convOut (refP x0 x1 x2 x4) x5 x6 r c := by
  have hr := r.isLt
  have hc := c.isLt
  refine (val_main_v195_apply (F := Ideal) x0 x1 x2 x4 x5 x6 (ix2 r c)).trans ((val_main_v194_apply (F := Ideal) x0 x1 x2 x4 x5 x6 (ix2 r c)).trans ?_)
  have h0 : (idx_main_v194 (ix2 r c) 0).val = r.val / 4096 := by show (r.val * 1024 + c.val) / 4194304 = r.val / 4096; omega
  have h1 : (idx_main_v194 (ix2 r c) 1).val = r.val % 4096 := by show (r.val * 1024 + c.val) / 1024 % 4096 = r.val % 4096; omega
  have h2 : (idx_main_v194 (ix2 r c) 2).val = c.val := by show (r.val * 1024 + c.val) % 1024 = c.val; omega
  generalize idx_main_v194 (ix2 r c) = i at h0 h1 h2 ⊢
  refine (val_main_v60_apply (F := Ideal) x0 x1 x2 x4 x5 x6 i).trans ?_
  unfold convOut
  refine mulE ?_ ((val_main_v59_apply (F := Ideal) x6 i).trans ((val_main_v58_apply (F := Ideal) x6 _).trans (congrArg x6 (idx1 _ c h2))))
  refine (val_main_v57_apply (F := Ideal) x0 x1 x2 x4 x5 i).trans ?_
  refine mulE (ref47 x0 x1 x2 x4 x5 i r c h0 h1 h2) ?_
  refine (val_main_v56_apply (F := Ideal) x0 x1 x2 x4 x5 i).trans ((val_main_v55_apply (F := Ideal) x0 x1 x2 x4 x5 _).trans ?_)
  unfold scaleOf
  refine rsqrtE ?_
  refine (val_main_v54_apply (F := Ideal) x0 x1 x2 x4 x5 _).trans ?_
  refine addE ?_ ((val_main_v53_apply (F := Ideal) _).trans (val_main_cst_6_apply (F := Ideal) _))
  refine (val_main_v52_apply (F := Ideal) x0 x1 x2 x4 x5 _).trans ?_
  exact divE ((val_main_v50_apply (F := Ideal) x0 x1 x2 x4 x5 _).trans (refSum x0 x1 x2 x4 x5 _ r h0 h1)) ((val_main_v51_apply (F := Ideal) _).trans (val_main_cst_5_apply (F := Ideal) _))

/-! ## The values and the weights of the indexer's heads -/

theorem refV (r : Fin 8192) (c : Fin 256) : val_main_v202 (F := Ideal) x0 x1 x2 x4 (ix2 r c) = valOut (refP x0 x1 x2 x4) r c := by
  have hr := r.isLt
  have hc := c.isLt
  refine (val_main_v202_apply (F := Ideal) x0 x1 x2 x4 (ix2 r c)).trans ((val_main_v201_apply (F := Ideal) x0 x1 x2 x4 (ix2 r c)).trans ((val_main_v200_apply (F := Ideal) x0 x1 x2 x4 _).trans ?_))
  exact ref21 x0 x1 x2 x4 _ r _ (by show (r.val * 256 + c.val) / 1048576 = r.val / 4096; omega) (by show (r.val * 256 + c.val) / 256 % 4096 = r.val % 4096; omega)
    (by show 4352 + (r.val * 256 + c.val) % 256 = 4352 + c.val; omega)

theorem refWi (r : Fin 8192) (c : Fin 128) : val_main_v208 (F := Ideal) x0 x1 x2 x4 (ix2 r c) = wiOut (refP x0 x1 x2 x4) r c := by
  have hr := r.isLt
  have hc := c.isLt
  refine (val_main_v208_apply (F := Ideal) x0 x1 x2 x4 (ix2 r c)).trans ?_
  have h0 : (idx_main_v208 (ix2 r c) 0).val = r.val / 4096 := by show (r.val * 128 + c.val) / 524288 = r.val / 4096; omega
  have h1 : (idx_main_v208 (ix2 r c) 1).val = r.val % 4096 := by show (r.val * 128 + c.val) / 128 % 4096 = r.val % 4096; omega
  have h2 : (idx_main_v208 (ix2 r c) 2).val = c.val := by show (r.val * 128 + c.val) % 128 = c.val; omega
  generalize idx_main_v208 (ix2 r c) = i at h0 h1 h2 ⊢
  unfold val_main_v193 wiOut
  by_cases h : c.val < 16
  · rw [dif_pos h]
    refine (concatenate_apply_piece (t := S2x4096x128) 2 _ _ i 0 (by show 0 < 2; omega) S2x4096x16 _ rfl rfl 0 (by rfl)
      (ix3 (batOf r) (posOf r) (⟨c.val, h⟩ : Fin 16)) ?_ ?_).trans ?_
    · intro b hb
      match b with
      | ⟨0, _⟩ => exact h0.symm
      | ⟨1, _⟩ => exact h1.symm
      | ⟨2, _⟩ => exact absurd rfl hb
    · show 0 + c.val = (i 2).val
      omega
    · exact (val_main_v191_apply (F := Ideal) x0 x1 x2 x4 _).trans (ref21 x0 x1 x2 x4 _ r _ rfl rfl rfl)
  · rw [dif_neg h]
    refine (concatenate_apply_piece (t := S2x4096x128) 2 _ _ i 1 (by show 1 < 2; omega) S2x4096x112 _ rfl rfl 16 (by rfl)
      (ix3 (batOf r) (posOf r) (⟨c.val - 16, by omega⟩ : Fin 112)) ?_ ?_).trans ?_
    · intro b hb
      match b with
      | ⟨0, _⟩ => exact h0.symm
      | ⟨1, _⟩ => exact h1.symm
      | ⟨2, _⟩ => exact absurd rfl hb
    · show 16 + (c.val - 16) = (i 2).val
      omega
    · exact (val_main_v192_apply (F := Ideal) _).trans zeroWord

/-! ## The rotated heads -/

theorem headQ (i : S2x4096x8x128.Idx) (r : Fin 8192) (j : Fin 5712) (a b : ℕ) (h0 : (i 0).val = r.val / 4096) (h1 : (i 1).val = r.val % 4096) (ha : (i 2).val = a) (hb : (i 3).val = b) (h2 : 3072 + (a * 128 + b) = j.val) :
    val_main_v62 (F := Ideal) x0 x1 x2 x4 i = refP x0 x1 x2 x4 r j := by
  subst ha hb
  have hr := r.isLt
  have b2 : (i 2).val < 8 := (i 2).isLt
  have b3 : (i 3).val < 128 := (i 3).isLt
  refine (val_main_v62_apply (F := Ideal) x0 x1 x2 x4 i).trans ((val_main_v61_apply (F := Ideal) x0 x1 x2 x4 _).trans ?_)
  exact ref21 x0 x1 x2 x4 _ r j
    (by show ((((i 0).val * 4096 + (i 1).val) * 8 + (i 2).val) * 128 + (i 3).val) / 4194304 = r.val / 4096; omega)
    (by show ((((i 0).val * 4096 + (i 1).val) * 8 + (i 2).val) * 128 + (i 3).val) / 1024 % 4096 = r.val % 4096; omega)
    (by show 3072 + ((((i 0).val * 4096 + (i 1).val) * 8 + (i 2).val) * 128 + (i 3).val) % 1024 = j.val; omega)

theorem angQ (i : S2x4096x16.Idx) (r : Fin 8192) (h0 : (i 0).val = r.val / 4096) (h1 : (i 1).val = r.val % 4096) :
    val_main_v75 (F := Ideal) x3 i = angOf 0x41800000#32 (rowPos x3 r) (i 2).val := by
  refine (val_main_v75_apply (F := Ideal) x3 i).trans ?_
  unfold angOf angle rowPos
  refine mulE ?_ ?_
  · refine (val_main_v73_apply (F := Ideal) x3 i).trans ((val_main_v64_apply (F := Ideal) x3 _).trans ((val_main_v63_apply (F := Ideal) x3 _).trans ?_))
    exact congrArg (fun w : BitVec 32 => (FloatOps.sitofp (F := Ideal) FTy.f32 w : EReal)) (congrArg x3 (idx2 _ (batOf r) (posOf r) h0 h1))
  · refine (val_main_v74_apply (F := Ideal) i).trans ((val_main_v72_apply (F := Ideal) _).trans ((val_main_v71_apply (F := Ideal) _).trans ?_))
    unfold freqOf
    refine powE ((val_main_v70_apply (F := Ideal) _).trans (val_main_cst_8_apply (F := Ideal) _)) ?_
    refine (val_main_v69_apply (F := Ideal) _).trans ?_
    exact hdivE rfl ((val_main_v68_apply (F := Ideal) _).trans (val_main_cst_7_apply (F := Ideal) _))

theorem cosQ (i : S2x4096x1x16.Idx) (r : Fin 8192) (h0 : (i 0).val = r.val / 4096) (h1 : (i 1).val = r.val % 4096) :
    val_main_v77 (F := Ideal) x3 i = Ideal.cos (angOf 0x41800000#32 (rowPos x3 r) (i 3).val) :=
  (val_main_v77_apply (F := Ideal) x3 i).trans ((val_main_v76_apply (F := Ideal) x3 _).trans (cosE (angQ x3 _ r h0 h1)))

theorem sinQ (i : S2x4096x1x16.Idx) (r : Fin 8192) (h0 : (i 0).val = r.val / 4096) (h1 : (i 1).val = r.val % 4096) :
    val_main_v79 (F := Ideal) x3 i = Ideal.sin (angOf 0x41800000#32 (rowPos x3 r) (i 3).val) :=
  (val_main_v79_apply (F := Ideal) x3 i).trans ((val_main_v78_apply (F := Ideal) x3 _).trans (sinE (angQ x3 _ r h0 h1)))

theorem firstQ (i : S2x4096x8x16.Idx) (r : Fin 8192) (j1 j2 : Fin 5712) (a b : ℕ) (h0 : (i 0).val = r.val / 4096) (h1 : (i 1).val = r.val % 4096)
    (ha : (i 2).val = a) (hb : (i 3).val = b) (h2 : 3072 + (a * 128 + b) = j1.val) (h3 : 3072 + (a * 128 + (16 + b)) = j2.val) :
    val_main_v86 (F := Ideal) x0 x1 x2 x3 x4 i = refP x0 x1 x2 x4 r j1 * Ideal.cos (angOf 0x41800000#32 (rowPos x3 r) b) - refP x0 x1 x2 x4 r j2 * Ideal.sin (angOf 0x41800000#32 (rowPos x3 r) b) :=
  (val_main_v86_apply (F := Ideal) x0 x1 x2 x3 x4 i).trans (subE
    ((val_main_v83_apply (F := Ideal) x0 x1 x2 x3 x4 i).trans (mulE ((val_main_v80_apply (F := Ideal) x0 x1 x2 x4 i).trans (headQ x0 x1 x2 x4 _ r j1 a b h0 h1 ha hb h2)) ((val_main_v82_apply (F := Ideal) x3 i).trans ((cosQ x3 _ r h0 h1).trans (congrArg (fun z => Ideal.cos (angOf 0x41800000#32 (rowPos x3 r) z)) hb)))))
    ((val_main_v85_apply (F := Ideal) x0 x1 x2 x3 x4 i).trans (mulE ((val_main_v81_apply (F := Ideal) x0 x1 x2 x4 i).trans (headQ x0 x1 x2 x4 _ r j2 a (16 + b) h0 h1 ha (congrArg (fun z : ℕ => 16 + z) hb) h3)) ((val_main_v84_apply (F := Ideal) x3 i).trans ((sinQ x3 _ r h0 h1).trans (congrArg (fun z => Ideal.sin (angOf 0x41800000#32 (rowPos x3 r) z)) hb))))))

theorem secondQ (i : S2x4096x8x16.Idx) (r : Fin 8192) (j1 j2 : Fin 5712) (a b : ℕ) (h0 : (i 0).val = r.val / 4096) (h1 : (i 1).val = r.val % 4096)
    (ha : (i 2).val = a) (hb : (i 3).val = b) (h2 : 3072 + (a * 128 + b) = j1.val) (h3 : 3072 + (a * 128 + (16 + b)) = j2.val) :
    val_main_v91 (F := Ideal) x0 x1 x2 x3 x4 i = refP x0 x1 x2 x4 r j2 * Ideal.cos (angOf 0x41800000#32 (rowPos x3 r) b) + refP x0 x1 x2 x4 r j1 * Ideal.sin (angOf 0x41800000#32 (rowPos x3 r) b) :=
  (val_main_v91_apply (F := Ideal) x0 x1 x2 x3 x4 i).trans (addE
    ((val_main_v88_apply (F := Ideal) x0 x1 x2 x3 x4 i).trans (mulE ((val_main_v81_apply (F := Ideal) x0 x1 x2 x4 i).trans (headQ x0 x1 x2 x4 _ r j2 a (16 + b) h0 h1 ha (congrArg (fun z : ℕ => 16 + z) hb) h3)) ((val_main_v87_apply (F := Ideal) x3 i).trans ((cosQ x3 _ r h0 h1).trans (congrArg (fun z => Ideal.cos (angOf 0x41800000#32 (rowPos x3 r) z)) hb)))))
    ((val_main_v90_apply (F := Ideal) x0 x1 x2 x3 x4 i).trans (mulE ((val_main_v80_apply (F := Ideal) x0 x1 x2 x4 i).trans (headQ x0 x1 x2 x4 _ r j1 a b h0 h1 ha hb h2)) ((val_main_v89_apply (F := Ideal) x3 i).trans ((sinQ x3 _ r h0 h1).trans (congrArg (fun z => Ideal.sin (angOf 0x41800000#32 (rowPos x3 r) z)) hb))))))

/-- A lane of the queries' heads. -/
theorem ropeQ (i : S2x4096x8x128.Idx) (r : Fin 8192) (l : Fin 128) (p : Fin 128 → EReal) (o : ℕ) (ho : o + 128 ≤ 1024) (h0 : (i 0).val = r.val / 4096) (h1 : (i 1).val = r.val % 4096)
    (h3 : (i 3).val = l.val % 128) (hp : ∀ (z : Fin 128) (j : Fin 5712), 3072 + ((i 2).val * 128 + z.val % 128) = j.val → z.val / 128 = l.val / 128 → p z = refP x0 x1 x2 x4 r j) :
    val_main_v93 (F := Ideal) x0 x1 x2 x3 x4 i = ropeLane 128 16 (angOf 0x41800000#32 (rowPos x3 r)) p l := by
  have b2 : (i 2).val < 8 := (i 2).isLt
  have hll := l.isLt
  unfold val_main_v93 ropeLane
  by_cases c1 : l.val % 128 < 16
  · rw [if_pos c1]
    refine (concatenate_apply_piece (t := S2x4096x8x128) 3 _ _ i 0 (by show 0 < 3; omega) S2x4096x8x16 _ rfl rfl 0 (by rfl)
      (ix4 (batOf r) (posOf r) (⟨(i 2).val, (i 2).isLt⟩ : Fin 8) (⟨(i 3).val, by omega⟩ : Fin 16)) ?_ ?_).trans ?_
    · intro b hb
      match b with
      | ⟨0, _⟩ => exact h0.symm
      | ⟨1, _⟩ => exact h1.symm
      | ⟨2, _⟩ => rfl
      | ⟨3, _⟩ => exact absurd rfl hb
    · show 0 + ((i 3).val) = (i 3).val
      omega
    · refine (firstQ x0 x1 x2 x3 x4 _ r ⟨3072 + ((i 2).val * 128 + (i 3).val), by omega⟩ ⟨3072 + ((i 2).val * 128 + (16 + (i 3).val)), by omega⟩ (i 2).val (i 3).val rfl rfl rfl rfl rfl rfl).trans ?_
      rw [hp l ⟨3072 + ((i 2).val * 128 + (i 3).val), by omega⟩ (by show 3072 + ((i 2).val * 128 + l.val % 128) = 3072 + ((i 2).val * 128 + (i 3).val); omega) rfl,
        hp ⟨(l.val + 16) % 128, Nat.mod_lt _ (by omega)⟩ ⟨3072 + ((i 2).val * 128 + (16 + (i 3).val)), by omega⟩
          (by show 3072 + ((i 2).val * 128 + (l.val + 16) % 128 % 128) = 3072 + ((i 2).val * 128 + (16 + (i 3).val)); omega) (by show (l.val + 16) % 128 / 128 = l.val / 128; omega),
        show l.val % 16 = (i 3).val by omega]
  · rw [if_neg c1]
    by_cases c2 : l.val % 128 < 2 * 16
    · rw [if_pos c2]
      refine (concatenate_apply_piece (t := S2x4096x8x128) 3 _ _ i 1 (by show 1 < 3; omega) S2x4096x8x16 _ rfl rfl 16 (by rfl)
        (ix4 (batOf r) (posOf r) (⟨(i 2).val, (i 2).isLt⟩ : Fin 8) (⟨(i 3).val - 16, by omega⟩ : Fin 16)) ?_ ?_).trans ?_
      · intro b hb
        match b with
        | ⟨0, _⟩ => exact h0.symm
        | ⟨1, _⟩ => exact h1.symm
        | ⟨2, _⟩ => rfl
        | ⟨3, _⟩ => exact absurd rfl hb
      · show 16 + ((i 3).val - 16) = (i 3).val
        omega
      · refine (secondQ x0 x1 x2 x3 x4 _ r ⟨3072 + ((i 2).val * 128 + ((i 3).val - 16)), by omega⟩ ⟨3072 + ((i 2).val * 128 + (16 + ((i 3).val - 16))), by omega⟩ (i 2).val ((i 3).val - 16) rfl rfl rfl rfl rfl rfl).trans ?_
        rw [hp l ⟨3072 + ((i 2).val * 128 + (16 + ((i 3).val - 16))), by omega⟩ (by show 3072 + ((i 2).val * 128 + l.val % 128) = 3072 + ((i 2).val * 128 + (16 + ((i 3).val - 16))); omega) rfl,
          hp ⟨(l.val + 128 - 16) % 128, Nat.mod_lt _ (by omega)⟩ ⟨3072 + ((i 2).val * 128 + ((i 3).val - 16)), by omega⟩
            (by show 3072 + ((i 2).val * 128 + (l.val + 128 - 16) % 128 % 128) = 3072 + ((i 2).val * 128 + ((i 3).val - 16)); omega) (by show (l.val + 128 - 16) % 128 / 128 = l.val / 128; omega),
          show l.val % 16 = (i 3).val - 16 by omega]
    · rw [if_neg c2]
      refine (concatenate_apply_piece (t := S2x4096x8x128) 3 _ _ i 2 (by show 2 < 3; omega) S2x4096x8x96 _ rfl rfl 32 (by rfl)
        (ix4 (batOf r) (posOf r) (⟨(i 2).val, (i 2).isLt⟩ : Fin 8) (⟨(i 3).val - 32, by omega⟩ : Fin 96)) ?_ ?_).trans ?_
      · intro b hb
        match b with
        | ⟨0, _⟩ => exact h0.symm
        | ⟨1, _⟩ => exact h1.symm
        | ⟨2, _⟩ => rfl
        | ⟨3, _⟩ => exact absurd rfl hb
      · show 32 + ((i 3).val - 32) = (i 3).val
        omega
      · refine (val_main_v92_apply (F := Ideal) x0 x1 x2 x4 _).trans ?_
        refine Eq.trans (headQ x0 x1 x2 x4 _ r ⟨3072 + ((i 2).val * 128 + (32 + ((i 3).val - 32))), by omega⟩ (i 2).val (32 + ((i 3).val - 32)) ?_ ?_ ?_ ?_ rfl) ?_
        · rfl
        · rfl
        · rfl
        · rfl
        exact (hp l _ (by show 3072 + ((i 2).val * 128 + l.val % 128) = 3072 + ((i 2).val * 128 + (32 + ((i 3).val - 32))); omega) rfl).symm

theorem headK (i : S2x4096x2x128.Idx) (r : Fin 8192) (j : Fin 5712) (a b : ℕ) (h0 : (i 0).val = r.val / 4096) (h1 : (i 1).val = r.val % 4096) (ha : (i 2).val = a) (hb : (i 3).val = b) (h2 : 4096 + (a * 128 + b) = j.val) :
    val_main_v97 (F := Ideal) x0 x1 x2 x4 i = refP x0 x1 x2 x4 r j := by
  subst ha hb
  have hr := r.isLt
  have b2 : (i 2).val < 2 := (i 2).isLt
  have b3 : (i 3).val < 128 := (i 3).isLt
  refine (val_main_v97_apply (F := Ideal) x0 x1 x2 x4 i).trans ((val_main_v96_apply (F := Ideal) x0 x1 x2 x4 _).trans ?_)
  exact ref21 x0 x1 x2 x4 _ r j
    (by show ((((i 0).val * 4096 + (i 1).val) * 2 + (i 2).val) * 128 + (i 3).val) / 1048576 = r.val / 4096; omega)
    (by show ((((i 0).val * 4096 + (i 1).val) * 2 + (i 2).val) * 128 + (i 3).val) / 256 % 4096 = r.val % 4096; omega)
    (by show 4096 + ((((i 0).val * 4096 + (i 1).val) * 2 + (i 2).val) * 128 + (i 3).val) % 256 = j.val; omega)

theorem angK (i : S2x4096x16.Idx) (r : Fin 8192) (h0 : (i 0).val = r.val / 4096) (h1 : (i 1).val = r.val % 4096) :
    val_main_v110 (F := Ideal) x3 i = angOf 0x41800000#32 (rowPos x3 r) (i 2).val := by
  refine (val_main_v110_apply (F := Ideal) x3 i).trans ?_
  unfold angOf angle rowPos
  refine mulE ?_ ?_
  · refine (val_main_v108_apply (F := Ideal) x3 i).trans ((val_main_v99_apply (F := Ideal) x3 _).trans ((val_main_v98_apply (F := Ideal) x3 _).trans ?_))
    exact congrArg (fun w : BitVec 32 => (FloatOps.sitofp (F := Ideal) FTy.f32 w : EReal)) (congrArg x3 (idx2 _ (batOf r) (posOf r) h0 h1))
  · refine (val_main_v109_apply (F := Ideal) i).trans ((val_main_v107_apply (F := Ideal) _).trans ((val_main_v106_apply (F := Ideal) _).trans ?_))
    unfold freqOf
    refine powE ((val_main_v105_apply (F := Ideal) _).trans (val_main_cst_11_apply (F := Ideal) _)) ?_
    refine (val_main_v104_apply (F := Ideal) _).trans ?_
    exact hdivE rfl ((val_main_v103_apply (F := Ideal) _).trans (val_main_cst_10_apply (F := Ideal) _))

theorem cosK (i : S2x4096x1x16.Idx) (r : Fin 8192) (h0 : (i 0).val = r.val / 4096) (h1 : (i 1).val = r.val % 4096) :
    val_main_v112 (F := Ideal) x3 i = Ideal.cos (angOf 0x41800000#32 (rowPos x3 r) (i 3).val) :=
  (val_main_v112_apply (F := Ideal) x3 i).trans ((val_main_v111_apply (F := Ideal) x3 _).trans (cosE (angK x3 _ r h0 h1)))

theorem sinK (i : S2x4096x1x16.Idx) (r : Fin 8192) (h0 : (i 0).val = r.val / 4096) (h1 : (i 1).val = r.val % 4096) :
    val_main_v114 (F := Ideal) x3 i = Ideal.sin (angOf 0x41800000#32 (rowPos x3 r) (i 3).val) :=
  (val_main_v114_apply (F := Ideal) x3 i).trans ((val_main_v113_apply (F := Ideal) x3 _).trans (sinE (angK x3 _ r h0 h1)))

theorem firstK (i : S2x4096x2x16.Idx) (r : Fin 8192) (j1 j2 : Fin 5712) (a b : ℕ) (h0 : (i 0).val = r.val / 4096) (h1 : (i 1).val = r.val % 4096)
    (ha : (i 2).val = a) (hb : (i 3).val = b) (h2 : 4096 + (a * 128 + b) = j1.val) (h3 : 4096 + (a * 128 + (16 + b)) = j2.val) :
    val_main_v121 (F := Ideal) x0 x1 x2 x3 x4 i = refP x0 x1 x2 x4 r j1 * Ideal.cos (angOf 0x41800000#32 (rowPos x3 r) b) - refP x0 x1 x2 x4 r j2 * Ideal.sin (angOf 0x41800000#32 (rowPos x3 r) b) :=
  (val_main_v121_apply (F := Ideal) x0 x1 x2 x3 x4 i).trans (subE
    ((val_main_v118_apply (F := Ideal) x0 x1 x2 x3 x4 i).trans (mulE ((val_main_v115_apply (F := Ideal) x0 x1 x2 x4 i).trans (headK x0 x1 x2 x4 _ r j1 a b h0 h1 ha hb h2)) ((val_main_v117_apply (F := Ideal) x3 i).trans ((cosK x3 _ r h0 h1).trans (congrArg (fun z => Ideal.cos (angOf 0x41800000#32 (rowPos x3 r) z)) hb)))))
    ((val_main_v120_apply (F := Ideal) x0 x1 x2 x3 x4 i).trans (mulE ((val_main_v116_apply (F := Ideal) x0 x1 x2 x4 i).trans (headK x0 x1 x2 x4 _ r j2 a (16 + b) h0 h1 ha (congrArg (fun z : ℕ => 16 + z) hb) h3)) ((val_main_v119_apply (F := Ideal) x3 i).trans ((sinK x3 _ r h0 h1).trans (congrArg (fun z => Ideal.sin (angOf 0x41800000#32 (rowPos x3 r) z)) hb))))))

theorem secondK (i : S2x4096x2x16.Idx) (r : Fin 8192) (j1 j2 : Fin 5712) (a b : ℕ) (h0 : (i 0).val = r.val / 4096) (h1 : (i 1).val = r.val % 4096)
    (ha : (i 2).val = a) (hb : (i 3).val = b) (h2 : 4096 + (a * 128 + b) = j1.val) (h3 : 4096 + (a * 128 + (16 + b)) = j2.val) :
    val_main_v126 (F := Ideal) x0 x1 x2 x3 x4 i = refP x0 x1 x2 x4 r j2 * Ideal.cos (angOf 0x41800000#32 (rowPos x3 r) b) + refP x0 x1 x2 x4 r j1 * Ideal.sin (angOf 0x41800000#32 (rowPos x3 r) b) :=
  (val_main_v126_apply (F := Ideal) x0 x1 x2 x3 x4 i).trans (addE
    ((val_main_v123_apply (F := Ideal) x0 x1 x2 x3 x4 i).trans (mulE ((val_main_v116_apply (F := Ideal) x0 x1 x2 x4 i).trans (headK x0 x1 x2 x4 _ r j2 a (16 + b) h0 h1 ha (congrArg (fun z : ℕ => 16 + z) hb) h3)) ((val_main_v122_apply (F := Ideal) x3 i).trans ((cosK x3 _ r h0 h1).trans (congrArg (fun z => Ideal.cos (angOf 0x41800000#32 (rowPos x3 r) z)) hb)))))
    ((val_main_v125_apply (F := Ideal) x0 x1 x2 x3 x4 i).trans (mulE ((val_main_v115_apply (F := Ideal) x0 x1 x2 x4 i).trans (headK x0 x1 x2 x4 _ r j1 a b h0 h1 ha hb h2)) ((val_main_v124_apply (F := Ideal) x3 i).trans ((sinK x3 _ r h0 h1).trans (congrArg (fun z => Ideal.sin (angOf 0x41800000#32 (rowPos x3 r) z)) hb))))))

/-- A lane of the keys' heads. -/
theorem ropeK (i : S2x4096x2x128.Idx) (r : Fin 8192) (l : Fin 128) (p : Fin 128 → EReal) (o : ℕ) (ho : o + 128 ≤ 256) (h0 : (i 0).val = r.val / 4096) (h1 : (i 1).val = r.val % 4096)
    (h3 : (i 3).val = l.val % 128) (hp : ∀ (z : Fin 128) (j : Fin 5712), 4096 + ((i 2).val * 128 + z.val % 128) = j.val → z.val / 128 = l.val / 128 → p z = refP x0 x1 x2 x4 r j) :
    val_main_v128 (F := Ideal) x0 x1 x2 x3 x4 i = ropeLane 128 16 (angOf 0x41800000#32 (rowPos x3 r)) p l := by
  have b2 : (i 2).val < 2 := (i 2).isLt
  have hll := l.isLt
  unfold val_main_v128 ropeLane
  by_cases c1 : l.val % 128 < 16
  · rw [if_pos c1]
    refine (concatenate_apply_piece (t := S2x4096x2x128) 3 _ _ i 0 (by show 0 < 3; omega) S2x4096x2x16 _ rfl rfl 0 (by rfl)
      (ix4 (batOf r) (posOf r) (⟨(i 2).val, (i 2).isLt⟩ : Fin 2) (⟨(i 3).val, by omega⟩ : Fin 16)) ?_ ?_).trans ?_
    · intro b hb
      match b with
      | ⟨0, _⟩ => exact h0.symm
      | ⟨1, _⟩ => exact h1.symm
      | ⟨2, _⟩ => rfl
      | ⟨3, _⟩ => exact absurd rfl hb
    · show 0 + ((i 3).val) = (i 3).val
      omega
    · refine (firstK x0 x1 x2 x3 x4 _ r ⟨4096 + ((i 2).val * 128 + (i 3).val), by omega⟩ ⟨4096 + ((i 2).val * 128 + (16 + (i 3).val)), by omega⟩ (i 2).val (i 3).val rfl rfl rfl rfl rfl rfl).trans ?_
      rw [hp l ⟨4096 + ((i 2).val * 128 + (i 3).val), by omega⟩ (by show 4096 + ((i 2).val * 128 + l.val % 128) = 4096 + ((i 2).val * 128 + (i 3).val); omega) rfl,
        hp ⟨(l.val + 16) % 128, Nat.mod_lt _ (by omega)⟩ ⟨4096 + ((i 2).val * 128 + (16 + (i 3).val)), by omega⟩
          (by show 4096 + ((i 2).val * 128 + (l.val + 16) % 128 % 128) = 4096 + ((i 2).val * 128 + (16 + (i 3).val)); omega) (by show (l.val + 16) % 128 / 128 = l.val / 128; omega),
        show l.val % 16 = (i 3).val by omega]
  · rw [if_neg c1]
    by_cases c2 : l.val % 128 < 2 * 16
    · rw [if_pos c2]
      refine (concatenate_apply_piece (t := S2x4096x2x128) 3 _ _ i 1 (by show 1 < 3; omega) S2x4096x2x16 _ rfl rfl 16 (by rfl)
        (ix4 (batOf r) (posOf r) (⟨(i 2).val, (i 2).isLt⟩ : Fin 2) (⟨(i 3).val - 16, by omega⟩ : Fin 16)) ?_ ?_).trans ?_
      · intro b hb
        match b with
        | ⟨0, _⟩ => exact h0.symm
        | ⟨1, _⟩ => exact h1.symm
        | ⟨2, _⟩ => rfl
        | ⟨3, _⟩ => exact absurd rfl hb
      · show 16 + ((i 3).val - 16) = (i 3).val
        omega
      · refine (secondK x0 x1 x2 x3 x4 _ r ⟨4096 + ((i 2).val * 128 + ((i 3).val - 16)), by omega⟩ ⟨4096 + ((i 2).val * 128 + (16 + ((i 3).val - 16))), by omega⟩ (i 2).val ((i 3).val - 16) rfl rfl rfl rfl rfl rfl).trans ?_
        rw [hp l ⟨4096 + ((i 2).val * 128 + (16 + ((i 3).val - 16))), by omega⟩ (by show 4096 + ((i 2).val * 128 + l.val % 128) = 4096 + ((i 2).val * 128 + (16 + ((i 3).val - 16))); omega) rfl,
          hp ⟨(l.val + 128 - 16) % 128, Nat.mod_lt _ (by omega)⟩ ⟨4096 + ((i 2).val * 128 + ((i 3).val - 16)), by omega⟩
            (by show 4096 + ((i 2).val * 128 + (l.val + 128 - 16) % 128 % 128) = 4096 + ((i 2).val * 128 + ((i 3).val - 16)); omega) (by show (l.val + 128 - 16) % 128 / 128 = l.val / 128; omega),
          show l.val % 16 = (i 3).val - 16 by omega]
    · rw [if_neg c2]
      refine (concatenate_apply_piece (t := S2x4096x2x128) 3 _ _ i 2 (by show 2 < 3; omega) S2x4096x2x96 _ rfl rfl 32 (by rfl)
        (ix4 (batOf r) (posOf r) (⟨(i 2).val, (i 2).isLt⟩ : Fin 2) (⟨(i 3).val - 32, by omega⟩ : Fin 96)) ?_ ?_).trans ?_
      · intro b hb
        match b with
        | ⟨0, _⟩ => exact h0.symm
        | ⟨1, _⟩ => exact h1.symm
        | ⟨2, _⟩ => rfl
        | ⟨3, _⟩ => exact absurd rfl hb
      · show 32 + ((i 3).val - 32) = (i 3).val
        omega
      · refine (val_main_v127_apply (F := Ideal) x0 x1 x2 x4 _).trans ?_
        refine Eq.trans (headK x0 x1 x2 x4 _ r ⟨4096 + ((i 2).val * 128 + (32 + ((i 3).val - 32))), by omega⟩ (i 2).val (32 + ((i 3).val - 32)) ?_ ?_ ?_ ?_ rfl) ?_
        · rfl
        · rfl
        · rfl
        · rfl
        exact (hp l _ (by show 4096 + ((i 2).val * 128 + l.val % 128) = 4096 + ((i 2).val * 128 + (32 + ((i 3).val - 32))); omega) rfl).symm

theorem headI (i : S2x4096x16x64.Idx) (r : Fin 8192) (j : Fin 5712) (a b : ℕ) (h0 : (i 0).val = r.val / 4096) (h1 : (i 1).val = r.val % 4096) (ha : (i 2).val = a) (hb : (i 3).val = b) (h2 : 4608 + (a * 64 + b) = j.val) :
    val_main_v130 (F := Ideal) x0 x1 x2 x4 i = refP x0 x1 x2 x4 r j := by
  subst ha hb
  have hr := r.isLt
  have b2 : (i 2).val < 16 := (i 2).isLt
  have b3 : (i 3).val < 64 := (i 3).isLt
  refine (val_main_v130_apply (F := Ideal) x0 x1 x2 x4 i).trans ((val_main_v129_apply (F := Ideal) x0 x1 x2 x4 _).trans ?_)
  exact ref21 x0 x1 x2 x4 _ r j
    (by show ((((i 0).val * 4096 + (i 1).val) * 16 + (i 2).val) * 64 + (i 3).val) / 4194304 = r.val / 4096; omega)
    (by show ((((i 0).val * 4096 + (i 1).val) * 16 + (i 2).val) * 64 + (i 3).val) / 1024 % 4096 = r.val % 4096; omega)
    (by show 4608 + ((((i 0).val * 4096 + (i 1).val) * 16 + (i 2).val) * 64 + (i 3).val) % 1024 = j.val; omega)

theorem angI (i : S2x4096x8.Idx) (r : Fin 8192) (h0 : (i 0).val = r.val / 4096) (h1 : (i 1).val = r.val % 4096) :
    val_main_v143 (F := Ideal) x3 i = angOf 0x41000000#32 (rowPos x3 r) (i 2).val := by
  refine (val_main_v143_apply (F := Ideal) x3 i).trans ?_
  unfold angOf angle rowPos
  refine mulE ?_ ?_
  · refine (val_main_v141_apply (F := Ideal) x3 i).trans ((val_main_v132_apply (F := Ideal) x3 _).trans ((val_main_v131_apply (F := Ideal) x3 _).trans ?_))
    exact congrArg (fun w : BitVec 32 => (FloatOps.sitofp (F := Ideal) FTy.f32 w : EReal)) (congrArg x3 (idx2 _ (batOf r) (posOf r) h0 h1))
  · refine (val_main_v142_apply (F := Ideal) i).trans ((val_main_v140_apply (F := Ideal) _).trans ((val_main_v139_apply (F := Ideal) _).trans ?_))
    unfold freqOf
    refine powE ((val_main_v138_apply (F := Ideal) _).trans (val_main_cst_13_apply (F := Ideal) _)) ?_
    refine (val_main_v137_apply (F := Ideal) _).trans ?_
    exact hdivE rfl ((val_main_v136_apply (F := Ideal) _).trans (val_main_cst_12_apply (F := Ideal) _))

theorem cosI (i : S2x4096x1x8.Idx) (r : Fin 8192) (h0 : (i 0).val = r.val / 4096) (h1 : (i 1).val = r.val % 4096) :
    val_main_v145 (F := Ideal) x3 i = Ideal.cos (angOf 0x41000000#32 (rowPos x3 r) (i 3).val) :=
  (val_main_v145_apply (F := Ideal) x3 i).trans ((val_main_v144_apply (F := Ideal) x3 _).trans (cosE (angI x3 _ r h0 h1)))

theorem sinI (i : S2x4096x1x8.Idx) (r : Fin 8192) (h0 : (i 0).val = r.val / 4096) (h1 : (i 1).val = r.val % 4096) :
    val_main_v147 (F := Ideal) x3 i = Ideal.sin (angOf 0x41000000#32 (rowPos x3 r) (i 3).val) :=
  (val_main_v147_apply (F := Ideal) x3 i).trans ((val_main_v146_apply (F := Ideal) x3 _).trans (sinE (angI x3 _ r h0 h1)))

theorem firstI (i : S2x4096x16x8.Idx) (r : Fin 8192) (j1 j2 : Fin 5712) (a b : ℕ) (h0 : (i 0).val = r.val / 4096) (h1 : (i 1).val = r.val % 4096)
    (ha : (i 2).val = a) (hb : (i 3).val = b) (h2 : 4608 + (a * 64 + b) = j1.val) (h3 : 4608 + (a * 64 + (8 + b)) = j2.val) :
    val_main_v154 (F := Ideal) x0 x1 x2 x3 x4 i = refP x0 x1 x2 x4 r j1 * Ideal.cos (angOf 0x41000000#32 (rowPos x3 r) b) - refP x0 x1 x2 x4 r j2 * Ideal.sin (angOf 0x41000000#32 (rowPos x3 r) b) :=
  (val_main_v154_apply (F := Ideal) x0 x1 x2 x3 x4 i).trans (subE
    ((val_main_v151_apply (F := Ideal) x0 x1 x2 x3 x4 i).trans (mulE ((val_main_v148_apply (F := Ideal) x0 x1 x2 x4 i).trans (headI x0 x1 x2 x4 _ r j1 a b h0 h1 ha hb h2)) ((val_main_v150_apply (F := Ideal) x3 i).trans ((cosI x3 _ r h0 h1).trans (congrArg (fun z => Ideal.cos (angOf 0x41000000#32 (rowPos x3 r) z)) hb)))))
    ((val_main_v153_apply (F := Ideal) x0 x1 x2 x3 x4 i).trans (mulE ((val_main_v149_apply (F := Ideal) x0 x1 x2 x4 i).trans (headI x0 x1 x2 x4 _ r j2 a (8 + b) h0 h1 ha (congrArg (fun z : ℕ => 8 + z) hb) h3)) ((val_main_v152_apply (F := Ideal) x3 i).trans ((sinI x3 _ r h0 h1).trans (congrArg (fun z => Ideal.sin (angOf 0x41000000#32 (rowPos x3 r) z)) hb))))))

theorem secondI (i : S2x4096x16x8.Idx) (r : Fin 8192) (j1 j2 : Fin 5712) (a b : ℕ) (h0 : (i 0).val = r.val / 4096) (h1 : (i 1).val = r.val % 4096)
    (ha : (i 2).val = a) (hb : (i 3).val = b) (h2 : 4608 + (a * 64 + b) = j1.val) (h3 : 4608 + (a * 64 + (8 + b)) = j2.val) :
    val_main_v159 (F := Ideal) x0 x1 x2 x3 x4 i = refP x0 x1 x2 x4 r j2 * Ideal.cos (angOf 0x41000000#32 (rowPos x3 r) b) + refP x0 x1 x2 x4 r j1 * Ideal.sin (angOf 0x41000000#32 (rowPos x3 r) b) :=
  (val_main_v159_apply (F := Ideal) x0 x1 x2 x3 x4 i).trans (addE
    ((val_main_v156_apply (F := Ideal) x0 x1 x2 x3 x4 i).trans (mulE ((val_main_v149_apply (F := Ideal) x0 x1 x2 x4 i).trans (headI x0 x1 x2 x4 _ r j2 a (8 + b) h0 h1 ha (congrArg (fun z : ℕ => 8 + z) hb) h3)) ((val_main_v155_apply (F := Ideal) x3 i).trans ((cosI x3 _ r h0 h1).trans (congrArg (fun z => Ideal.cos (angOf 0x41000000#32 (rowPos x3 r) z)) hb)))))
    ((val_main_v158_apply (F := Ideal) x0 x1 x2 x3 x4 i).trans (mulE ((val_main_v148_apply (F := Ideal) x0 x1 x2 x4 i).trans (headI x0 x1 x2 x4 _ r j1 a b h0 h1 ha hb h2)) ((val_main_v157_apply (F := Ideal) x3 i).trans ((sinI x3 _ r h0 h1).trans (congrArg (fun z => Ideal.sin (angOf 0x41000000#32 (rowPos x3 r) z)) hb))))))

/-- A lane of the indexer's queries' heads. -/
theorem ropeI (i : S2x4096x16x64.Idx) (r : Fin 8192) (l : Fin 128) (p : Fin 128 → EReal) (o : ℕ) (ho : o + 128 ≤ 1024) (h0 : (i 0).val = r.val / 4096) (h1 : (i 1).val = r.val % 4096)
    (h3 : (i 3).val = l.val % 64) (hp : ∀ (z : Fin 128) (j : Fin 5712), 4608 + ((i 2).val * 64 + z.val % 64) = j.val → z.val / 64 = l.val / 64 → p z = refP x0 x1 x2 x4 r j) :
    val_main_v161 (F := Ideal) x0 x1 x2 x3 x4 i = ropeLane 64 8 (angOf 0x41000000#32 (rowPos x3 r)) p l := by
  have b2 : (i 2).val < 16 := (i 2).isLt
  have hll := l.isLt
  unfold val_main_v161 ropeLane
  by_cases c1 : l.val % 64 < 8
  · rw [if_pos c1]
    refine (concatenate_apply_piece (t := S2x4096x16x64) 3 _ _ i 0 (by show 0 < 3; omega) S2x4096x16x8 _ rfl rfl 0 (by rfl)
      (ix4 (batOf r) (posOf r) (⟨(i 2).val, (i 2).isLt⟩ : Fin 16) (⟨(i 3).val, by omega⟩ : Fin 8)) ?_ ?_).trans ?_
    · intro b hb
      match b with
      | ⟨0, _⟩ => exact h0.symm
      | ⟨1, _⟩ => exact h1.symm
      | ⟨2, _⟩ => rfl
      | ⟨3, _⟩ => exact absurd rfl hb
    · show 0 + ((i 3).val) = (i 3).val
      omega
    · refine (firstI x0 x1 x2 x3 x4 _ r ⟨4608 + ((i 2).val * 64 + (i 3).val), by omega⟩ ⟨4608 + ((i 2).val * 64 + (8 + (i 3).val)), by omega⟩ (i 2).val (i 3).val rfl rfl rfl rfl rfl rfl).trans ?_
      rw [hp l ⟨4608 + ((i 2).val * 64 + (i 3).val), by omega⟩ (by show 4608 + ((i 2).val * 64 + l.val % 64) = 4608 + ((i 2).val * 64 + (i 3).val); omega) rfl,
        hp ⟨(l.val + 8) % 128, Nat.mod_lt _ (by omega)⟩ ⟨4608 + ((i 2).val * 64 + (8 + (i 3).val)), by omega⟩
          (by show 4608 + ((i 2).val * 64 + (l.val + 8) % 128 % 64) = 4608 + ((i 2).val * 64 + (8 + (i 3).val)); omega) (by show (l.val + 8) % 128 / 64 = l.val / 64; omega),
        show l.val % 8 = (i 3).val by omega]
  · rw [if_neg c1]
    by_cases c2 : l.val % 64 < 2 * 8
    · rw [if_pos c2]
      refine (concatenate_apply_piece (t := S2x4096x16x64) 3 _ _ i 1 (by show 1 < 3; omega) S2x4096x16x8 _ rfl rfl 8 (by rfl)
        (ix4 (batOf r) (posOf r) (⟨(i 2).val, (i 2).isLt⟩ : Fin 16) (⟨(i 3).val - 8, by omega⟩ : Fin 8)) ?_ ?_).trans ?_
      · intro b hb
        match b with
        | ⟨0, _⟩ => exact h0.symm
        | ⟨1, _⟩ => exact h1.symm
        | ⟨2, _⟩ => rfl
        | ⟨3, _⟩ => exact absurd rfl hb
      · show 8 + ((i 3).val - 8) = (i 3).val
        omega
      · refine (secondI x0 x1 x2 x3 x4 _ r ⟨4608 + ((i 2).val * 64 + ((i 3).val - 8)), by omega⟩ ⟨4608 + ((i 2).val * 64 + (8 + ((i 3).val - 8))), by omega⟩ (i 2).val ((i 3).val - 8) rfl rfl rfl rfl rfl rfl).trans ?_
        rw [hp l ⟨4608 + ((i 2).val * 64 + (8 + ((i 3).val - 8))), by omega⟩ (by show 4608 + ((i 2).val * 64 + l.val % 64) = 4608 + ((i 2).val * 64 + (8 + ((i 3).val - 8))); omega) rfl,
          hp ⟨(l.val + 128 - 8) % 128, Nat.mod_lt _ (by omega)⟩ ⟨4608 + ((i 2).val * 64 + ((i 3).val - 8)), by omega⟩
            (by show 4608 + ((i 2).val * 64 + (l.val + 128 - 8) % 128 % 64) = 4608 + ((i 2).val * 64 + ((i 3).val - 8)); omega) (by show (l.val + 128 - 8) % 128 / 64 = l.val / 64; omega),
          show l.val % 8 = (i 3).val - 8 by omega]
    · rw [if_neg c2]
      refine (concatenate_apply_piece (t := S2x4096x16x64) 3 _ _ i 2 (by show 2 < 3; omega) S2x4096x16x48 _ rfl rfl 16 (by rfl)
        (ix4 (batOf r) (posOf r) (⟨(i 2).val, (i 2).isLt⟩ : Fin 16) (⟨(i 3).val - 16, by omega⟩ : Fin 48)) ?_ ?_).trans ?_
      · intro b hb
        match b with
        | ⟨0, _⟩ => exact h0.symm
        | ⟨1, _⟩ => exact h1.symm
        | ⟨2, _⟩ => rfl
        | ⟨3, _⟩ => exact absurd rfl hb
      · show 16 + ((i 3).val - 16) = (i 3).val
        omega
      · refine (val_main_v160_apply (F := Ideal) x0 x1 x2 x4 _).trans ?_
        refine Eq.trans (headI x0 x1 x2 x4 _ r ⟨4608 + ((i 2).val * 64 + (16 + ((i 3).val - 16))), by omega⟩ (i 2).val (16 + ((i 3).val - 16)) ?_ ?_ ?_ ?_ rfl) ?_
        · rfl
        · rfl
        · rfl
        · rfl
        exact (hp l _ (by show 4608 + ((i 2).val * 64 + l.val % 64) = 4608 + ((i 2).val * 64 + (16 + ((i 3).val - 16))); omega) rfl).symm

theorem headJ (i : S2x4096x1x64.Idx) (r : Fin 8192) (j : Fin 5712) (a b : ℕ) (h0 : (i 0).val = r.val / 4096) (h1 : (i 1).val = r.val % 4096) (ha : (i 2).val = a) (hb : (i 3).val = b) (h2 : 5632 + (a * 64 + b) = j.val) :
    val_main_v163 (F := Ideal) x0 x1 x2 x4 i = refP x0 x1 x2 x4 r j := by
  subst ha hb
  have hr := r.isLt
  have b2 : (i 2).val < 1 := (i 2).isLt
  have b3 : (i 3).val < 64 := (i 3).isLt
  refine (val_main_v163_apply (F := Ideal) x0 x1 x2 x4 i).trans ((val_main_v162_apply (F := Ideal) x0 x1 x2 x4 _).trans ?_)
  exact ref21 x0 x1 x2 x4 _ r j
    (by show ((((i 0).val * 4096 + (i 1).val) * 1 + (i 2).val) * 64 + (i 3).val) / 262144 = r.val / 4096; omega)
    (by show ((((i 0).val * 4096 + (i 1).val) * 1 + (i 2).val) * 64 + (i 3).val) / 64 % 4096 = r.val % 4096; omega)
    (by show 5632 + ((((i 0).val * 4096 + (i 1).val) * 1 + (i 2).val) * 64 + (i 3).val) % 64 = j.val; omega)

theorem angJ (i : S2x4096x8.Idx) (r : Fin 8192) (h0 : (i 0).val = r.val / 4096) (h1 : (i 1).val = r.val % 4096) :
    val_main_v176 (F := Ideal) x3 i = angOf 0x41000000#32 (rowPos x3 r) (i 2).val := by
  refine (val_main_v176_apply (F := Ideal) x3 i).trans ?_
  unfold angOf angle rowPos
  refine mulE ?_ ?_
  · refine (val_main_v174_apply (F := Ideal) x3 i).trans ((val_main_v165_apply (F := Ideal) x3 _).trans ((val_main_v164_apply (F := Ideal) x3 _).trans ?_))
    exact congrArg (fun w : BitVec 32 => (FloatOps.sitofp (F := Ideal) FTy.f32 w : EReal)) (congrArg x3 (idx2 _ (batOf r) (posOf r) h0 h1))
  · refine (val_main_v175_apply (F := Ideal) i).trans ((val_main_v173_apply (F := Ideal) _).trans ((val_main_v172_apply (F := Ideal) _).trans ?_))
    unfold freqOf
    refine powE ((val_main_v171_apply (F := Ideal) _).trans (val_main_cst_15_apply (F := Ideal) _)) ?_
    refine (val_main_v170_apply (F := Ideal) _).trans ?_
    exact hdivE rfl ((val_main_v169_apply (F := Ideal) _).trans (val_main_cst_14_apply (F := Ideal) _))

theorem cosJ (i : S2x4096x1x8.Idx) (r : Fin 8192) (h0 : (i 0).val = r.val / 4096) (h1 : (i 1).val = r.val % 4096) :
    val_main_v178 (F := Ideal) x3 i = Ideal.cos (angOf 0x41000000#32 (rowPos x3 r) (i 3).val) :=
  (val_main_v178_apply (F := Ideal) x3 i).trans ((val_main_v177_apply (F := Ideal) x3 _).trans (cosE (angJ x3 _ r h0 h1)))

theorem sinJ (i : S2x4096x1x8.Idx) (r : Fin 8192) (h0 : (i 0).val = r.val / 4096) (h1 : (i 1).val = r.val % 4096) :
    val_main_v180 (F := Ideal) x3 i = Ideal.sin (angOf 0x41000000#32 (rowPos x3 r) (i 3).val) :=
  (val_main_v180_apply (F := Ideal) x3 i).trans ((val_main_v179_apply (F := Ideal) x3 _).trans (sinE (angJ x3 _ r h0 h1)))

theorem firstJ (i : S2x4096x1x8.Idx) (r : Fin 8192) (j1 j2 : Fin 5712) (a b : ℕ) (h0 : (i 0).val = r.val / 4096) (h1 : (i 1).val = r.val % 4096)
    (ha : (i 2).val = a) (hb : (i 3).val = b) (h2 : 5632 + (a * 64 + b) = j1.val) (h3 : 5632 + (a * 64 + (8 + b)) = j2.val) :
    val_main_v185 (F := Ideal) x0 x1 x2 x3 x4 i = refP x0 x1 x2 x4 r j1 * Ideal.cos (angOf 0x41000000#32 (rowPos x3 r) b) - refP x0 x1 x2 x4 r j2 * Ideal.sin (angOf 0x41000000#32 (rowPos x3 r) b) :=
  (val_main_v185_apply (F := Ideal) x0 x1 x2 x3 x4 i).trans (subE
    ((val_main_v183_apply (F := Ideal) x0 x1 x2 x3 x4 i).trans (mulE ((val_main_v181_apply (F := Ideal) x0 x1 x2 x4 i).trans (headJ x0 x1 x2 x4 _ r j1 a b h0 h1 ha hb h2)) ((cosJ x3 i r h0 h1).trans (congrArg (fun z => Ideal.cos (angOf 0x41000000#32 (rowPos x3 r) z)) hb))))
    ((val_main_v184_apply (F := Ideal) x0 x1 x2 x3 x4 i).trans (mulE ((val_main_v182_apply (F := Ideal) x0 x1 x2 x4 i).trans (headJ x0 x1 x2 x4 _ r j2 a (8 + b) h0 h1 ha (congrArg (fun z : ℕ => 8 + z) hb) h3)) ((sinJ x3 i r h0 h1).trans (congrArg (fun z => Ideal.sin (angOf 0x41000000#32 (rowPos x3 r) z)) hb)))))

theorem secondJ (i : S2x4096x1x8.Idx) (r : Fin 8192) (j1 j2 : Fin 5712) (a b : ℕ) (h0 : (i 0).val = r.val / 4096) (h1 : (i 1).val = r.val % 4096)
    (ha : (i 2).val = a) (hb : (i 3).val = b) (h2 : 5632 + (a * 64 + b) = j1.val) (h3 : 5632 + (a * 64 + (8 + b)) = j2.val) :
    val_main_v188 (F := Ideal) x0 x1 x2 x3 x4 i = refP x0 x1 x2 x4 r j2 * Ideal.cos (angOf 0x41000000#32 (rowPos x3 r) b) + refP x0 x1 x2 x4 r j1 * Ideal.sin (angOf 0x41000000#32 (rowPos x3 r) b) :=
  (val_main_v188_apply (F := Ideal) x0 x1 x2 x3 x4 i).trans (addE
    ((val_main_v186_apply (F := Ideal) x0 x1 x2 x3 x4 i).trans (mulE ((val_main_v182_apply (F := Ideal) x0 x1 x2 x4 i).trans (headJ x0 x1 x2 x4 _ r j2 a (8 + b) h0 h1 ha (congrArg (fun z : ℕ => 8 + z) hb) h3)) ((cosJ x3 i r h0 h1).trans (congrArg (fun z => Ideal.cos (angOf 0x41000000#32 (rowPos x3 r) z)) hb))))
    ((val_main_v187_apply (F := Ideal) x0 x1 x2 x3 x4 i).trans (mulE ((val_main_v181_apply (F := Ideal) x0 x1 x2 x4 i).trans (headJ x0 x1 x2 x4 _ r j1 a b h0 h1 ha hb h2)) ((sinJ x3 i r h0 h1).trans (congrArg (fun z => Ideal.sin (angOf 0x41000000#32 (rowPos x3 r) z)) hb)))))

/-- A lane of the indexer's keys. -/
theorem ropeJ (i : S2x4096x1x64.Idx) (r : Fin 8192) (l : Fin 128) (p : Fin 128 → EReal) (o : ℕ) (ho : o + 128 ≤ 128) (h0 : (i 0).val = r.val / 4096) (h1 : (i 1).val = r.val % 4096)
    (h3 : (i 3).val = l.val % 64) (hp : ∀ (z : Fin 128) (j : Fin 5712), 5632 + ((i 2).val * 64 + z.val % 64) = j.val → z.val / 64 = l.val / 64 → p z = refP x0 x1 x2 x4 r j) :
    val_main_v190 (F := Ideal) x0 x1 x2 x3 x4 i = ropeLane 64 8 (angOf 0x41000000#32 (rowPos x3 r)) p l := by
  have b2 : (i 2).val < 1 := (i 2).isLt
  have hll := l.isLt
  unfold val_main_v190 ropeLane
  by_cases c1 : l.val % 64 < 8
  · rw [if_pos c1]
    refine (concatenate_apply_piece (t := S2x4096x1x64) 3 _ _ i 0 (by show 0 < 3; omega) S2x4096x1x8 _ rfl rfl 0 (by rfl)
      (ix4 (batOf r) (posOf r) (⟨(i 2).val, (i 2).isLt⟩ : Fin 1) (⟨(i 3).val, by omega⟩ : Fin 8)) ?_ ?_).trans ?_
    · intro b hb
      match b with
      | ⟨0, _⟩ => exact h0.symm
      | ⟨1, _⟩ => exact h1.symm
      | ⟨2, _⟩ => rfl
      | ⟨3, _⟩ => exact absurd rfl hb
    · show 0 + ((i 3).val) = (i 3).val
      omega
    · refine (firstJ x0 x1 x2 x3 x4 _ r ⟨5632 + ((i 2).val * 64 + (i 3).val), by omega⟩ ⟨5632 + ((i 2).val * 64 + (8 + (i 3).val)), by omega⟩ (i 2).val (i 3).val rfl rfl rfl rfl rfl rfl).trans ?_
      rw [hp l ⟨5632 + ((i 2).val * 64 + (i 3).val), by omega⟩ (by show 5632 + ((i 2).val * 64 + l.val % 64) = 5632 + ((i 2).val * 64 + (i 3).val); omega) rfl,
        hp ⟨(l.val + 8) % 128, Nat.mod_lt _ (by omega)⟩ ⟨5632 + ((i 2).val * 64 + (8 + (i 3).val)), by omega⟩
          (by show 5632 + ((i 2).val * 64 + (l.val + 8) % 128 % 64) = 5632 + ((i 2).val * 64 + (8 + (i 3).val)); omega) (by show (l.val + 8) % 128 / 64 = l.val / 64; omega),
        show l.val % 8 = (i 3).val by omega]
  · rw [if_neg c1]
    by_cases c2 : l.val % 64 < 2 * 8
    · rw [if_pos c2]
      refine (concatenate_apply_piece (t := S2x4096x1x64) 3 _ _ i 1 (by show 1 < 3; omega) S2x4096x1x8 _ rfl rfl 8 (by rfl)
        (ix4 (batOf r) (posOf r) (⟨(i 2).val, (i 2).isLt⟩ : Fin 1) (⟨(i 3).val - 8, by omega⟩ : Fin 8)) ?_ ?_).trans ?_
      · intro b hb
        match b with
        | ⟨0, _⟩ => exact h0.symm
        | ⟨1, _⟩ => exact h1.symm
        | ⟨2, _⟩ => rfl
        | ⟨3, _⟩ => exact absurd rfl hb
      · show 8 + ((i 3).val - 8) = (i 3).val
        omega
      · refine (secondJ x0 x1 x2 x3 x4 _ r ⟨5632 + ((i 2).val * 64 + ((i 3).val - 8)), by omega⟩ ⟨5632 + ((i 2).val * 64 + (8 + ((i 3).val - 8))), by omega⟩ (i 2).val ((i 3).val - 8) rfl rfl rfl rfl rfl rfl).trans ?_
        rw [hp l ⟨5632 + ((i 2).val * 64 + (8 + ((i 3).val - 8))), by omega⟩ (by show 5632 + ((i 2).val * 64 + l.val % 64) = 5632 + ((i 2).val * 64 + (8 + ((i 3).val - 8))); omega) rfl,
          hp ⟨(l.val + 128 - 8) % 128, Nat.mod_lt _ (by omega)⟩ ⟨5632 + ((i 2).val * 64 + ((i 3).val - 8)), by omega⟩
            (by show 5632 + ((i 2).val * 64 + (l.val + 128 - 8) % 128 % 64) = 5632 + ((i 2).val * 64 + ((i 3).val - 8)); omega) (by show (l.val + 128 - 8) % 128 / 64 = l.val / 64; omega),
          show l.val % 8 = (i 3).val - 8 by omega]
    · rw [if_neg c2]
      refine (concatenate_apply_piece (t := S2x4096x1x64) 3 _ _ i 2 (by show 2 < 3; omega) S2x4096x1x48 _ rfl rfl 16 (by rfl)
        (ix4 (batOf r) (posOf r) (⟨(i 2).val, (i 2).isLt⟩ : Fin 1) (⟨(i 3).val - 16, by omega⟩ : Fin 48)) ?_ ?_).trans ?_
      · intro b hb
        match b with
        | ⟨0, _⟩ => exact h0.symm
        | ⟨1, _⟩ => exact h1.symm
        | ⟨2, _⟩ => rfl
        | ⟨3, _⟩ => exact absurd rfl hb
      · show 16 + ((i 3).val - 16) = (i 3).val
        omega
      · refine (val_main_v189_apply (F := Ideal) x0 x1 x2 x4 _).trans ?_
        refine Eq.trans (headJ x0 x1 x2 x4 _ r ⟨5632 + ((i 2).val * 64 + (16 + ((i 3).val - 16))), by omega⟩ (i 2).val (16 + ((i 3).val - 16)) ?_ ?_ ?_ ?_ rfl) ?_
        · rfl
        · rfl
        · rfl
        · rfl
        exact (hp l _ (by show 5632 + ((i 2).val * 64 + l.val % 64) = 5632 + ((i 2).val * 64 + (16 + ((i 3).val - 16))); omega) rfl).symm

theorem refQ (r : Fin 8192) (c : Fin 1024) : val_main_v197 (F := Ideal) x0 x1 x2 x3 x4 (ix2 r c) = qOut x3 (refP x0 x1 x2 x4) r c := by
  have hr := r.isLt
  have hc := c.isLt
  refine (val_main_v197_apply (F := Ideal) x0 x1 x2 x3 x4 (ix2 r c)).trans ((val_main_v196_apply (F := Ideal) x0 x1 x2 x3 x4 (ix2 r c)).trans ?_)
  have h0 : (idx_main_v196 (ix2 r c) 0).val = r.val / 4096 := by show (r.val * 1024 + c.val) / 4194304 = r.val / 4096; omega
  have h1 : (idx_main_v196 (ix2 r c) 1).val = r.val % 4096 := by show (r.val * 1024 + c.val) / 1024 % 4096 = r.val % 4096; omega
  have h2 : (idx_main_v196 (ix2 r c) 2).val = c.val / 128 := by show (r.val * 1024 + c.val) / 128 % 8 = c.val / 128; omega
  have h3 : (idx_main_v196 (ix2 r c) 3).val = c.val % 128 := by show (r.val * 1024 + c.val) % 128 = c.val % 128; omega
  generalize idx_main_v196 (ix2 r c) = i at h0 h1 h2 h3 ⊢
  refine (val_main_v95_apply (F := Ideal) x0 x1 x2 x3 x4 i).trans ?_
  unfold qOut
  refine mulE ?_ ((val_main_v94_apply (F := Ideal) i).trans (val_main_cst_9_apply (F := Ideal) _))
  exact ropeQ x0 x1 x2 x3 x4 i r ⟨c.val % 128, by omega⟩ _ 0 (by omega) h0 h1 (by show (i 3).val = c.val % 128 % 128; omega) fun z j hj hz => congrArg (refP x0 x1 x2 x4 r) (Fin.ext (by
    have hz' : z.val / 128 = c.val % 128 / 128 := hz
    show 3072 + (c.val / 128 * 128 + z.val) = j.val
    omega))

theorem refK (r : Fin 8192) (c : Fin 256) : val_main_v199 (F := Ideal) x0 x1 x2 x3 x4 (ix2 r c) = kOut x3 (refP x0 x1 x2 x4) r c := by
  have hr := r.isLt
  have hc := c.isLt
  refine (val_main_v199_apply (F := Ideal) x0 x1 x2 x3 x4 (ix2 r c)).trans ((val_main_v198_apply (F := Ideal) x0 x1 x2 x3 x4 (ix2 r c)).trans ?_)
  have h0 : (idx_main_v198 (ix2 r c) 0).val = r.val / 4096 := by show (r.val * 256 + c.val) / 1048576 = r.val / 4096; omega
  have h1 : (idx_main_v198 (ix2 r c) 1).val = r.val % 4096 := by show (r.val * 256 + c.val) / 256 % 4096 = r.val % 4096; omega
  have h2 : (idx_main_v198 (ix2 r c) 2).val = c.val / 128 := by show (r.val * 256 + c.val) / 128 % 2 = c.val / 128; omega
  have h3 : (idx_main_v198 (ix2 r c) 3).val = c.val % 128 := by show (r.val * 256 + c.val) % 128 = c.val % 128; omega
  generalize idx_main_v198 (ix2 r c) = i at h0 h1 h2 h3 ⊢
  unfold kOut
  exact ropeK x0 x1 x2 x3 x4 i r ⟨c.val % 128, by omega⟩ _ 0 (by omega) h0 h1 (by show (i 3).val = c.val % 128 % 128; omega) fun z j hj hz => congrArg (refP x0 x1 x2 x4 r) (Fin.ext (by
    have hz' : z.val / 128 = c.val % 128 / 128 := hz
    show 4096 + (c.val / 128 * 128 + z.val) = j.val
    omega))

theorem refQi (r : Fin 8192) (c : Fin 1024) : val_main_v204 (F := Ideal) x0 x1 x2 x3 x4 (ix2 r c) = qiOut x3 (refP x0 x1 x2 x4) r c := by
  have hr := r.isLt
  have hc := c.isLt
  refine (val_main_v204_apply (F := Ideal) x0 x1 x2 x3 x4 (ix2 r c)).trans ((val_main_v203_apply (F := Ideal) x0 x1 x2 x3 x4 (ix2 r c)).trans ?_)
  have h0 : (idx_main_v203 (ix2 r c) 0).val = r.val / 4096 := by show (r.val * 1024 + c.val) / 4194304 = r.val / 4096; omega
  have h1 : (idx_main_v203 (ix2 r c) 1).val = r.val % 4096 := by show (r.val * 1024 + c.val) / 1024 % 4096 = r.val % 4096; omega
  have h2 : (idx_main_v203 (ix2 r c) 2).val = c.val / 64 := by show (r.val * 1024 + c.val) / 64 % 16 = c.val / 64; omega
  have h3 : (idx_main_v203 (ix2 r c) 3).val = c.val % 64 := by show (r.val * 1024 + c.val) % 64 = c.val % 64; omega
  generalize idx_main_v203 (ix2 r c) = i at h0 h1 h2 h3 ⊢
  unfold qiOut
  exact ropeI x0 x1 x2 x3 x4 i r ⟨c.val % 128, by omega⟩ _ 0 (by omega) h0 h1 (by show (i 3).val = c.val % 128 % 64; omega) fun z j hj hz => congrArg (refP x0 x1 x2 x4 r) (Fin.ext (by
    have hz' : z.val / 64 = c.val % 128 / 64 := hz
    show 4608 + (c.val / 128 * 128 + z.val) = j.val
    omega))

theorem refKi (r : Fin 8192) (c : Fin 128) : val_main_v207 (F := Ideal) x0 x1 x2 x3 x4 (ix2 r c) = kiOut x3 (refP x0 x1 x2 x4) r c := by
  have hr := r.isLt
  have hc := c.isLt
  refine (val_main_v207_apply (F := Ideal) x0 x1 x2 x3 x4 (ix2 r c)).trans ((val_main_v206_apply (F := Ideal) x0 x1 x2 x3 x4 (ix2 r c)).trans ?_)
  have h0 : (idx_main_v206 (ix2 r c) 0).val = r.val / 4096 := by show (r.val * 128 + c.val) / 524288 = r.val / 4096; omega
  have h1 : (idx_main_v206 (ix2 r c) 1).val = r.val % 4096 := by show (r.val * 128 + c.val) / 128 % 4096 = r.val % 4096; omega
  have h3 : (idx_main_v206 (ix2 r c) 3).val = c.val := by show (r.val * 128 + c.val) % 128 = c.val; omega
  generalize idx_main_v206 (ix2 r c) = i at h0 h1 h3 ⊢
  unfold val_main_v205 kiOut
  have b2 : (i 2).val < 1 := (i 2).isLt
  by_cases h : c.val < 64
  · refine (concatenate_apply_piece (t := S2x4096x1x128) 3 _ _ i 0 (by show 0 < 2; omega) S2x4096x1x64 _ rfl rfl 0 (by rfl)
      (ix4 (batOf r) (posOf r) (0 : Fin 1) (⟨c.val - 0, by omega⟩ : Fin 64)) ?_ ?_).trans ?_
    · intro b hb
      match b with
      | ⟨0, _⟩ => exact h0.symm
      | ⟨1, _⟩ => exact h1.symm
      | ⟨2, _⟩ => show 0 = (i 2).val; omega
      | ⟨3, _⟩ => exact absurd rfl hb
    · show 0 + (c.val - 0) = (i 3).val
      omega
    · exact ropeJ x0 x1 x2 x3 x4 _ r c _ 0 (by omega) rfl rfl (by show c.val - 0 = c.val % 64; omega) fun z j hj hz => congrArg (refP x0 x1 x2 x4 r) (Fin.ext (by
        have hj' : 5632 + (0 * 64 + z.val % 64) = j.val := hj
        show 5632 + z.val % 64 = j.val
        omega))
  · refine (concatenate_apply_piece (t := S2x4096x1x128) 3 _ _ i 1 (by show 1 < 2; omega) S2x4096x1x64 _ rfl rfl 64 (by rfl)
      (ix4 (batOf r) (posOf r) (0 : Fin 1) (⟨c.val - 64, by omega⟩ : Fin 64)) ?_ ?_).trans ?_
    · intro b hb
      match b with
      | ⟨0, _⟩ => exact h0.symm
      | ⟨1, _⟩ => exact h1.symm
      | ⟨2, _⟩ => show 0 = (i 2).val; omega
      | ⟨3, _⟩ => exact absurd rfl hb
    · show 64 + (c.val - 64) = (i 3).val
      omega
    · exact ropeJ x0 x1 x2 x3 x4 _ r c _ 0 (by omega) rfl rfl (by show c.val - 64 = c.val % 64; omega) fun z j hj hz => congrArg (refP x0 x1 x2 x4 r) (Fin.ext (by
        have hj' : 5632 + (0 * 64 + z.val % 64) = j.val := hj
        show 5632 + z.val % 64 = j.val
        omega))

end Cert.Reference2Ideal.InProj

end
-- ==== Proof.InProj.Claims.lean ====
/- The input projection's claims: the frames, and the two programs' seven results as one array each. -/
module

public import proofs.«01_k».proof.Defs
public import proofs.«01_k».proof.Proof.Gen.Kernel2
public import proofs.«01_k».proof.Proof.Gen.Kernel2.Frame
public import proofs.«01_k».proof.Proof.Gen.Reference2Ideal
public import proofs.«01_k».proof.Proof.Gen.Reference2Ideal.Run
public import proofs.«01_k».proof.Proof.InProj.Whole
public import proofs.«01_k».proof.Proof.InProj.Ref
public import Idealize.ShloMosaic.Lib.Quiescent
public import Idealize.ShloMosaic.Adequacy
public import Idealize.ShloMosaic.Init

@[expose] public section

set_option maxRecDepth 16384

noncomputable section

namespace Cert.Proof.InProj

open Idealize.ShloMosaic Idealize.ShloMosaic.TcCoe Idealize.SL.Sem Idealize.ShloMosaic.StableHlo Cert.Kernel2Ideal.InProj

theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem frame_reference2Ideal : Cert.quiescent_Reference2Ideal := fun m ρ _ =>
  (θ_run Cert.Reference2Ideal.defs _ _).mono (fun r h => ⟨fun c => (h c).2.2.2.2.2.2.2, sem_eq_zero_of_no_sems rfl r.2⟩)
    (Cert.Reference2Ideal.Value.run m ρ)

section Same

variable (m : (ℓ : Loc Cert.Kernel2Ideal.nD Cert.Kernel2Ideal.τ Cert.Kernel2Ideal.sig) → Buf (Elt Ideal) ℓ) (c : Dev Cert.Kernel2Ideal.nD)

theorem sameY : Cert.Reference2Ideal.Read.val_main_v195 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))
      = (Cert.Kernel2Ideal.Gen.dats m 0 c).arrAt 10 Cert.Kernel2Ideal.cfg0.N := by
  rw [wholeY m c]
  funext i
  exact (congrArg _ (Cert.Reference2Ideal.InProj.idx2 i (i 0) (i 1) rfl rfl)).trans
    (Cert.Reference2Ideal.InProj.refY (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (i 0) (i 1))

theorem sameQ : Cert.Reference2Ideal.Read.val_main_v197 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
      = (Cert.Kernel2Ideal.Gen.dats m 0 c).arrAt 11 Cert.Kernel2Ideal.cfg0.N := by
  rw [wholeQ m c]
  funext i
  exact (congrArg _ (Cert.Reference2Ideal.InProj.idx2 i (i 0) (i 1) rfl rfl)).trans
    (Cert.Reference2Ideal.InProj.refQ (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (i 0) (i 1))

theorem sameK : Cert.Reference2Ideal.Read.val_main_v199 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
      = (Cert.Kernel2Ideal.Gen.dats m 0 c).arrAt 12 Cert.Kernel2Ideal.cfg0.N := by
  rw [wholeK m c]
  funext i
  exact (congrArg _ (Cert.Reference2Ideal.InProj.idx2 i (i 0) (i 1) rfl rfl)).trans
    (Cert.Reference2Ideal.InProj.refK (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (i 0) (i 1))

theorem sameV : Cert.Reference2Ideal.Read.val_main_v202 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg4))
      = (Cert.Kernel2Ideal.Gen.dats m 0 c).arrAt 13 Cert.Kernel2Ideal.cfg0.N := by
  rw [wholeV m c]
  funext i
  exact (congrArg _ (Cert.Reference2Ideal.InProj.idx2 i (i 0) (i 1) rfl rfl)).trans
    (Cert.Reference2Ideal.InProj.refV (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg4)) (i 0) (i 1))

theorem sameQi : Cert.Reference2Ideal.Read.val_main_v204 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
      = (Cert.Kernel2Ideal.Gen.dats m 0 c).arrAt 14 Cert.Kernel2Ideal.cfg0.N := by
  rw [wholeQi m c]
  funext i
  exact (congrArg _ (Cert.Reference2Ideal.InProj.idx2 i (i 0) (i 1) rfl rfl)).trans
    (Cert.Reference2Ideal.InProj.refQi (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (i 0) (i 1))

theorem sameKi : Cert.Reference2Ideal.Read.val_main_v207 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))
      = (Cert.Kernel2Ideal.Gen.dats m 0 c).arrAt 15 Cert.Kernel2Ideal.cfg0.N := by
  rw [wholeKi m c]
  funext i
  exact (congrArg _ (Cert.Reference2Ideal.InProj.idx2 i (i 0) (i 1) rfl rfl)).trans
    (Cert.Reference2Ideal.InProj.refKi (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (i 0) (i 1))

theorem sameWi : Cert.Reference2Ideal.Read.val_main_v208 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg4))
      = (Cert.Kernel2Ideal.Gen.dats m 0 c).arrAt 16 Cert.Kernel2Ideal.cfg0.N := by
  rw [wholeWi m c]
  funext i
  exact (congrArg _ (Cert.Reference2Ideal.InProj.idx2 i (i 0) (i 1) rfl rfl)).trans
    (Cert.Reference2Ideal.InProj.refWi (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg4)) (i 0) (i 1))

theorem atY (x0 : Cert.Reference2Ideal.S2x4096x2048.Idx → EReal) (x1 : Cert.Reference2Ideal.S2x6x2048.Idx → EReal) (x2 : Cert.Reference2Ideal.S2048.Idx → EReal) (x4 : Cert.Reference2Ideal.S2048x5712.Idx → EReal) (x5 : Cert.Reference2Ideal.S3x1x1024.Idx → EReal) (x6 : Cert.Reference2Ideal.S1024.Idx → EReal) (e0 : x0 = m ((c.tc : Thread Cert.Kernel2Ideal.nD Cert.Kernel2Ideal.τ).loc Cert.Kernel2Ideal.main_arg0)) (e1 : x1 = m ((c.tc : Thread Cert.Kernel2Ideal.nD Cert.Kernel2Ideal.τ).loc Cert.Kernel2Ideal.main_arg1)) (e2 : x2 = m ((c.tc : Thread Cert.Kernel2Ideal.nD Cert.Kernel2Ideal.τ).loc Cert.Kernel2Ideal.main_arg2)) (e4 : x4 = m ((c.tc : Thread Cert.Kernel2Ideal.nD Cert.Kernel2Ideal.τ).loc Cert.Kernel2Ideal.main_arg4)) (e5 : x5 = m ((c.tc : Thread Cert.Kernel2Ideal.nD Cert.Kernel2Ideal.τ).loc Cert.Kernel2Ideal.main_arg5)) (e6 : x6 = m ((c.tc : Thread Cert.Kernel2Ideal.nD Cert.Kernel2Ideal.τ).loc Cert.Kernel2Ideal.main_arg6)) :
    Cert.Reference2Ideal.Read.val_main_v195 (F := Ideal) x0 x1 x2 x4 x5 x6 = (Cert.Kernel2Ideal.Gen.dats m 0 c).arrAt 10 Cert.Kernel2Ideal.cfg0.N := by
  subst e0 e1 e2 e4 e5 e6
  exact sameY m c

theorem atQ (x0 : Cert.Reference2Ideal.S2x4096x2048.Idx → EReal) (x1 : Cert.Reference2Ideal.S2x6x2048.Idx → EReal) (x2 : Cert.Reference2Ideal.S2048.Idx → EReal) (x3 : Cert.Reference2Ideal.S2x4096.Idx → BitVec 32) (x4 : Cert.Reference2Ideal.S2048x5712.Idx → EReal) (e0 : x0 = m ((c.tc : Thread Cert.Kernel2Ideal.nD Cert.Kernel2Ideal.τ).loc Cert.Kernel2Ideal.main_arg0)) (e1 : x1 = m ((c.tc : Thread Cert.Kernel2Ideal.nD Cert.Kernel2Ideal.τ).loc Cert.Kernel2Ideal.main_arg1)) (e2 : x2 = m ((c.tc : Thread Cert.Kernel2Ideal.nD Cert.Kernel2Ideal.τ).loc Cert.Kernel2Ideal.main_arg2)) (e3 : x3 = m ((c.tc : Thread Cert.Kernel2Ideal.nD Cert.Kernel2Ideal.τ).loc Cert.Kernel2Ideal.main_arg3)) (e4 : x4 = m ((c.tc : Thread Cert.Kernel2Ideal.nD Cert.Kernel2Ideal.τ).loc Cert.Kernel2Ideal.main_arg4)) :
    Cert.Reference2Ideal.Read.val_main_v197 (F := Ideal) x0 x1 x2 x3 x4 = (Cert.Kernel2Ideal.Gen.dats m 0 c).arrAt 11 Cert.Kernel2Ideal.cfg0.N := by
  subst e0 e1 e2 e3 e4
  exact sameQ m c

theorem atK (x0 : Cert.Reference2Ideal.S2x4096x2048.Idx → EReal) (x1 : Cert.Reference2Ideal.S2x6x2048.Idx → EReal) (x2 : Cert.Reference2Ideal.S2048.Idx → EReal) (x3 : Cert.Reference2Ideal.S2x4096.Idx → BitVec 32) (x4 : Cert.Reference2Ideal.S2048x5712.Idx → EReal) (e0 : x0 = m ((c.tc : Thread Cert.Kernel2Ideal.nD Cert.Kernel2Ideal.τ).loc Cert.Kernel2Ideal.main_arg0)) (e1 : x1 = m ((c.tc : Thread Cert.Kernel2Ideal.nD Cert.Kernel2Ideal.τ).loc Cert.Kernel2Ideal.main_arg1)) (e2 : x2 = m ((c.tc : Thread Cert.Kernel2Ideal.nD Cert.Kernel2Ideal.τ).loc Cert.Kernel2Ideal.main_arg2)) (e3 : x3 = m ((c.tc : Thread Cert.Kernel2Ideal.nD Cert.Kernel2Ideal.τ).loc Cert.Kernel2Ideal.main_arg3)) (e4 : x4 = m ((c.tc : Thread Cert.Kernel2Ideal.nD Cert.Kernel2Ideal.τ).loc Cert.Kernel2Ideal.main_arg4)) :
    Cert.Reference2Ideal.Read.val_main_v199 (F := Ideal) x0 x1 x2 x3 x4 = (Cert.Kernel2Ideal.Gen.dats m 0 c).arrAt 12 Cert.Kernel2Ideal.cfg0.N := by
  subst e0 e1 e2 e3 e4
  exact sameK m c

theorem atV (x0 : Cert.Reference2Ideal.S2x4096x2048.Idx → EReal) (x1 : Cert.Reference2Ideal.S2x6x2048.Idx → EReal) (x2 : Cert.Reference2Ideal.S2048.Idx → EReal) (x4 : Cert.Reference2Ideal.S2048x5712.Idx → EReal) (e0 : x0 = m ((c.tc : Thread Cert.Kernel2Ideal.nD Cert.Kernel2Ideal.τ).loc Cert.Kernel2Ideal.main_arg0)) (e1 : x1 = m ((c.tc : Thread Cert.Kernel2Ideal.nD Cert.Kernel2Ideal.τ).loc Cert.Kernel2Ideal.main_arg1)) (e2 : x2 = m ((c.tc : Thread Cert.Kernel2Ideal.nD Cert.Kernel2Ideal.τ).loc Cert.Kernel2Ideal.main_arg2)) (e4 : x4 = m ((c.tc : Thread Cert.Kernel2Ideal.nD Cert.Kernel2Ideal.τ).loc Cert.Kernel2Ideal.main_arg4)) :
    Cert.Reference2Ideal.Read.val_main_v202 (F := Ideal) x0 x1 x2 x4 = (Cert.Kernel2Ideal.Gen.dats m 0 c).arrAt 13 Cert.Kernel2Ideal.cfg0.N := by
  subst e0 e1 e2 e4
  exact sameV m c

theorem atQi (x0 : Cert.Reference2Ideal.S2x4096x2048.Idx → EReal) (x1 : Cert.Reference2Ideal.S2x6x2048.Idx → EReal) (x2 : Cert.Reference2Ideal.S2048.Idx → EReal) (x3 : Cert.Reference2Ideal.S2x4096.Idx → BitVec 32) (x4 : Cert.Reference2Ideal.S2048x5712.Idx → EReal) (e0 : x0 = m ((c.tc : Thread Cert.Kernel2Ideal.nD Cert.Kernel2Ideal.τ).loc Cert.Kernel2Ideal.main_arg0)) (e1 : x1 = m ((c.tc : Thread Cert.Kernel2Ideal.nD Cert.Kernel2Ideal.τ).loc Cert.Kernel2Ideal.main_arg1)) (e2 : x2 = m ((c.tc : Thread Cert.Kernel2Ideal.nD Cert.Kernel2Ideal.τ).loc Cert.Kernel2Ideal.main_arg2)) (e3 : x3 = m ((c.tc : Thread Cert.Kernel2Ideal.nD Cert.Kernel2Ideal.τ).loc Cert.Kernel2Ideal.main_arg3)) (e4 : x4 = m ((c.tc : Thread Cert.Kernel2Ideal.nD Cert.Kernel2Ideal.τ).loc Cert.Kernel2Ideal.main_arg4)) :
    Cert.Reference2Ideal.Read.val_main_v204 (F := Ideal) x0 x1 x2 x3 x4 = (Cert.Kernel2Ideal.Gen.dats m 0 c).arrAt 14 Cert.Kernel2Ideal.cfg0.N := by
  subst e0 e1 e2 e3 e4
  exact sameQi m c

theorem atKi (x0 : Cert.Reference2Ideal.S2x4096x2048.Idx → EReal) (x1 : Cert.Reference2Ideal.S2x6x2048.Idx → EReal) (x2 : Cert.Reference2Ideal.S2048.Idx → EReal) (x3 : Cert.Reference2Ideal.S2x4096.Idx → BitVec 32) (x4 : Cert.Reference2Ideal.S2048x5712.Idx → EReal) (e0 : x0 = m ((c.tc : Thread Cert.Kernel2Ideal.nD Cert.Kernel2Ideal.τ).loc Cert.Kernel2Ideal.main_arg0)) (e1 : x1 = m ((c.tc : Thread Cert.Kernel2Ideal.nD Cert.Kernel2Ideal.τ).loc Cert.Kernel2Ideal.main_arg1)) (e2 : x2 = m ((c.tc : Thread Cert.Kernel2Ideal.nD Cert.Kernel2Ideal.τ).loc Cert.Kernel2Ideal.main_arg2)) (e3 : x3 = m ((c.tc : Thread Cert.Kernel2Ideal.nD Cert.Kernel2Ideal.τ).loc Cert.Kernel2Ideal.main_arg3)) (e4 : x4 = m ((c.tc : Thread Cert.Kernel2Ideal.nD Cert.Kernel2Ideal.τ).loc Cert.Kernel2Ideal.main_arg4)) :
    Cert.Reference2Ideal.Read.val_main_v207 (F := Ideal) x0 x1 x2 x3 x4 = (Cert.Kernel2Ideal.Gen.dats m 0 c).arrAt 15 Cert.Kernel2Ideal.cfg0.N := by
  subst e0 e1 e2 e3 e4
  exact sameKi m c

theorem atWi (x0 : Cert.Reference2Ideal.S2x4096x2048.Idx → EReal) (x1 : Cert.Reference2Ideal.S2x6x2048.Idx → EReal) (x2 : Cert.Reference2Ideal.S2048.Idx → EReal) (x4 : Cert.Reference2Ideal.S2048x5712.Idx → EReal) (e0 : x0 = m ((c.tc : Thread Cert.Kernel2Ideal.nD Cert.Kernel2Ideal.τ).loc Cert.Kernel2Ideal.main_arg0)) (e1 : x1 = m ((c.tc : Thread Cert.Kernel2Ideal.nD Cert.Kernel2Ideal.τ).loc Cert.Kernel2Ideal.main_arg1)) (e2 : x2 = m ((c.tc : Thread Cert.Kernel2Ideal.nD Cert.Kernel2Ideal.τ).loc Cert.Kernel2Ideal.main_arg2)) (e4 : x4 = m ((c.tc : Thread Cert.Kernel2Ideal.nD Cert.Kernel2Ideal.τ).loc Cert.Kernel2Ideal.main_arg4)) :
    Cert.Reference2Ideal.Read.val_main_v208 (F := Ideal) x0 x1 x2 x4 = (Cert.Kernel2Ideal.Gen.dats m 0 c).arrAt 16 Cert.Kernel2Ideal.cfg0.N := by
  subst e0 e1 e2 e4
  exact sameWi m c

end Same

theorem algebraic2 : Cert.algebraic_Kernel2Ideal_Reference2Ideal := fun m g m' g' _ hagree => by
  refine ⟨fun c => (Cert.Kernel2Ideal.Gen.dats m 0 c).arrAt 10 Cert.Kernel2Ideal.cfg0.N, fun c => (Cert.Kernel2Ideal.Gen.dats m 0 c).arrAt 11 Cert.Kernel2Ideal.cfg0.N, fun c => (Cert.Kernel2Ideal.Gen.dats m 0 c).arrAt 12 Cert.Kernel2Ideal.cfg0.N, fun c => (Cert.Kernel2Ideal.Gen.dats m 0 c).arrAt 13 Cert.Kernel2Ideal.cfg0.N, fun c => (Cert.Kernel2Ideal.Gen.dats m 0 c).arrAt 14 Cert.Kernel2Ideal.cfg0.N, fun c => (Cert.Kernel2Ideal.Gen.dats m 0 c).arrAt 15 Cert.Kernel2Ideal.cfg0.N, fun c => (Cert.Kernel2Ideal.Gen.dats m 0 c).arrAt 16 Cert.Kernel2Ideal.cfg0.N, ?_, ?_⟩
  · refine (θ_run Cert.Kernel2Ideal.defs _ _).mono (fun r h c => ?_) (θ_run_and (Cert.Kernel2Ideal.Gen.unchanged m g) (Cert.Kernel2Ideal.Gen.run_main m g))
    exact ⟨(h.2 c).1 10, (h.2 c).1 11, (h.2 c).1 12, (h.2 c).1 13, (h.2 c).1 14, (h.2 c).1 15, (h.2 c).1 16, h.1 c⟩
  · refine (θ_run Cert.Reference2Ideal.defs _ _).mono (fun r h c => ?_) (Cert.Reference2Ideal.Value.run m' g')
    obtain ⟨h0, h1, h2, h3, h4, h5, h6⟩ := hagree c
    have e0 : launchContents m' c (Proc.devRef .tc Cert.Reference2Ideal.main_arg0) = m ((c.tc : Thread Cert.Kernel2Ideal.nD Cert.Kernel2Ideal.τ).loc Cert.Kernel2Ideal.main_arg0) := h0
    have e1 : launchContents m' c (Proc.devRef .tc Cert.Reference2Ideal.main_arg1) = m ((c.tc : Thread Cert.Kernel2Ideal.nD Cert.Kernel2Ideal.τ).loc Cert.Kernel2Ideal.main_arg1) := h1
    have e2 : launchContents m' c (Proc.devRef .tc Cert.Reference2Ideal.main_arg2) = m ((c.tc : Thread Cert.Kernel2Ideal.nD Cert.Kernel2Ideal.τ).loc Cert.Kernel2Ideal.main_arg2) := h2
    have e3 : launchContents m' c (Proc.devRef .tc Cert.Reference2Ideal.main_arg3) = m ((c.tc : Thread Cert.Kernel2Ideal.nD Cert.Kernel2Ideal.τ).loc Cert.Kernel2Ideal.main_arg3) := h3
    have e4 : launchContents m' c (Proc.devRef .tc Cert.Reference2Ideal.main_arg4) = m ((c.tc : Thread Cert.Kernel2Ideal.nD Cert.Kernel2Ideal.τ).loc Cert.Kernel2Ideal.main_arg4) := h4
    have e5 : launchContents m' c (Proc.devRef .tc Cert.Reference2Ideal.main_arg5) = m ((c.tc : Thread Cert.Kernel2Ideal.nD Cert.Kernel2Ideal.τ).loc Cert.Kernel2Ideal.main_arg5) := h5
    have e6 : launchContents m' c (Proc.devRef .tc Cert.Reference2Ideal.main_arg6) = m ((c.tc : Thread Cert.Kernel2Ideal.nD Cert.Kernel2Ideal.τ).loc Cert.Kernel2Ideal.main_arg6) := h6
    obtain ⟨r0, r1, r2, r3, r4, r5, r6, hrest⟩ := h c
    refine ⟨r0.trans ((Cert.Reference2Ideal.Read.val_main_v195_eq (F := Ideal) (launchContents m' c)).trans ?_), r1.trans ((Cert.Reference2Ideal.Read.val_main_v197_eq (F := Ideal) (launchContents m' c)).trans ?_), r2.trans ((Cert.Reference2Ideal.Read.val_main_v199_eq (F := Ideal) (launchContents m' c)).trans ?_), r3.trans ((Cert.Reference2Ideal.Read.val_main_v202_eq (F := Ideal) (launchContents m' c)).trans ?_), r4.trans ((Cert.Reference2Ideal.Read.val_main_v204_eq (F := Ideal) (launchContents m' c)).trans ?_), r5.trans ((Cert.Reference2Ideal.Read.val_main_v207_eq (F := Ideal) (launchContents m' c)).trans ?_), r6.trans ((Cert.Reference2Ideal.Read.val_main_v208_eq (F := Ideal) (launchContents m' c)).trans ?_), hrest⟩
    · exact atY m c _ _ _ _ _ _ e0 e1 e2 e4 e5 e6
    · exact atQ m c _ _ _ _ _ e0 e1 e2 e3 e4
    · exact atK m c _ _ _ _ _ e0 e1 e2 e3 e4
    · exact atV m c _ _ _ _ e0 e1 e2 e4
    · exact atQi m c _ _ _ _ _ e0 e1 e2 e3 e4
    · exact atKi m c _ _ _ _ _ e0 e1 e2 e3 e4
    · exact atWi m c _ _ _ _ e0 e1 e2 e4

end Cert.Proof.InProj

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_tables_ok
public import proofs.«01_k».proof.Proof.Gen.ReferenceIdeal.Run
public import proofs.«01_k».proof.Proof.Experts.Pre
public import proofs.«01_k».proof.Proof.Experts.Launch
public import proofs.«01_k».proof.Proof.Experts.Value
public import proofs.«01_k».proof.Proof.Experts.Ref
public import proofs.«01_k».proof.Proof.InProj.Claims
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem Cert.KernelIdeal.Experts

section Kernel

open Cert.KernelIdeal Cert.KernelIdeal.Gen

variable {F : FTy → Type} [FloatOps F]
variable (m : (ℓ : Loc nD τ sig) → Buf (Elt F) ℓ)

/-- The prefetched tables as the launch finds them. -/
def tables : pre0.Contents (Elt F) := fun j => m (((0 : Dev nD) : Thread nD τ).loc (pre0.ref j))

theorem tables_at (c : Dev nD) (j : Fin 4) : m ((c : Thread nD τ).loc (pre0.ref j)) = tables m j := by
  have h : c = 0 := Subsingleton.elim _ _
  subst h
  rfl

/-- The precondition at the tables. -/
theorem tables_good (h : ∀ c : Dev nD, Cert.Pre_tables_ok.fn (F := F) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) = fun _ => 1#1) : PfOk (tables m) :=
  tabOk_of_pre _ _ _ _ _ _ _ _ _ (h 0)

end Kernel

/-- The frame of the printed kernel, stated of the idealized print's text at the word floats. -/
def FrameBits : Prop :=
  ∀ (m : (ℓ : Loc Cert.KernelIdeal.nD Cert.KernelIdeal.τ Cert.KernelIdeal.sig) → Buf (Elt Bits) ℓ) (g : Dev Cert.KernelIdeal.nD → PrngReg),
    (∀ c : Dev Cert.KernelIdeal.nD,
      (Cert.Pre_tables_ok.fn (F := Bits) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = fun _ => 1#1) →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

theorem frameBits : FrameBits := fun m ρ hpre =>
  (θ_run Cert.KernelIdeal.defs _ _).mono (fun _ h => ⟨fun c => (h.1 c).2, h.2⟩)
    (run_final (F := Bits) (tables (F := Bits) m) (tables_good (F := Bits) m hpre) m ρ (tables_at (F := Bits) m))

/-- The printed kernel and its idealized print are one text. -/
theorem frame_same : FrameBits = Cert.quiescent_Kernel := by sl_kernel_rfl

theorem frame_kernel : Cert.quiescent_Kernel := frame_same.mp frameBits

theorem frame_kernelIdeal : Cert.quiescent_KernelIdeal := fun m ρ hpre =>
  (θ_run Cert.KernelIdeal.defs _ _).mono (fun _ h => ⟨fun c => (h.1 c).2, h.2⟩)
    (run_final (F := Ideal) (tables m) (tables_good m hpre) m ρ (tables_at m))

theorem frame_referenceIdeal : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

/-- Reading any index of a two-axis array by its coordinates. -/
theorem ext2 {n k : ℕ} {α : Type} (f g : (⟨2, ![n, k]⟩ : Shape).Idx → α) (h : ∀ a b, f (ix2 a b) = g (ix2 a b)) : f = g := by
  funext i
  have e : i = ix2 (i 0) (i 1) := by
    funext a
    match a with
    | ⟨0, _⟩ => rfl
    | ⟨1, _⟩ => rfl
  rw [e]
  exact h _ _

/-- The kernel's result and the reference's are one array. -/
theorem value_same (m : (ℓ : Loc Cert.KernelIdeal.nD Cert.KernelIdeal.τ Cert.KernelIdeal.sig) → Buf (Elt Ideal) ℓ) (g : Dev Cert.KernelIdeal.nD → PrngReg)
    (hpf : PfOk (tables (F := Ideal) m)) (c : Dev Cert.KernelIdeal.nD) :
    Cert.ReferenceIdeal.Experts.result (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
      = (dats (tables m) hpf m g 0 c).arrAt (5 : Fin 6) (cfgA (tables m) hpf).N := by
  have hc : c = 0 := Subsingleton.elim _ _
  subst hc
  rw [out_eq]
  refine ext2 _ _ fun a b => ?_
  exact Cert.ReferenceIdeal.Experts.result_apply (tabBe (tables m)) (tabNs (tables m)) (arrX m 0) (arrW1 m 0) (arrW2 m 0) (arrB1 m 0) (arrB2 m 0) hpf.be hpf.ns a b

theorem algebraic : Cert.algebraic_KernelIdeal_ReferenceIdeal := fun m g m' g' hpre hagree => by
  have hpf := tables_good (F := Ideal) m hpre
  refine ⟨fun c => (dats (tables m) hpf m g 0 c).arrAt (5 : Fin 6) (cfgA (tables m) hpf).N, ?_, ?_⟩
  · exact (θ_run Cert.KernelIdeal.defs _ _).mono (fun _ h c => h.1 c) (run_final (F := Ideal) (tables m) hpf m g (tables_at m))
  · refine (θ_run Cert.ReferenceIdeal.defs _ _).mono (fun r h c => ⟨(h c).1.trans ?_, (h c).2⟩) (Cert.ReferenceIdeal.Value.run m' g')
    obtain ⟨h0, h1, _, _, h4, h5, h6, h7, h8⟩ := hagree c
    rw [Cert.ReferenceIdeal.Experts.res_eq]
    refine Eq.trans ?_ (value_same m g hpf c)
    rw [h0, h1, h4, h5, h6, h7, h8]

theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Pre_tables_ok.Gen.facts,
  frame_kernel, frame_kernelIdeal, frame_referenceIdeal, InProj.frame_kernel2, InProj.frame_kernel2Ideal, InProj.frame_reference2Ideal,
  trivial, algebraic, trivial, InProj.algebraic2⟩

end Cert.Proof

end
